-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ preserves_Kernel_KernelIdeal
    ∧ algebraic_KernelIdeal_ReferenceIdeal (hKernelIdeal := hKernelIdeal) (hReferenceIdeal := hReferenceIdeal)
    ∧ preserves_Kernel2_Kernel2Ideal
-- ==== Kernel.lean ====
abbrev S32768x1024 : Shape := ⟨2, ![32768, 1024]⟩
abbrev S32768x512 : Shape := ⟨2, ![32768, 512]⟩
abbrev S32768x2048 : Shape := ⟨2, ![32768, 2048]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x512 : Shape := ⟨2, ![512, 512]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x2048, .bf16⟩
  | .hbm, ⟨4, _⟩ => ⟨S2x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S2x512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32768x1024 : Shape := ⟨2, ![32768, 1024]⟩
abbrev S32768x512 : Shape := ⟨2, ![32768, 512]⟩
abbrev S32768x2048 : Shape := ⟨2, ![32768, 2048]⟩
abbrev S2x1024 : Shape := ⟨2, ![2, 1024]⟩
abbrev S512x1024 : Shape := ⟨2, ![512, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x1024, .bf16⟩
  | .hbm, ⟨3, _⟩ => ⟨S32768x2048, .bf16⟩
  | .hbm, ⟨4, _⟩ => ⟨S2x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S32768x2048, .f32⟩
  | .hbm, ⟨12, _⟩ => ⟨S32768x1024, .f32⟩
  | .hbm, ⟨13, _⟩ => ⟨S32768x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x512, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S1024x4096, .f32⟩
  | .hbm, ⟨65, _⟩ => ⟨S32768x4096, .f32⟩
  | .hbm, ⟨66, _⟩ => ⟨S_, .f32⟩
  | .hbm, ⟨67, _⟩ => ⟨S32768x4096, .f32⟩
  | .hbm, ⟨68, _⟩ => ⟨S32768x4096, .f32⟩
  | .hbm, ⟨69, _⟩ => ⟨S32768x4096, .f32⟩
  | .hbm, ⟨70, _⟩ => ⟨S4096x1024, .f32⟩
  | .hbm, ⟨71, _⟩ => ⟨S32768x1024, .f32⟩
  | .hbm, ⟨72, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S8x512x4096 : Shape := ⟨3, ![8, 512, 4096]⟩
abbrev S8x4096x512 : Shape := ⟨3, ![8, 4096, 512]⟩
abbrev S8x640x4096 : Shape := ⟨3, ![8, 640, 4096]⟩
abbrev S8x16x512 : Shape := ⟨3, ![8, 16, 512]⟩
abbrev S32x8 : Shape := ⟨2, ![32, 8]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S32 : Shape := ⟨1, ![32]⟩
abbrev S_ : Shape := ⟨0, ![]⟩
abbrev S256x256x1 : Shape := ⟨3, ![256, 256, 1]⟩
abbrev S1x1x32 : Shape := ⟨3, ![1, 1, 32]⟩
abbrev S256x256x32 : Shape := ⟨3, ![256, 256, 32]⟩
abbrev S8x256x256 : Shape := ⟨3, ![8, 256, 256]⟩
abbrev S1x8 : Shape := ⟨2, ![1, 8]⟩
abbrev S8 : Shape := ⟨1, ![8]⟩
abbrev S1x512x1024 : Shape := ⟨3, ![1, 512, 1024]⟩
abbrev S1x4096x512 : Shape := ⟨3, ![1, 4096, 512]⟩
abbrev S1x640x4096 : Shape := ⟨3, ![1, 640, 4096]⟩
abbrev S1x16x512 : Shape := ⟨3, ![1, 16, 512]⟩
abbrev S1x1024x512 : Shape := ⟨3, ![1, 1024, 512]⟩
abbrev S8x16x256 : Shape := ⟨3, ![8, 16, 256]⟩
abbrev S2x8x256x256 : Shape := ⟨4, ![2, 8, 256, 256]⟩
abbrev S8x1x256 : Shape := ⟨3, ![8, 1, 256]⟩
abbrev S8x80x256 : Shape := ⟨3, ![8, 80, 256]⟩
abbrev S16x256 : Shape := ⟨2, ![16, 256]⟩
abbrev S1x256x256 : Shape := ⟨3, ![1, 256, 256]⟩
abbrev S1x16x256 : Shape := ⟨3, ![1, 16, 256]⟩
abbrev S192x256 : Shape := ⟨2, ![192, 256]⟩
abbrev S1 : Shape := ⟨1, ![1]⟩
abbrev S1x1x256x256 : Shape := ⟨4, ![1, 1, 256, 256]⟩
abbrev S1x1x256 : Shape := ⟨3, ![1, 1, 256]⟩
abbrev S1x80x256 : Shape := ⟨3, ![1, 80, 256]⟩
abbrev S80x256 : Shape := ⟨2, ![80, 256]⟩
abbrev S1x64x256 : Shape := ⟨3, ![1, 64, 256]⟩
abbrev S64x256 : Shape := ⟨2, ![64, 256]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 105
  | .vmem => 16
  | .smem => 1
  | _ => 0

abbrev bufTy : (tb : Table) → Fin (tcTables nBuf tb) → BufTy
  | .hbm, ⟨0, _⟩ => ⟨S8x512x4096, .bf16⟩
  | .hbm, ⟨1, _⟩ => ⟨S8x4096x512, .bf16⟩
  | .hbm, ⟨2, _⟩ => ⟨S8x640x4096, .bf16⟩
  | .hbm, ⟨3, _⟩ => ⟨S8x16x512, .f32⟩
  | .hbm, ⟨4, _⟩ => ⟨S32x8, .f32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S32, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S256x256, .i32⟩
  | .hbm, ⟨38, _⟩ => ⟨S256x256, .i32⟩
  | .hbm, ⟨39, _⟩ => ⟨S_, .i32⟩
  | .hbm, ⟨40, _⟩ => ⟨S256x256, .i32⟩
  | .hbm, ⟨41, _⟩ => ⟨S256x256, .i1⟩
  | .hbm, ⟨42, _⟩ => ⟨S256x256, .i32⟩
  | .hbm, ⟨43, _⟩ => ⟨S256x256x1, .i32⟩
  | .hbm, ⟨44, _⟩ => ⟨S1x1x32, .i32⟩
  | .hbm, ⟨45, _⟩ => ⟨S256x256x32, .i32⟩
  | .hbm, ⟨46, _⟩ => ⟨S256x256x32, .i32⟩
  | .hbm, ⟨47, _⟩ => ⟨S256x256x32, .i1⟩
  | .hbm, ⟨48, _⟩ => ⟨S256x256x32, .f32⟩
  | .hbm, ⟨49, _⟩ => ⟨S8x256x256, .f32⟩
  | .hbm, ⟨50, _⟩ => ⟨S_, .f32⟩
  | .hbm, ⟨51, _⟩ => ⟨S8x256x256, .f32⟩
  | .hbm, ⟨52, _⟩ => ⟨S8x256x256, .f32⟩
  | .hbm, ⟨53, _⟩ => ⟨S_, .f32⟩
  | .hbm, ⟨54, _⟩ => ⟨S_, .f32⟩
  | .hbm, ⟨55, _⟩ => ⟨S8x256x256, .i1⟩
  | .hbm, ⟨56, _⟩ => ⟨S8x256x256, .f32⟩
  | .hbm, ⟨57, _⟩ => ⟨S8x256x256, .f32⟩
  | .hbm, ⟨58, _⟩ => ⟨S_, .i32⟩
  | .hbm, ⟨59, _⟩ => ⟨S256x256, .i32⟩
  | .hbm, ⟨60, _⟩ => ⟨S256x256, .i32⟩
  | .hbm, ⟨61, _⟩ => ⟨S_, .i32⟩
  | .hbm, ⟨62, _⟩ => ⟨S256x256, .i32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S256x256, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .i32⟩
  | .hbm, ⟨79, _⟩ => ⟨S_, .i32⟩
  | .hbm, ⟨80, _⟩ => ⟨S256x256, .i32⟩
  | .hbm, ⟨81, _⟩ => ⟨S256x256, .i32⟩
  | .hbm, ⟨82, _⟩ => ⟨S_, .i32⟩
  | .hbm, ⟨83, _⟩ => ⟨S256x256, .i32⟩
  | .hbm, ⟨84, _⟩ => ⟨S256x256, .i32⟩
  | .hbm, ⟨85, _⟩ => ⟨S_, .i32⟩
  | .hbm, ⟨86, _⟩ => ⟨S256x256, .i32⟩
  | .hbm, ⟨87, _⟩ => ⟨S256x256, .i1⟩
  | .hbm, ⟨88, _⟩ => ⟨S256x256, .i32⟩
  | .hbm, ⟨89, _⟩ => ⟨S256x256x1, .i32⟩
  | .hbm, ⟨90, _⟩ => ⟨S1x1x32, .i32⟩
  | .hbm, ⟨91, _⟩ => ⟨S256x256x32, .i32⟩
  | .hbm, ⟨92, _⟩ => ⟨S256x256x32, .i32⟩
  | .hbm, ⟨93, _⟩ => ⟨S256x256x32, .i1⟩
  | .hbm, ⟨94, _⟩ => ⟨S256x256x32, .f32⟩
  | .hbm, ⟨95, _⟩ => ⟨S8x256x256, .f32⟩
  | .hbm, ⟨96, _⟩ => ⟨S_, .f32⟩
  | .hbm, ⟨97, _⟩ => ⟨S8x256x256, .f32⟩
  | .hbm, ⟨98, _⟩ => ⟨S8x256x256, .f32⟩
  | .hbm, ⟨99, _⟩ => ⟨S1x8, .f32⟩
  | .hbm, ⟨100, _⟩ => ⟨S8, .f32⟩
  | .hbm, ⟨101, _⟩ => ⟨S_, .f32⟩
  | .hbm, ⟨102, _⟩ => ⟨S8, .f32⟩
  | .hbm, ⟨103, _⟩ => ⟨S8, .f32⟩
  | .hbm, ⟨104, _⟩ => ⟨S8x4096x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x640x4096, .bf16⟩
  | .local _ .vmem, ⟨5, _⟩ => ⟨S1x640x4096, .bf16⟩
  | .local _ .vmem, ⟨6, _⟩ => ⟨S1x16x512, .f32⟩
  | .local _ .vmem, ⟨7, _⟩ => ⟨S1x16x512, .f32⟩
  | .local _ .vmem, ⟨8, _⟩ => ⟨S8x256x256, .f32⟩
  | .local _ .vmem, ⟨9, _⟩ => ⟨S8x256x256, .f32⟩
  | .local _ .vmem, ⟨10, _⟩ => ⟨S1x1024x512, .bf16⟩
  | .local _ .vmem, ⟨11, _⟩ => ⟨S1x1024x512, .bf16⟩
  | .local _ .vmem, ⟨12, _⟩ => ⟨S8x16x256, .f32⟩
  | .local _ .vmem, ⟨13, _⟩ => ⟨S2x8x256x256, .f32⟩
  | .local _ .vmem, ⟨14, _⟩ => ⟨S8x1x256, .f32⟩
  | .local _ .vmem, ⟨15, _⟩ => ⟨S8x80x256, .f32⟩
  | .local _ .smem, ⟨0, _⟩ => ⟨S8, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_15 : Ref sig .tc := ⟨.hbm, 79, rfl⟩
abbrev main_v54 : Ref sig .tc := ⟨.hbm, 80, rfl⟩
abbrev main_v55 : Ref sig .tc := ⟨.hbm, 81, rfl⟩
abbrev main_c_16 : Ref sig .tc := ⟨.hbm, 82, rfl⟩
abbrev main_v56 : Ref sig .tc := ⟨.hbm, 83, rfl⟩
abbrev main_v57 : Ref sig .tc := ⟨.hbm, 84, rfl⟩
abbrev main_c_17 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 4], ![false, false, false]⟩

def k0_off1 (i : grid0.Coords) (c0_i32_58 : BitVec 32) : Fin 1 → Nat :=
  let arg1 : BitVec 32 := BitVec.ofNat 32 (i 1).val
  let c8_i32 : BitVec 32 := 8#32
  let v172 : BitVec 32 := Scalar.muli arg1 c8_i32
  let v173 : BitVec 32 := Scalar.addi v172 c0_i32_58
  let v174 : Index := Scalar.indexCast v173
  ![v174.toNat]
def k0_mult1 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_267 : BitVec 32 := 256#32
  let v709 : BitVec 32 := Scalar.muli v1 c256_i32_267
  v709
def k0_off2 (i : grid0.Coords) (c0_i32 : BitVec 32) : Fin 3 → Nat :=
  let c0_268 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_267 : BitVec 32 := 256#32
  let v709 : BitVec 32 := Scalar.muli v1 c256_i32_267
  let v710 : BitVec 32 := v709
  let v711 : Index := Scalar.indexCast v710
  let c0_269 : Index := 0#32
  ![0, v711.toNat, 0]
def k0_mult2 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_302 : BitVec 32 := 256#32
  let v742 : BitVec 32 := Scalar.muli v1 c256_i32_302
  v742
def k0_off3 (i : grid0.Coords) (c0_i32 : BitVec 32) : Fin 3 → Nat :=
  let c0_303 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_302 : BitVec 32 := 256#32
  let v742 : BitVec 32 := Scalar.muli v1 c256_i32_302
  let v743 : BitVec 32 := v742
  let v744 : Index := Scalar.indexCast v743
  let c256_304 : Index := 256#32
  ![0, v744.toNat, 256]
def k0_mult3 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_337 : BitVec 32 := 256#32
  let v775 : BitVec 32 := Scalar.muli v699 c256_i32_337
  v775
def k0_off4 (i : grid0.Coords) (c0_i32 : BitVec 32) : Fin 3 → Nat :=
  let c0_338 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_337 : BitVec 32 := 256#32
  let v775 : BitVec 32 := Scalar.muli v699 c256_i32_337
  let v776 : BitVec 32 := v775
  let v777 : Index := Scalar.indexCast v776
  let c0_339 : Index := 0#32
  ![0, v777.toNat, 0]
def k0_mult4 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_340 : BitVec 32 := 256#32
  let v780 : BitVec 32 := Scalar.muli v699 c256_i32_340
  v780
def k0_off5 (i : grid0.Coords) (c0_i32 : BitVec 32) : Fin 3 → Nat :=
  let c0_341 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_340 : BitVec 32 := 256#32
  let v780 : BitVec 32 := Scalar.muli v699 c256_i32_340
  let v781 : BitVec 32 := v780
  let v782 : Index := Scalar.indexCast v781
  let c256_342 : Index := 256#32
  ![0, v782.toNat, 256]
def k0_mult5 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_381 : BitVec 32 := 256#32
  let v828 : BitVec 32 := Scalar.muli v1 c256_i32_381
  v828
def k0_off6 (i : grid0.Coords) (c0_i32 : BitVec 32) : Fin 3 → Nat :=
  let c0_382 : Index := 0#32
  let c0_383 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_381 : BitVec 32 := 256#32
  let v828 : BitVec 32 := Scalar.muli v1 c256_i32_381
  let v829 : BitVec 32 := v828
  let v830 : Index := Scalar.indexCast v829
  ![0, 0, v830.toNat]
def k0_mult6 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_410 : BitVec 32 := 256#32
  let v867 : BitVec 32 := Scalar.muli v1 c256_i32_410
  v867
def k0_off7 (i : grid0.Coords) (c0_i32 : BitVec 32) : Fin 3 → Nat :=
  let c0_411 : Index := 0#32
  let c80 : Index := 80#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_410 : BitVec 32 := 256#32
  let v867 : BitVec 32 := Scalar.muli v1 c256_i32_410
  let v868 : BitVec 32 := v867
  let v869 : Index := Scalar.indexCast v868
  ![0, 80, v869.toNat]
def k0_mult7 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_438 : BitVec 32 := 256#32
  let v906 : BitVec 32 := Scalar.muli v1 c256_i32_438
  v906
def k0_off8 (i : grid0.Coords) (c0_i32 : BitVec 32) : Fin 3 → Nat :=
  let c0_439 : Index := 0#32
  let c160 : Index := 160#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_438 : BitVec 32 := 256#32
  let v906 : BitVec 32 := Scalar.muli v1 c256_i32_438
  let v907 : BitVec 32 := v906
  let v908 : Index := Scalar.indexCast v907
  ![0, 160, v908.toNat]
def k0_mult8 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_466 : BitVec 32 := 256#32
  let v945 : BitVec 32 := Scalar.muli v1 c256_i32_466
  v945
def k0_off9 (i : grid0.Coords) (c0_i32 : BitVec 32) : Fin 3 → Nat :=
  let c0_467 : Index := 0#32
  let c240 : Index := 240#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_466 : BitVec 32 := 256#32
  let v945 : BitVec 32 := Scalar.muli v1 c256_i32_466
  let v946 : BitVec 32 := v945
  let v947 : Index := Scalar.indexCast v946
  ![0, 240, v947.toNat]
def k0_mult9 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_494 : BitVec 32 := 256#32
  let v984 : BitVec 32 := Scalar.muli v1 c256_i32_494
  v984
def k0_off10 (i : grid0.Coords) (c0_i32 : BitVec 32) : Fin 3 → Nat :=
  let c0_495 : Index := 0#32
  let c320 : Index := 320#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_494 : BitVec 32 := 256#32
  let v984 : BitVec 32 := Scalar.muli v1 c256_i32_494
  let v985 : BitVec 32 := v984
  let v986 : Index := Scalar.indexCast v985
  ![0, 320, v986.toNat]
def k0_mult10 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_522 : BitVec 32 := 256#32
  let v1023 : BitVec 32 := Scalar.muli v1 c256_i32_522
  v1023
def k0_off11 (i : grid0.Coords) (c0_i32 : BitVec 32) : Fin 3 → Nat :=
  let c0_523 : Index := 0#32
  let c400 : Index := 400#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_522 : BitVec 32 := 256#32
  let v1023 : BitVec 32 := Scalar.muli v1 c256_i32_522
  let v1024 : BitVec 32 := v1023
  let v1025 : Index := Scalar.indexCast v1024
  ![0, 400, v1025.toNat]
def k0_mult11 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_542 : BitVec 32 := 256#32
  let v1055 : BitVec 32 := Scalar.muli v1 c256_i32_542
  v1055
def k0_off12 (i : grid0.Coords) (c0_i32 : BitVec 32) : Fin 3 → Nat :=
  let c0_543 : Index := 0#32
  let c480 : Index := 480#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_542 : BitVec 32 := 256#32
  let v1055 : BitVec 32 := Scalar.muli v1 c256_i32_542
  let v1056 : BitVec 32 := v1055
  let v1057 : Index := Scalar.indexCast v1056
  ![0, 480, v1057.toNat]
def k0_mult12 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c256_i32_562 : BitVec 32 := 256#32
  let v1087 : BitVec 32 := Scalar.muli v1 c256_i32_562
  v1087
def k0_off13 (i : grid0.Coords) (c0_i32 : BitVec 32) : Fin 3 → Nat :=
  let c0_563 : Index := 0#32
  let c560 : Index := 560#32
  let arg2 : BitVec 32 := BitVec.ofNat 32 (i 2).val
  let c4_i32 : BitVec 32 := 4#32
  let v0 : BitVec 32 := Scalar.muli arg2 c4_i32
  let v1 : BitVec 32 := Scalar.addi v0 c0_i32
  let c256_i32_562 : BitVec 32 := 256#32
  let v1087 : BitVec 32 := Scalar.muli v1 c256_i32_562
  let v1088 : BitVec 32 := v1087
  let v1089 : Index := Scalar.indexCast v1088
  ![0, 560, v1089.toNat]
def k0_mult13 : BitVec 32 :=
  let c0_i32_568 : BitVec 32 := 0#32
  c0_i32_568
def k0_mult14 : BitVec 32 :=
  let c0_i32_571 : BitVec 32 := 0#32
  c0_i32_571
def k0_off14 (i : grid0.Coords) (c0_i32 : BitVec 32) : Fin 3 → Nat :=
  let c0_596 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1121 : Index := Scalar.indexCast v699
  let c0_597 : Index := 0#32
  ![0, v1121.toNat, 0]
def k0_mult15 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_608 : BitVec 32 := 256#32
  let v1147 : BitVec 32 := Scalar.muli v699 c256_i32_608
  v1147
def k0_off15 (i : grid0.Coords) (c0_i32 : BitVec 32) : Fin 3 → Nat :=
  let c0_609 : Index := 0#32
  let c0_610 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_608 : BitVec 32 := 256#32
  let v1147 : BitVec 32 := Scalar.muli v699 c256_i32_608
  let v1148 : BitVec 32 := v1147
  let v1149 : Index := Scalar.indexCast v1148
  ![0, 0, v1149.toNat]
def k0_off16 (i : grid0.Coords) (c0_i32 : BitVec 32) : Fin 3 → Nat :=
  let c1_627 : Index := 1#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1165 : Index := Scalar.indexCast v699
  let c0_628 : Index := 0#32
  ![1, v1165.toNat, 0]
def k0_mult16 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_639 : BitVec 32 := 256#32
  let v1191 : BitVec 32 := Scalar.muli v699 c256_i32_639
  v1191
def k0_off17 (i : grid0.Coords) (c0_i32 : BitVec 32) : Fin 3 → Nat :=
  let c0_640 : Index := 0#32
  let c80_641 : Index := 80#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_639 : BitVec 32 := 256#32
  let v1191 : BitVec 32 := Scalar.muli v699 c256_i32_639
  let v1192 : BitVec 32 := v1191
  let v1193 : Index := Scalar.indexCast v1192
  ![0, 80, v1193.toNat]
def k0_off18 (i : grid0.Coords) (c0_i32 : BitVec 32) : Fin 3 → Nat :=
  let c2_658 : Index := 2#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1209 : Index := Scalar.indexCast v699
  let c0_659 : Index := 0#32
  ![2, v1209.toNat, 0]
def k0_mult17 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_670 : BitVec 32 := 256#32
  let v1235 : BitVec 32 := Scalar.muli v699 c256_i32_670
  v1235
def k0_off19 (i : grid0.Coords) (c0_i32 : BitVec 32) : Fin 3 → Nat :=
  let c0_671 : Index := 0#32
  let c160_672 : Index := 160#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_670 : BitVec 32 := 256#32
  let v1235 : BitVec 32 := Scalar.muli v699 c256_i32_670
  let v1236 : BitVec 32 := v1235
  let v1237 : Index := Scalar.indexCast v1236
  ![0, 160, v1237.toNat]
def k0_off20 (i : grid0.Coords) (c0_i32 : BitVec 32) : Fin 3 → Nat :=
  let c3_689 : Index := 3#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1253 : Index := Scalar.indexCast v699
  let c0_690 : Index := 0#32
  ![3, v1253.toNat, 0]
def k0_mult18 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_701 : BitVec 32 := 256#32
  let v1279 : BitVec 32 := Scalar.muli v699 c256_i32_701
  v1279
def k0_off21 (i : grid0.Coords) (c0_i32 : BitVec 32) : Fin 3 → Nat :=
  let c0_702 : Index := 0#32
  let c240_703 : Index := 240#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_701 : BitVec 32 := 256#32
  let v1279 : BitVec 32 := Scalar.muli v699 c256_i32_701
  let v1280 : BitVec 32 := v1279
  let v1281 : Index := Scalar.indexCast v1280
  ![0, 240, v1281.toNat]
def k0_off22 (i : grid0.Coords) (c0_i32 : BitVec 32) : Fin 3 → Nat :=
  let c4_720 : Index := 4#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1297 : Index := Scalar.indexCast v699
  let c0_721 : Index := 0#32
  ![4, v1297.toNat, 0]
def k0_mult19 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_732 : BitVec 32 := 256#32
  let v1323 : BitVec 32 := Scalar.muli v699 c256_i32_732
  v1323
def k0_off23 (i : grid0.Coords) (c0_i32 : BitVec 32) : Fin 3 → Nat :=
  let c0_733 : Index := 0#32
  let c320_734 : Index := 320#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_732 : BitVec 32 := 256#32
  let v1323 : BitVec 32 := Scalar.muli v699 c256_i32_732
  let v1324 : BitVec 32 := v1323
  let v1325 : Index := Scalar.indexCast v1324
  ![0, 320, v1325.toNat]
def k0_off24 (i : grid0.Coords) (c0_i32 : BitVec 32) : Fin 3 → Nat :=
  let c5_751 : Index := 5#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1341 : Index := Scalar.indexCast v699
  let c0_752 : Index := 0#32
  ![5, v1341.toNat, 0]
def k0_mult20 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_763 : BitVec 32 := 256#32
  let v1367 : BitVec 32 := Scalar.muli v699 c256_i32_763
  v1367
def k0_off25 (i : grid0.Coords) (c0_i32 : BitVec 32) : Fin 3 → Nat :=
  let c0_764 : Index := 0#32
  let c400_765 : Index := 400#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_763 : BitVec 32 := 256#32
  let v1367 : BitVec 32 := Scalar.muli v699 c256_i32_763
  let v1368 : BitVec 32 := v1367
  let v1369 : Index := Scalar.indexCast v1368
  ![0, 400, v1369.toNat]
def k0_off26 (i : grid0.Coords) (c0_i32 : BitVec 32) : Fin 3 → Nat :=
  let c6_777 : Index := 6#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1381 : Index := Scalar.indexCast v699
  let c0_778 : Index := 0#32
  ![6, v1381.toNat, 0]
def k0_mult21 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_789 : BitVec 32 := 256#32
  let v1407 : BitVec 32 := Scalar.muli v699 c256_i32_789
  v1407
def k0_off27 (i : grid0.Coords) (c0_i32 : BitVec 32) : Fin 3 → Nat :=
  let c0_790 : Index := 0#32
  let c480_791 : Index := 480#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_789 : BitVec 32 := 256#32
  let v1407 : BitVec 32 := Scalar.muli v699 c256_i32_789
  let v1408 : BitVec 32 := v1407
  let v1409 : Index := Scalar.indexCast v1408
  ![0, 480, v1409.toNat]
def k0_off28 (i : grid0.Coords) (c0_i32 : BitVec 32) : Fin 3 → Nat :=
  let c7_803 : Index := 7#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let v1421 : Index := Scalar.indexCast v699
  let c0_804 : Index := 0#32
  ![7, v1421.toNat, 0]
def k0_mult22 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_815 : BitVec 32 := 256#32
  let v1447 : BitVec 32 := Scalar.muli v699 c256_i32_815
  v1447
def k0_off29 (i : grid0.Coords) (c0_i32 : BitVec 32) : Fin 3 → Nat :=
  let c0_816 : Index := 0#32
  let c560_817 : Index := 560#32
  let arg2 : BitVec 32 := BitVec.ofNat 32 (i 2).val
  let c4_i32 : BitVec 32 := 4#32
  let v0 : BitVec 32 := Scalar.muli arg2 c4_i32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c256_i32_815 : BitVec 32 := 256#32
  let v1447 : BitVec 32 := Scalar.muli v699 c256_i32_815
  let v1448 : BitVec 32 := v1447
  let v1449 : Index := Scalar.indexCast v1448
  ![0, 560, v1449.toNat]
@[reducible] def k0_t1_loop (i : grid0.Coords) : Scf.Loop 32 :=
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_833 : BitVec 32 := 1#32
  ⟨c0_i32_831, v1479, c1_i32_833⟩
def k0_mult23 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off30 (i : grid0.Coords) (k0_t1 : Fin (k0_t1_loop i).trips) (c1_i32_3664 : BitVec 32) : Fin 3 → Nat :=
  let c0_3666 : Index := 0#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult24 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off31 (i : grid0.Coords) (k0_t1 : Fin (k0_t1_loop i).trips) (c1_i32_3664 : BitVec 32) : Fin 3 → Nat :=
  let c0_3669 : Index := 0#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off32 (i : grid0.Coords) (k0_t1 : Fin (k0_t1_loop i).trips) : Fin 3 → Nat :=
  let c0_3693 : Index := 0#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6228 : Index := Scalar.indexCast v6200
  let c0_3694 : Index := 0#32
  ![0, v6228.toNat, 0]
def k0_mult25 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3702 : BitVec 32 := 256#32
  let v6249 : BitVec 32 := Scalar.muli v6200 c256_i32_3702
  v6249
def k0_off33 (i : grid0.Coords) (k0_t1 : Fin (k0_t1_loop i).trips) : Fin 3 → Nat :=
  let c0_3703 : Index := 0#32
  let c0_3704 : Index := 0#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off34 (i : grid0.Coords) (k0_t1 : Fin (k0_t1_loop i).trips) : Fin 3 → Nat :=
  let c1_3721 : Index := 1#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6267 : Index := Scalar.indexCast v6200
  let c0_3722 : Index := 0#32
  ![1, v6267.toNat, 0]
def k0_mult26 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3730 : BitVec 32 := 256#32
  let v6288 : BitVec 32 := Scalar.muli v6200 c256_i32_3730
  v6288
def k0_off35 (i : grid0.Coords) (k0_t1 : Fin (k0_t1_loop i).trips) : Fin 3 → Nat :=
  let c0_3731 : Index := 0#32
  let c80_3732 : Index := 80#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off36 (i : grid0.Coords) (k0_t1 : Fin (k0_t1_loop i).trips) : Fin 3 → Nat :=
  let c2_3749 : Index := 2#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6306 : Index := Scalar.indexCast v6200
  let c0_3750 : Index := 0#32
  ![2, v6306.toNat, 0]
def k0_mult27 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3758 : BitVec 32 := 256#32
  let v6327 : BitVec 32 := Scalar.muli v6200 c256_i32_3758
  v6327
def k0_off37 (i : grid0.Coords) (k0_t1 : Fin (k0_t1_loop i).trips) : Fin 3 → Nat :=
  let c0_3759 : Index := 0#32
  let c160_3760 : Index := 160#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off38 (i : grid0.Coords) (k0_t1 : Fin (k0_t1_loop i).trips) : Fin 3 → Nat :=
  let c3_3777 : Index := 3#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6345 : Index := Scalar.indexCast v6200
  let c0_3778 : Index := 0#32
  ![3, v6345.toNat, 0]
def k0_mult28 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3786 : BitVec 32 := 256#32
  let v6366 : BitVec 32 := Scalar.muli v6200 c256_i32_3786
  v6366
def k0_off39 (i : grid0.Coords) (k0_t1 : Fin (k0_t1_loop i).trips) : Fin 3 → Nat :=
  let c0_3787 : Index := 0#32
  let c240_3788 : Index := 240#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off40 (i : grid0.Coords) (k0_t1 : Fin (k0_t1_loop i).trips) : Fin 3 → Nat :=
  let c4_3805 : Index := 4#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6384 : Index := Scalar.indexCast v6200
  let c0_3806 : Index := 0#32
  ![4, v6384.toNat, 0]
def k0_mult29 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3814 : BitVec 32 := 256#32
  let v6405 : BitVec 32 := Scalar.muli v6200 c256_i32_3814
  v6405
def k0_off41 (i : grid0.Coords) (k0_t1 : Fin (k0_t1_loop i).trips) : Fin 3 → Nat :=
  let c0_3815 : Index := 0#32
  let c320_3816 : Index := 320#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off42 (i : grid0.Coords) (k0_t1 : Fin (k0_t1_loop i).trips) : Fin 3 → Nat :=
  let c5_3833 : Index := 5#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6423 : Index := Scalar.indexCast v6200
  let c0_3834 : Index := 0#32
  ![5, v6423.toNat, 0]
def k0_mult30 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3842 : BitVec 32 := 256#32
  let v6444 : BitVec 32 := Scalar.muli v6200 c256_i32_3842
  v6444
def k0_off43 (i : grid0.Coords) (k0_t1 : Fin (k0_t1_loop i).trips) : Fin 3 → Nat :=
  let c0_3843 : Index := 0#32
  let c400_3844 : Index := 400#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off44 (i : grid0.Coords) (k0_t1 : Fin (k0_t1_loop i).trips) : Fin 3 → Nat :=
  let c6_3856 : Index := 6#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6458 : Index := Scalar.indexCast v6200
  let c0_3857 : Index := 0#32
  ![6, v6458.toNat, 0]
def k0_mult31 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3865 : BitVec 32 := 256#32
  let v6479 : BitVec 32 := Scalar.muli v6200 c256_i32_3865
  v6479
def k0_off45 (i : grid0.Coords) (k0_t1 : Fin (k0_t1_loop i).trips) : Fin 3 → Nat :=
  let c0_3866 : Index := 0#32
  let c480_3867 : Index := 480#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off46 (i : grid0.Coords) (k0_t1 : Fin (k0_t1_loop i).trips) : Fin 3 → Nat :=
  let c7_3879 : Index := 7#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let v6493 : Index := Scalar.indexCast v6200
  let c0_3880 : Index := 0#32
  ![7, v6493.toNat, 0]
def k0_mult32 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3888 : BitVec 32 := 256#32
  let v6514 : BitVec 32 := Scalar.muli v6200 c256_i32_3888
  v6514
def k0_off47 (i : grid0.Coords) (k0_t1 : Fin (k0_t1_loop i).trips) : Fin 3 → Nat :=
  let c0_3889 : Index := 0#32
  let c560_3890 : Index := 560#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult33 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult34 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off48 (i : grid0.Coords) (k0_t1 : Fin (k0_t1_loop i).trips) : Fin 3 → Nat :=
  let c0_3924 : Index := 0#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult35 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off49 (i : grid0.Coords) (k0_t1 : Fin (k0_t1_loop i).trips) : Fin 3 → Nat :=
  let c0_3935 : Index := 0#32
  let c0_3936 : Index := 0#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off50 (i : grid0.Coords) (k0_t1 : Fin (k0_t1_loop i).trips) : Fin 3 → Nat :=
  let c1_3953 : Index := 1#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult36 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off51 (i : grid0.Coords) (k0_t1 : Fin (k0_t1_loop i).trips) : Fin 3 → Nat :=
  let c0_3964 : Index := 0#32
  let c80_3965 : Index := 80#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off52 (i : grid0.Coords) (k0_t1 : Fin (k0_t1_loop i).trips) : Fin 3 → Nat :=
  let c2_3982 : Index := 2#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult37 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off53 (i : grid0.Coords) (k0_t1 : Fin (k0_t1_loop i).trips) : Fin 3 → Nat :=
  let c0_3993 : Index := 0#32
  let c160_3994 : Index := 160#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off54 (i : grid0.Coords) (k0_t1 : Fin (k0_t1_loop i).trips) : Fin 3 → Nat :=
  let c3_4011 : Index := 3#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult38 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off55 (i : grid0.Coords) (k0_t1 : Fin (k0_t1_loop i).trips) : Fin 3 → Nat :=
  let c0_4022 : Index := 0#32
  let c240_4023 : Index := 240#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off56 (i : grid0.Coords) (k0_t1 : Fin (k0_t1_loop i).trips) : Fin 3 → Nat :=
  let c4_4040 : Index := 4#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult39 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off57 (i : grid0.Coords) (k0_t1 : Fin (k0_t1_loop i).trips) : Fin 3 → Nat :=
  let c0_4051 : Index := 0#32
  let c320_4052 : Index := 320#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off58 (i : grid0.Coords) (k0_t1 : Fin (k0_t1_loop i).trips) : Fin 3 → Nat :=
  let c5_4069 : Index := 5#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult40 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off59 (i : grid0.Coords) (k0_t1 : Fin (k0_t1_loop i).trips) : Fin 3 → Nat :=
  let c0_4080 : Index := 0#32
  let c400_4081 : Index := 400#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off60 (i : grid0.Coords) (k0_t1 : Fin (k0_t1_loop i).trips) : Fin 3 → Nat :=
  let c6_4093 : Index := 6#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult41 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off61 (i : grid0.Coords) (k0_t1 : Fin (k0_t1_loop i).trips) : Fin 3 → Nat :=
  let c0_4104 : Index := 0#32
  let c480_4105 : Index := 480#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off62 (i : grid0.Coords) (k0_t1 : Fin (k0_t1_loop i).trips) : Fin 3 → Nat :=
  let c7_4117 : Index := 7#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult42 (i : grid0.Coords) (k0_t1 : Fin (k0_t1_loop i).trips) : BitVec 32 :=
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off63 (i : grid0.Coords) (k0_t1 : Fin (k0_t1_loop i).trips) : Fin 3 → Nat :=
  let c0_4128 : Index := 0#32
  let c560_4129 : Index := 560#32
  let c2_i32_3663 : BitVec 32 := 2#32
  let c0_i32_831 : BitVec 32 := 0#32
  let c1_i32_833 : BitVec 32 := 1#32
  let arg15 : BitVec 32 := Scf.iv c0_i32_831 c1_i32_833 k0_t1
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
@[reducible] def k0_t2_loop (i : grid0.Coords) : Scf.Loop 32 :=
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let v1476 : BitVec 32 := Scalar.addi c0_i32_831 v1475
  let c1_i32_834 : BitVec 32 := 1#32
  ⟨v1479, v1476, c1_i32_834⟩
def k0_mult43 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off64 (i : grid0.Coords) (k0_t2 : Fin (k0_t2_loop i).trips) (c1_i32_3664 : BitVec 32) : Fin 3 → Nat :=
  let c0_3666 : Index := 0#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult44 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off65 (i : grid0.Coords) (k0_t2 : Fin (k0_t2_loop i).trips) (c1_i32_3664 : BitVec 32) : Fin 3 → Nat :=
  let c0_3669 : Index := 0#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off66 (i : grid0.Coords) (k0_t2 : Fin (k0_t2_loop i).trips) : Fin 3 → Nat :=
  let c0_3693 : Index := 0#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6228 : Index := Scalar.indexCast v6200
  let c0_3694 : Index := 0#32
  ![0, v6228.toNat, 0]
def k0_mult45 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3702 : BitVec 32 := 256#32
  let v6249 : BitVec 32 := Scalar.muli v6200 c256_i32_3702
  v6249
def k0_off67 (i : grid0.Coords) (k0_t2 : Fin (k0_t2_loop i).trips) : Fin 3 → Nat :=
  let c0_3703 : Index := 0#32
  let c0_3704 : Index := 0#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off68 (i : grid0.Coords) (k0_t2 : Fin (k0_t2_loop i).trips) : Fin 3 → Nat :=
  let c1_3721 : Index := 1#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6267 : Index := Scalar.indexCast v6200
  let c0_3722 : Index := 0#32
  ![1, v6267.toNat, 0]
def k0_mult46 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3730 : BitVec 32 := 256#32
  let v6288 : BitVec 32 := Scalar.muli v6200 c256_i32_3730
  v6288
def k0_off69 (i : grid0.Coords) (k0_t2 : Fin (k0_t2_loop i).trips) : Fin 3 → Nat :=
  let c0_3731 : Index := 0#32
  let c80_3732 : Index := 80#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off70 (i : grid0.Coords) (k0_t2 : Fin (k0_t2_loop i).trips) : Fin 3 → Nat :=
  let c2_3749 : Index := 2#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6306 : Index := Scalar.indexCast v6200
  let c0_3750 : Index := 0#32
  ![2, v6306.toNat, 0]
def k0_mult47 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3758 : BitVec 32 := 256#32
  let v6327 : BitVec 32 := Scalar.muli v6200 c256_i32_3758
  v6327
def k0_off71 (i : grid0.Coords) (k0_t2 : Fin (k0_t2_loop i).trips) : Fin 3 → Nat :=
  let c0_3759 : Index := 0#32
  let c160_3760 : Index := 160#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off72 (i : grid0.Coords) (k0_t2 : Fin (k0_t2_loop i).trips) : Fin 3 → Nat :=
  let c3_3777 : Index := 3#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6345 : Index := Scalar.indexCast v6200
  let c0_3778 : Index := 0#32
  ![3, v6345.toNat, 0]
def k0_mult48 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3786 : BitVec 32 := 256#32
  let v6366 : BitVec 32 := Scalar.muli v6200 c256_i32_3786
  v6366
def k0_off73 (i : grid0.Coords) (k0_t2 : Fin (k0_t2_loop i).trips) : Fin 3 → Nat :=
  let c0_3787 : Index := 0#32
  let c240_3788 : Index := 240#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off74 (i : grid0.Coords) (k0_t2 : Fin (k0_t2_loop i).trips) : Fin 3 → Nat :=
  let c4_3805 : Index := 4#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6384 : Index := Scalar.indexCast v6200
  let c0_3806 : Index := 0#32
  ![4, v6384.toNat, 0]
def k0_mult49 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3814 : BitVec 32 := 256#32
  let v6405 : BitVec 32 := Scalar.muli v6200 c256_i32_3814
  v6405
def k0_off75 (i : grid0.Coords) (k0_t2 : Fin (k0_t2_loop i).trips) : Fin 3 → Nat :=
  let c0_3815 : Index := 0#32
  let c320_3816 : Index := 320#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off76 (i : grid0.Coords) (k0_t2 : Fin (k0_t2_loop i).trips) : Fin 3 → Nat :=
  let c5_3833 : Index := 5#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6423 : Index := Scalar.indexCast v6200
  let c0_3834 : Index := 0#32
  ![5, v6423.toNat, 0]
def k0_mult50 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3842 : BitVec 32 := 256#32
  let v6444 : BitVec 32 := Scalar.muli v6200 c256_i32_3842
  v6444
def k0_off77 (i : grid0.Coords) (k0_t2 : Fin (k0_t2_loop i).trips) : Fin 3 → Nat :=
  let c0_3843 : Index := 0#32
  let c400_3844 : Index := 400#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off78 (i : grid0.Coords) (k0_t2 : Fin (k0_t2_loop i).trips) : Fin 3 → Nat :=
  let c6_3856 : Index := 6#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6458 : Index := Scalar.indexCast v6200
  let c0_3857 : Index := 0#32
  ![6, v6458.toNat, 0]
def k0_mult51 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3865 : BitVec 32 := 256#32
  let v6479 : BitVec 32 := Scalar.muli v6200 c256_i32_3865
  v6479
def k0_off79 (i : grid0.Coords) (k0_t2 : Fin (k0_t2_loop i).trips) : Fin 3 → Nat :=
  let c0_3866 : Index := 0#32
  let c480_3867 : Index := 480#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off80 (i : grid0.Coords) (k0_t2 : Fin (k0_t2_loop i).trips) : Fin 3 → Nat :=
  let c7_3879 : Index := 7#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let v6493 : Index := Scalar.indexCast v6200
  let c0_3880 : Index := 0#32
  ![7, v6493.toNat, 0]
def k0_mult52 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3888 : BitVec 32 := 256#32
  let v6514 : BitVec 32 := Scalar.muli v6200 c256_i32_3888
  v6514
def k0_off81 (i : grid0.Coords) (k0_t2 : Fin (k0_t2_loop i).trips) : Fin 3 → Nat :=
  let c0_3889 : Index := 0#32
  let c560_3890 : Index := 560#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult53 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult54 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off82 (i : grid0.Coords) (k0_t2 : Fin (k0_t2_loop i).trips) : Fin 3 → Nat :=
  let c0_3924 : Index := 0#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult55 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off83 (i : grid0.Coords) (k0_t2 : Fin (k0_t2_loop i).trips) : Fin 3 → Nat :=
  let c0_3935 : Index := 0#32
  let c0_3936 : Index := 0#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off84 (i : grid0.Coords) (k0_t2 : Fin (k0_t2_loop i).trips) : Fin 3 → Nat :=
  let c1_3953 : Index := 1#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult56 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off85 (i : grid0.Coords) (k0_t2 : Fin (k0_t2_loop i).trips) : Fin 3 → Nat :=
  let c0_3964 : Index := 0#32
  let c80_3965 : Index := 80#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off86 (i : grid0.Coords) (k0_t2 : Fin (k0_t2_loop i).trips) : Fin 3 → Nat :=
  let c2_3982 : Index := 2#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult57 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off87 (i : grid0.Coords) (k0_t2 : Fin (k0_t2_loop i).trips) : Fin 3 → Nat :=
  let c0_3993 : Index := 0#32
  let c160_3994 : Index := 160#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off88 (i : grid0.Coords) (k0_t2 : Fin (k0_t2_loop i).trips) : Fin 3 → Nat :=
  let c3_4011 : Index := 3#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult58 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off89 (i : grid0.Coords) (k0_t2 : Fin (k0_t2_loop i).trips) : Fin 3 → Nat :=
  let c0_4022 : Index := 0#32
  let c240_4023 : Index := 240#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off90 (i : grid0.Coords) (k0_t2 : Fin (k0_t2_loop i).trips) : Fin 3 → Nat :=
  let c4_4040 : Index := 4#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult59 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off91 (i : grid0.Coords) (k0_t2 : Fin (k0_t2_loop i).trips) : Fin 3 → Nat :=
  let c0_4051 : Index := 0#32
  let c320_4052 : Index := 320#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off92 (i : grid0.Coords) (k0_t2 : Fin (k0_t2_loop i).trips) : Fin 3 → Nat :=
  let c5_4069 : Index := 5#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult60 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off93 (i : grid0.Coords) (k0_t2 : Fin (k0_t2_loop i).trips) : Fin 3 → Nat :=
  let c0_4080 : Index := 0#32
  let c400_4081 : Index := 400#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off94 (i : grid0.Coords) (k0_t2 : Fin (k0_t2_loop i).trips) : Fin 3 → Nat :=
  let c6_4093 : Index := 6#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult61 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off95 (i : grid0.Coords) (k0_t2 : Fin (k0_t2_loop i).trips) : Fin 3 → Nat :=
  let c0_4104 : Index := 0#32
  let c480_4105 : Index := 480#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off96 (i : grid0.Coords) (k0_t2 : Fin (k0_t2_loop i).trips) : Fin 3 → Nat :=
  let c7_4117 : Index := 7#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult62 (i : grid0.Coords) (k0_t2 : Fin (k0_t2_loop i).trips) : BitVec 32 :=
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off97 (i : grid0.Coords) (k0_t2 : Fin (k0_t2_loop i).trips) : Fin 3 → Nat :=
  let c0_4128 : Index := 0#32
  let c560_4129 : Index := 560#32
  let c2_i32_3663 : BitVec 32 := 2#32
  let c0_i32_831 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c1_i32_256 : BitVec 32 := 1#32
  let v698 : BitVec 32 := Scalar.subi v1 c1_i32_256
  let c0_i32_257 : BitVec 32 := 0#32
  let v699 : BitVec 32 := Scalar.maxsi v698 c0_i32_257
  let c1_i32_822 : BitVec 32 := 1#32
  let v1457 : BitVec 32 := Scalar.addi v699 c1_i32_822
  let c0_i32_824 : BitVec 32 := 0#32
  let v1459 : BitVec 1 := Scalar.cmpi .sgt v1457 c0_i32_824
  let v1460 : BitVec 32 := Scalar.extui v1459
  let c0_i32_825 : BitVec 32 := 0#32
  let v1461 : BitVec 1 := Scalar.cmpi .slt v1457 c0_i32_825
  let v1462 : BitVec 32 := Scalar.extui v1461
  let v1463 : BitVec 32 := Scalar.subi v1460 v1462
  let c2_i32_823 : BitVec 32 := 2#32
  let c0_i32_826 : BitVec 32 := 0#32
  let v1464 : BitVec 1 := Scalar.cmpi .sgt c2_i32_823 c0_i32_826
  let v1465 : BitVec 32 := Scalar.extui v1464
  let c0_i32_827 : BitVec 32 := 0#32
  let v1466 : BitVec 1 := Scalar.cmpi .slt c2_i32_823 c0_i32_827
  let v1467 : BitVec 32 := Scalar.extui v1466
  let v1468 : BitVec 32 := Scalar.subi v1465 v1467
  let v1469 : BitVec 1 := Scalar.cmpi .ne v1463 v1468
  let v1470 : BitVec 32 := Scalar.remsi v1457 c2_i32_823
  let c0_i32_828 : BitVec 32 := 0#32
  let v1471 : BitVec 1 := Scalar.cmpi .ne v1470 c0_i32_828
  let v1472 : BitVec 1 := Scalar.andi v1469 v1471
  let v1458 : BitVec 32 := Scalar.divsi v1457 c2_i32_823
  let c1_i32_829 : BitVec 32 := 1#32
  let v1473 : BitVec 32 := Scalar.subi v1458 c1_i32_829
  let v1474 : BitVec 32 := Scalar.select v1472 v1473 v1458
  let v1475 : BitVec 32 := Scalar.subi v1474 c0_i32_831
  let c1_i32_832 : BitVec 32 := 1#32
  let v1477 : BitVec 32 := Scalar.divsi v1475 c1_i32_832
  let v1478 : BitVec 32 := Scalar.muli v1477 c1_i32_832
  let v1479 : BitVec 32 := Scalar.addi c0_i32_831 v1478
  let c1_i32_834 : BitVec 32 := 1#32
  let arg15 : BitVec 32 := Scf.iv v1479 c1_i32_834 k0_t2
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
def k0_mult63 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1183 : BitVec 32 := 256#32
  let v2259 : BitVec 32 := Scalar.muli v1551 c256_i32_1183
  v2259
def k0_mult64 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1218 : BitVec 32 := 256#32
  let v2292 : BitVec 32 := Scalar.muli v1551 c256_i32_1218
  v2292
def k0_mult65 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1253 : BitVec 32 := 256#32
  let v2325 : BitVec 32 := Scalar.muli v2249 c256_i32_1253
  v2325
def k0_mult66 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1256 : BitVec 32 := 256#32
  let v2330 : BitVec 32 := Scalar.muli v2249 c256_i32_1256
  v2330
def k0_mult67 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1297 : BitVec 32 := 256#32
  let v2378 : BitVec 32 := Scalar.muli v1551 c256_i32_1297
  v2378
def k0_mult68 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1326 : BitVec 32 := 256#32
  let v2417 : BitVec 32 := Scalar.muli v1551 c256_i32_1326
  v2417
def k0_mult69 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1355 : BitVec 32 := 256#32
  let v2456 : BitVec 32 := Scalar.muli v1551 c256_i32_1355
  v2456
def k0_mult70 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1384 : BitVec 32 := 256#32
  let v2495 : BitVec 32 := Scalar.muli v1551 c256_i32_1384
  v2495
def k0_mult71 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1413 : BitVec 32 := 256#32
  let v2534 : BitVec 32 := Scalar.muli v1551 c256_i32_1413
  v2534
def k0_mult72 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1442 : BitVec 32 := 256#32
  let v2573 : BitVec 32 := Scalar.muli v1551 c256_i32_1442
  v2573
def k0_mult73 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1463 : BitVec 32 := 256#32
  let v2605 : BitVec 32 := Scalar.muli v1551 c256_i32_1463
  v2605
def k0_mult74 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c256_i32_1484 : BitVec 32 := 256#32
  let v2637 : BitVec 32 := Scalar.muli v1551 c256_i32_1484
  v2637
def k0_mult75 : BitVec 32 :=
  let c0_i32_1491 : BitVec 32 := 0#32
  c0_i32_1491
def k0_mult76 : BitVec 32 :=
  let c0_i32_1494 : BitVec 32 := 0#32
  c0_i32_1494
def k0_mult77 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1531 : BitVec 32 := 256#32
  let v2697 : BitVec 32 := Scalar.muli v2249 c256_i32_1531
  v2697
def k0_mult78 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1562 : BitVec 32 := 256#32
  let v2741 : BitVec 32 := Scalar.muli v2249 c256_i32_1562
  v2741
def k0_mult79 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1593 : BitVec 32 := 256#32
  let v2785 : BitVec 32 := Scalar.muli v2249 c256_i32_1593
  v2785
def k0_mult80 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1624 : BitVec 32 := 256#32
  let v2829 : BitVec 32 := Scalar.muli v2249 c256_i32_1624
  v2829
def k0_mult81 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1655 : BitVec 32 := 256#32
  let v2873 : BitVec 32 := Scalar.muli v2249 c256_i32_1655
  v2873
def k0_mult82 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1686 : BitVec 32 := 256#32
  let v2917 : BitVec 32 := Scalar.muli v2249 c256_i32_1686
  v2917
def k0_mult83 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1712 : BitVec 32 := 256#32
  let v2957 : BitVec 32 := Scalar.muli v2249 c256_i32_1712
  v2957
def k0_mult84 (i : grid0.Coords) : BitVec 32 :=
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c256_i32_1738 : BitVec 32 := 256#32
  let v2997 : BitVec 32 := Scalar.muli v2249 c256_i32_1738
  v2997
@[reducible] def k0_t3_loop (i : grid0.Coords) : Scf.Loop 32 :=
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1756 : BitVec 32 := 1#32
  ⟨c0_i32_1754, v3029, c1_i32_1756⟩
def k0_mult85 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off98 (i : grid0.Coords) (k0_t3 : Fin (k0_t3_loop i).trips) (c1_i32_3664 : BitVec 32) : Fin 3 → Nat :=
  let c0_3666 : Index := 0#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult86 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off99 (i : grid0.Coords) (k0_t3 : Fin (k0_t3_loop i).trips) (c1_i32_3664 : BitVec 32) : Fin 3 → Nat :=
  let c0_3669 : Index := 0#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off100 (i : grid0.Coords) (k0_t3 : Fin (k0_t3_loop i).trips) : Fin 3 → Nat :=
  let c0_3693 : Index := 0#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6228 : Index := Scalar.indexCast v6200
  let c0_3694 : Index := 0#32
  ![0, v6228.toNat, 0]
def k0_mult87 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3702 : BitVec 32 := 256#32
  let v6249 : BitVec 32 := Scalar.muli v6200 c256_i32_3702
  v6249
def k0_off101 (i : grid0.Coords) (k0_t3 : Fin (k0_t3_loop i).trips) : Fin 3 → Nat :=
  let c0_3703 : Index := 0#32
  let c0_3704 : Index := 0#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off102 (i : grid0.Coords) (k0_t3 : Fin (k0_t3_loop i).trips) : Fin 3 → Nat :=
  let c1_3721 : Index := 1#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6267 : Index := Scalar.indexCast v6200
  let c0_3722 : Index := 0#32
  ![1, v6267.toNat, 0]
def k0_mult88 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3730 : BitVec 32 := 256#32
  let v6288 : BitVec 32 := Scalar.muli v6200 c256_i32_3730
  v6288
def k0_off103 (i : grid0.Coords) (k0_t3 : Fin (k0_t3_loop i).trips) : Fin 3 → Nat :=
  let c0_3731 : Index := 0#32
  let c80_3732 : Index := 80#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off104 (i : grid0.Coords) (k0_t3 : Fin (k0_t3_loop i).trips) : Fin 3 → Nat :=
  let c2_3749 : Index := 2#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6306 : Index := Scalar.indexCast v6200
  let c0_3750 : Index := 0#32
  ![2, v6306.toNat, 0]
def k0_mult89 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3758 : BitVec 32 := 256#32
  let v6327 : BitVec 32 := Scalar.muli v6200 c256_i32_3758
  v6327
def k0_off105 (i : grid0.Coords) (k0_t3 : Fin (k0_t3_loop i).trips) : Fin 3 → Nat :=
  let c0_3759 : Index := 0#32
  let c160_3760 : Index := 160#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off106 (i : grid0.Coords) (k0_t3 : Fin (k0_t3_loop i).trips) : Fin 3 → Nat :=
  let c3_3777 : Index := 3#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6345 : Index := Scalar.indexCast v6200
  let c0_3778 : Index := 0#32
  ![3, v6345.toNat, 0]
def k0_mult90 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3786 : BitVec 32 := 256#32
  let v6366 : BitVec 32 := Scalar.muli v6200 c256_i32_3786
  v6366
def k0_off107 (i : grid0.Coords) (k0_t3 : Fin (k0_t3_loop i).trips) : Fin 3 → Nat :=
  let c0_3787 : Index := 0#32
  let c240_3788 : Index := 240#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off108 (i : grid0.Coords) (k0_t3 : Fin (k0_t3_loop i).trips) : Fin 3 → Nat :=
  let c4_3805 : Index := 4#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6384 : Index := Scalar.indexCast v6200
  let c0_3806 : Index := 0#32
  ![4, v6384.toNat, 0]
def k0_mult91 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3814 : BitVec 32 := 256#32
  let v6405 : BitVec 32 := Scalar.muli v6200 c256_i32_3814
  v6405
def k0_off109 (i : grid0.Coords) (k0_t3 : Fin (k0_t3_loop i).trips) : Fin 3 → Nat :=
  let c0_3815 : Index := 0#32
  let c320_3816 : Index := 320#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off110 (i : grid0.Coords) (k0_t3 : Fin (k0_t3_loop i).trips) : Fin 3 → Nat :=
  let c5_3833 : Index := 5#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6423 : Index := Scalar.indexCast v6200
  let c0_3834 : Index := 0#32
  ![5, v6423.toNat, 0]
def k0_mult92 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3842 : BitVec 32 := 256#32
  let v6444 : BitVec 32 := Scalar.muli v6200 c256_i32_3842
  v6444
def k0_off111 (i : grid0.Coords) (k0_t3 : Fin (k0_t3_loop i).trips) : Fin 3 → Nat :=
  let c0_3843 : Index := 0#32
  let c400_3844 : Index := 400#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off112 (i : grid0.Coords) (k0_t3 : Fin (k0_t3_loop i).trips) : Fin 3 → Nat :=
  let c6_3856 : Index := 6#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6458 : Index := Scalar.indexCast v6200
  let c0_3857 : Index := 0#32
  ![6, v6458.toNat, 0]
def k0_mult93 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3865 : BitVec 32 := 256#32
  let v6479 : BitVec 32 := Scalar.muli v6200 c256_i32_3865
  v6479
def k0_off113 (i : grid0.Coords) (k0_t3 : Fin (k0_t3_loop i).trips) : Fin 3 → Nat :=
  let c0_3866 : Index := 0#32
  let c480_3867 : Index := 480#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off114 (i : grid0.Coords) (k0_t3 : Fin (k0_t3_loop i).trips) : Fin 3 → Nat :=
  let c7_3879 : Index := 7#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let v6493 : Index := Scalar.indexCast v6200
  let c0_3880 : Index := 0#32
  ![7, v6493.toNat, 0]
def k0_mult94 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3888 : BitVec 32 := 256#32
  let v6514 : BitVec 32 := Scalar.muli v6200 c256_i32_3888
  v6514
def k0_off115 (i : grid0.Coords) (k0_t3 : Fin (k0_t3_loop i).trips) : Fin 3 → Nat :=
  let c0_3889 : Index := 0#32
  let c560_3890 : Index := 560#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult95 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult96 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off116 (i : grid0.Coords) (k0_t3 : Fin (k0_t3_loop i).trips) : Fin 3 → Nat :=
  let c0_3924 : Index := 0#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult97 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off117 (i : grid0.Coords) (k0_t3 : Fin (k0_t3_loop i).trips) : Fin 3 → Nat :=
  let c0_3935 : Index := 0#32
  let c0_3936 : Index := 0#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off118 (i : grid0.Coords) (k0_t3 : Fin (k0_t3_loop i).trips) : Fin 3 → Nat :=
  let c1_3953 : Index := 1#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult98 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off119 (i : grid0.Coords) (k0_t3 : Fin (k0_t3_loop i).trips) : Fin 3 → Nat :=
  let c0_3964 : Index := 0#32
  let c80_3965 : Index := 80#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off120 (i : grid0.Coords) (k0_t3 : Fin (k0_t3_loop i).trips) : Fin 3 → Nat :=
  let c2_3982 : Index := 2#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult99 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off121 (i : grid0.Coords) (k0_t3 : Fin (k0_t3_loop i).trips) : Fin 3 → Nat :=
  let c0_3993 : Index := 0#32
  let c160_3994 : Index := 160#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off122 (i : grid0.Coords) (k0_t3 : Fin (k0_t3_loop i).trips) : Fin 3 → Nat :=
  let c3_4011 : Index := 3#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult100 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off123 (i : grid0.Coords) (k0_t3 : Fin (k0_t3_loop i).trips) : Fin 3 → Nat :=
  let c0_4022 : Index := 0#32
  let c240_4023 : Index := 240#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off124 (i : grid0.Coords) (k0_t3 : Fin (k0_t3_loop i).trips) : Fin 3 → Nat :=
  let c4_4040 : Index := 4#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult101 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off125 (i : grid0.Coords) (k0_t3 : Fin (k0_t3_loop i).trips) : Fin 3 → Nat :=
  let c0_4051 : Index := 0#32
  let c320_4052 : Index := 320#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off126 (i : grid0.Coords) (k0_t3 : Fin (k0_t3_loop i).trips) : Fin 3 → Nat :=
  let c5_4069 : Index := 5#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult102 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off127 (i : grid0.Coords) (k0_t3 : Fin (k0_t3_loop i).trips) : Fin 3 → Nat :=
  let c0_4080 : Index := 0#32
  let c400_4081 : Index := 400#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off128 (i : grid0.Coords) (k0_t3 : Fin (k0_t3_loop i).trips) : Fin 3 → Nat :=
  let c6_4093 : Index := 6#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult103 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off129 (i : grid0.Coords) (k0_t3 : Fin (k0_t3_loop i).trips) : Fin 3 → Nat :=
  let c0_4104 : Index := 0#32
  let c480_4105 : Index := 480#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off130 (i : grid0.Coords) (k0_t3 : Fin (k0_t3_loop i).trips) : Fin 3 → Nat :=
  let c7_4117 : Index := 7#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult104 (i : grid0.Coords) (k0_t3 : Fin (k0_t3_loop i).trips) : BitVec 32 :=
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off131 (i : grid0.Coords) (k0_t3 : Fin (k0_t3_loop i).trips) : Fin 3 → Nat :=
  let c0_4128 : Index := 0#32
  let c560_4129 : Index := 560#32
  let c2_i32_3663 : BitVec 32 := 2#32
  let c0_i32_1754 : BitVec 32 := 0#32
  let c1_i32_1756 : BitVec 32 := 1#32
  let arg15 : BitVec 32 := Scf.iv c0_i32_1754 c1_i32_1756 k0_t3
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
@[reducible] def k0_t4_loop (i : grid0.Coords) : Scf.Loop 32 :=
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let v3026 : BitVec 32 := Scalar.addi c0_i32_1754 v3025
  let c1_i32_1757 : BitVec 32 := 1#32
  ⟨v3029, v3026, c1_i32_1757⟩
def k0_mult105 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off132 (i : grid0.Coords) (k0_t4 : Fin (k0_t4_loop i).trips) (c1_i32_3664 : BitVec 32) : Fin 3 → Nat :=
  let c0_3666 : Index := 0#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult106 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off133 (i : grid0.Coords) (k0_t4 : Fin (k0_t4_loop i).trips) (c1_i32_3664 : BitVec 32) : Fin 3 → Nat :=
  let c0_3669 : Index := 0#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off134 (i : grid0.Coords) (k0_t4 : Fin (k0_t4_loop i).trips) : Fin 3 → Nat :=
  let c0_3693 : Index := 0#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6228 : Index := Scalar.indexCast v6200
  let c0_3694 : Index := 0#32
  ![0, v6228.toNat, 0]
def k0_mult107 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3702 : BitVec 32 := 256#32
  let v6249 : BitVec 32 := Scalar.muli v6200 c256_i32_3702
  v6249
def k0_off135 (i : grid0.Coords) (k0_t4 : Fin (k0_t4_loop i).trips) : Fin 3 → Nat :=
  let c0_3703 : Index := 0#32
  let c0_3704 : Index := 0#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off136 (i : grid0.Coords) (k0_t4 : Fin (k0_t4_loop i).trips) : Fin 3 → Nat :=
  let c1_3721 : Index := 1#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6267 : Index := Scalar.indexCast v6200
  let c0_3722 : Index := 0#32
  ![1, v6267.toNat, 0]
def k0_mult108 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3730 : BitVec 32 := 256#32
  let v6288 : BitVec 32 := Scalar.muli v6200 c256_i32_3730
  v6288
def k0_off137 (i : grid0.Coords) (k0_t4 : Fin (k0_t4_loop i).trips) : Fin 3 → Nat :=
  let c0_3731 : Index := 0#32
  let c80_3732 : Index := 80#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off138 (i : grid0.Coords) (k0_t4 : Fin (k0_t4_loop i).trips) : Fin 3 → Nat :=
  let c2_3749 : Index := 2#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6306 : Index := Scalar.indexCast v6200
  let c0_3750 : Index := 0#32
  ![2, v6306.toNat, 0]
def k0_mult109 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3758 : BitVec 32 := 256#32
  let v6327 : BitVec 32 := Scalar.muli v6200 c256_i32_3758
  v6327
def k0_off139 (i : grid0.Coords) (k0_t4 : Fin (k0_t4_loop i).trips) : Fin 3 → Nat :=
  let c0_3759 : Index := 0#32
  let c160_3760 : Index := 160#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off140 (i : grid0.Coords) (k0_t4 : Fin (k0_t4_loop i).trips) : Fin 3 → Nat :=
  let c3_3777 : Index := 3#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6345 : Index := Scalar.indexCast v6200
  let c0_3778 : Index := 0#32
  ![3, v6345.toNat, 0]
def k0_mult110 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3786 : BitVec 32 := 256#32
  let v6366 : BitVec 32 := Scalar.muli v6200 c256_i32_3786
  v6366
def k0_off141 (i : grid0.Coords) (k0_t4 : Fin (k0_t4_loop i).trips) : Fin 3 → Nat :=
  let c0_3787 : Index := 0#32
  let c240_3788 : Index := 240#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off142 (i : grid0.Coords) (k0_t4 : Fin (k0_t4_loop i).trips) : Fin 3 → Nat :=
  let c4_3805 : Index := 4#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6384 : Index := Scalar.indexCast v6200
  let c0_3806 : Index := 0#32
  ![4, v6384.toNat, 0]
def k0_mult111 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3814 : BitVec 32 := 256#32
  let v6405 : BitVec 32 := Scalar.muli v6200 c256_i32_3814
  v6405
def k0_off143 (i : grid0.Coords) (k0_t4 : Fin (k0_t4_loop i).trips) : Fin 3 → Nat :=
  let c0_3815 : Index := 0#32
  let c320_3816 : Index := 320#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off144 (i : grid0.Coords) (k0_t4 : Fin (k0_t4_loop i).trips) : Fin 3 → Nat :=
  let c5_3833 : Index := 5#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6423 : Index := Scalar.indexCast v6200
  let c0_3834 : Index := 0#32
  ![5, v6423.toNat, 0]
def k0_mult112 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3842 : BitVec 32 := 256#32
  let v6444 : BitVec 32 := Scalar.muli v6200 c256_i32_3842
  v6444
def k0_off145 (i : grid0.Coords) (k0_t4 : Fin (k0_t4_loop i).trips) : Fin 3 → Nat :=
  let c0_3843 : Index := 0#32
  let c400_3844 : Index := 400#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off146 (i : grid0.Coords) (k0_t4 : Fin (k0_t4_loop i).trips) : Fin 3 → Nat :=
  let c6_3856 : Index := 6#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6458 : Index := Scalar.indexCast v6200
  let c0_3857 : Index := 0#32
  ![6, v6458.toNat, 0]
def k0_mult113 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3865 : BitVec 32 := 256#32
  let v6479 : BitVec 32 := Scalar.muli v6200 c256_i32_3865
  v6479
def k0_off147 (i : grid0.Coords) (k0_t4 : Fin (k0_t4_loop i).trips) : Fin 3 → Nat :=
  let c0_3866 : Index := 0#32
  let c480_3867 : Index := 480#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off148 (i : grid0.Coords) (k0_t4 : Fin (k0_t4_loop i).trips) : Fin 3 → Nat :=
  let c7_3879 : Index := 7#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let v6493 : Index := Scalar.indexCast v6200
  let c0_3880 : Index := 0#32
  ![7, v6493.toNat, 0]
def k0_mult114 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3888 : BitVec 32 := 256#32
  let v6514 : BitVec 32 := Scalar.muli v6200 c256_i32_3888
  v6514
def k0_off149 (i : grid0.Coords) (k0_t4 : Fin (k0_t4_loop i).trips) : Fin 3 → Nat :=
  let c0_3889 : Index := 0#32
  let c560_3890 : Index := 560#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult115 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult116 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off150 (i : grid0.Coords) (k0_t4 : Fin (k0_t4_loop i).trips) : Fin 3 → Nat :=
  let c0_3924 : Index := 0#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult117 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off151 (i : grid0.Coords) (k0_t4 : Fin (k0_t4_loop i).trips) : Fin 3 → Nat :=
  let c0_3935 : Index := 0#32
  let c0_3936 : Index := 0#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off152 (i : grid0.Coords) (k0_t4 : Fin (k0_t4_loop i).trips) : Fin 3 → Nat :=
  let c1_3953 : Index := 1#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult118 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off153 (i : grid0.Coords) (k0_t4 : Fin (k0_t4_loop i).trips) : Fin 3 → Nat :=
  let c0_3964 : Index := 0#32
  let c80_3965 : Index := 80#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off154 (i : grid0.Coords) (k0_t4 : Fin (k0_t4_loop i).trips) : Fin 3 → Nat :=
  let c2_3982 : Index := 2#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult119 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off155 (i : grid0.Coords) (k0_t4 : Fin (k0_t4_loop i).trips) : Fin 3 → Nat :=
  let c0_3993 : Index := 0#32
  let c160_3994 : Index := 160#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off156 (i : grid0.Coords) (k0_t4 : Fin (k0_t4_loop i).trips) : Fin 3 → Nat :=
  let c3_4011 : Index := 3#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult120 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off157 (i : grid0.Coords) (k0_t4 : Fin (k0_t4_loop i).trips) : Fin 3 → Nat :=
  let c0_4022 : Index := 0#32
  let c240_4023 : Index := 240#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off158 (i : grid0.Coords) (k0_t4 : Fin (k0_t4_loop i).trips) : Fin 3 → Nat :=
  let c4_4040 : Index := 4#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult121 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off159 (i : grid0.Coords) (k0_t4 : Fin (k0_t4_loop i).trips) : Fin 3 → Nat :=
  let c0_4051 : Index := 0#32
  let c320_4052 : Index := 320#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off160 (i : grid0.Coords) (k0_t4 : Fin (k0_t4_loop i).trips) : Fin 3 → Nat :=
  let c5_4069 : Index := 5#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult122 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off161 (i : grid0.Coords) (k0_t4 : Fin (k0_t4_loop i).trips) : Fin 3 → Nat :=
  let c0_4080 : Index := 0#32
  let c400_4081 : Index := 400#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off162 (i : grid0.Coords) (k0_t4 : Fin (k0_t4_loop i).trips) : Fin 3 → Nat :=
  let c6_4093 : Index := 6#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult123 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off163 (i : grid0.Coords) (k0_t4 : Fin (k0_t4_loop i).trips) : Fin 3 → Nat :=
  let c0_4104 : Index := 0#32
  let c480_4105 : Index := 480#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off164 (i : grid0.Coords) (k0_t4 : Fin (k0_t4_loop i).trips) : Fin 3 → Nat :=
  let c7_4117 : Index := 7#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult124 (i : grid0.Coords) (k0_t4 : Fin (k0_t4_loop i).trips) : BitVec 32 :=
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off165 (i : grid0.Coords) (k0_t4 : Fin (k0_t4_loop i).trips) : Fin 3 → Nat :=
  let c0_4128 : Index := 0#32
  let c560_4129 : Index := 560#32
  let c2_i32_3663 : BitVec 32 := 2#32
  let c0_i32_1754 : BitVec 32 := 0#32
  let arg2 : BitVec 32 := BitVec.ofNat 32 (i 2).val
  let c4_i32_893 : BitVec 32 := 4#32
  let v1550 : BitVec 32 := Scalar.muli arg2 c4_i32_893
  let c1_i32_894 : BitVec 32 := 1#32
  let v1551 : BitVec 32 := Scalar.addi v1550 c1_i32_894
  let c1_i32_1172 : BitVec 32 := 1#32
  let v2248 : BitVec 32 := Scalar.subi v1551 c1_i32_1172
  let c0_i32_1173 : BitVec 32 := 0#32
  let v2249 : BitVec 32 := Scalar.maxsi v2248 c0_i32_1173
  let c1_i32_1745 : BitVec 32 := 1#32
  let v3007 : BitVec 32 := Scalar.addi v2249 c1_i32_1745
  let c0_i32_1747 : BitVec 32 := 0#32
  let v3009 : BitVec 1 := Scalar.cmpi .sgt v3007 c0_i32_1747
  let v3010 : BitVec 32 := Scalar.extui v3009
  let c0_i32_1748 : BitVec 32 := 0#32
  let v3011 : BitVec 1 := Scalar.cmpi .slt v3007 c0_i32_1748
  let v3012 : BitVec 32 := Scalar.extui v3011
  let v3013 : BitVec 32 := Scalar.subi v3010 v3012
  let c2_i32_1746 : BitVec 32 := 2#32
  let c0_i32_1749 : BitVec 32 := 0#32
  let v3014 : BitVec 1 := Scalar.cmpi .sgt c2_i32_1746 c0_i32_1749
  let v3015 : BitVec 32 := Scalar.extui v3014
  let c0_i32_1750 : BitVec 32 := 0#32
  let v3016 : BitVec 1 := Scalar.cmpi .slt c2_i32_1746 c0_i32_1750
  let v3017 : BitVec 32 := Scalar.extui v3016
  let v3018 : BitVec 32 := Scalar.subi v3015 v3017
  let v3019 : BitVec 1 := Scalar.cmpi .ne v3013 v3018
  let v3020 : BitVec 32 := Scalar.remsi v3007 c2_i32_1746
  let c0_i32_1751 : BitVec 32 := 0#32
  let v3021 : BitVec 1 := Scalar.cmpi .ne v3020 c0_i32_1751
  let v3022 : BitVec 1 := Scalar.andi v3019 v3021
  let v3008 : BitVec 32 := Scalar.divsi v3007 c2_i32_1746
  let c1_i32_1752 : BitVec 32 := 1#32
  let v3023 : BitVec 32 := Scalar.subi v3008 c1_i32_1752
  let v3024 : BitVec 32 := Scalar.select v3022 v3023 v3008
  let v3025 : BitVec 32 := Scalar.subi v3024 c0_i32_1754
  let c1_i32_1755 : BitVec 32 := 1#32
  let v3027 : BitVec 32 := Scalar.divsi v3025 c1_i32_1755
  let v3028 : BitVec 32 := Scalar.muli v3027 c1_i32_1755
  let v3029 : BitVec 32 := Scalar.addi c0_i32_1754 v3028
  let c1_i32_1757 : BitVec 32 := 1#32
  let arg15 : BitVec 32 := Scf.iv v3029 c1_i32_1757 k0_t4
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
def k0_mult125 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2106 : BitVec 32 := 256#32
  let v3809 : BitVec 32 := Scalar.muli v3101 c256_i32_2106
  v3809
def k0_mult126 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2141 : BitVec 32 := 256#32
  let v3842 : BitVec 32 := Scalar.muli v3101 c256_i32_2141
  v3842
def k0_mult127 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2176 : BitVec 32 := 256#32
  let v3875 : BitVec 32 := Scalar.muli v3799 c256_i32_2176
  v3875
def k0_mult128 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2179 : BitVec 32 := 256#32
  let v3880 : BitVec 32 := Scalar.muli v3799 c256_i32_2179
  v3880
def k0_mult129 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2220 : BitVec 32 := 256#32
  let v3928 : BitVec 32 := Scalar.muli v3101 c256_i32_2220
  v3928
def k0_mult130 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2249 : BitVec 32 := 256#32
  let v3967 : BitVec 32 := Scalar.muli v3101 c256_i32_2249
  v3967
def k0_mult131 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2278 : BitVec 32 := 256#32
  let v4006 : BitVec 32 := Scalar.muli v3101 c256_i32_2278
  v4006
def k0_mult132 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2307 : BitVec 32 := 256#32
  let v4045 : BitVec 32 := Scalar.muli v3101 c256_i32_2307
  v4045
def k0_mult133 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2336 : BitVec 32 := 256#32
  let v4084 : BitVec 32 := Scalar.muli v3101 c256_i32_2336
  v4084
def k0_mult134 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2365 : BitVec 32 := 256#32
  let v4123 : BitVec 32 := Scalar.muli v3101 c256_i32_2365
  v4123
def k0_mult135 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2386 : BitVec 32 := 256#32
  let v4155 : BitVec 32 := Scalar.muli v3101 c256_i32_2386
  v4155
def k0_mult136 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c256_i32_2407 : BitVec 32 := 256#32
  let v4187 : BitVec 32 := Scalar.muli v3101 c256_i32_2407
  v4187
def k0_mult137 : BitVec 32 :=
  let c0_i32_2414 : BitVec 32 := 0#32
  c0_i32_2414
def k0_mult138 : BitVec 32 :=
  let c0_i32_2417 : BitVec 32 := 0#32
  c0_i32_2417
def k0_mult139 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2454 : BitVec 32 := 256#32
  let v4247 : BitVec 32 := Scalar.muli v3799 c256_i32_2454
  v4247
def k0_mult140 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2485 : BitVec 32 := 256#32
  let v4291 : BitVec 32 := Scalar.muli v3799 c256_i32_2485
  v4291
def k0_mult141 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2516 : BitVec 32 := 256#32
  let v4335 : BitVec 32 := Scalar.muli v3799 c256_i32_2516
  v4335
def k0_mult142 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2547 : BitVec 32 := 256#32
  let v4379 : BitVec 32 := Scalar.muli v3799 c256_i32_2547
  v4379
def k0_mult143 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2578 : BitVec 32 := 256#32
  let v4423 : BitVec 32 := Scalar.muli v3799 c256_i32_2578
  v4423
def k0_mult144 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2609 : BitVec 32 := 256#32
  let v4467 : BitVec 32 := Scalar.muli v3799 c256_i32_2609
  v4467
def k0_mult145 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2635 : BitVec 32 := 256#32
  let v4507 : BitVec 32 := Scalar.muli v3799 c256_i32_2635
  v4507
def k0_mult146 (i : grid0.Coords) : BitVec 32 :=
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c256_i32_2661 : BitVec 32 := 256#32
  let v4547 : BitVec 32 := Scalar.muli v3799 c256_i32_2661
  v4547
@[reducible] def k0_t5_loop (i : grid0.Coords) : Scf.Loop 32 :=
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2679 : BitVec 32 := 1#32
  ⟨c0_i32_2677, v4579, c1_i32_2679⟩
def k0_mult147 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off166 (i : grid0.Coords) (k0_t5 : Fin (k0_t5_loop i).trips) (c1_i32_3664 : BitVec 32) : Fin 3 → Nat :=
  let c0_3666 : Index := 0#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult148 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off167 (i : grid0.Coords) (k0_t5 : Fin (k0_t5_loop i).trips) (c1_i32_3664 : BitVec 32) : Fin 3 → Nat :=
  let c0_3669 : Index := 0#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off168 (i : grid0.Coords) (k0_t5 : Fin (k0_t5_loop i).trips) : Fin 3 → Nat :=
  let c0_3693 : Index := 0#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6228 : Index := Scalar.indexCast v6200
  let c0_3694 : Index := 0#32
  ![0, v6228.toNat, 0]
def k0_mult149 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3702 : BitVec 32 := 256#32
  let v6249 : BitVec 32 := Scalar.muli v6200 c256_i32_3702
  v6249
def k0_off169 (i : grid0.Coords) (k0_t5 : Fin (k0_t5_loop i).trips) : Fin 3 → Nat :=
  let c0_3703 : Index := 0#32
  let c0_3704 : Index := 0#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off170 (i : grid0.Coords) (k0_t5 : Fin (k0_t5_loop i).trips) : Fin 3 → Nat :=
  let c1_3721 : Index := 1#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6267 : Index := Scalar.indexCast v6200
  let c0_3722 : Index := 0#32
  ![1, v6267.toNat, 0]
def k0_mult150 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3730 : BitVec 32 := 256#32
  let v6288 : BitVec 32 := Scalar.muli v6200 c256_i32_3730
  v6288
def k0_off171 (i : grid0.Coords) (k0_t5 : Fin (k0_t5_loop i).trips) : Fin 3 → Nat :=
  let c0_3731 : Index := 0#32
  let c80_3732 : Index := 80#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off172 (i : grid0.Coords) (k0_t5 : Fin (k0_t5_loop i).trips) : Fin 3 → Nat :=
  let c2_3749 : Index := 2#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6306 : Index := Scalar.indexCast v6200
  let c0_3750 : Index := 0#32
  ![2, v6306.toNat, 0]
def k0_mult151 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3758 : BitVec 32 := 256#32
  let v6327 : BitVec 32 := Scalar.muli v6200 c256_i32_3758
  v6327
def k0_off173 (i : grid0.Coords) (k0_t5 : Fin (k0_t5_loop i).trips) : Fin 3 → Nat :=
  let c0_3759 : Index := 0#32
  let c160_3760 : Index := 160#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off174 (i : grid0.Coords) (k0_t5 : Fin (k0_t5_loop i).trips) : Fin 3 → Nat :=
  let c3_3777 : Index := 3#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6345 : Index := Scalar.indexCast v6200
  let c0_3778 : Index := 0#32
  ![3, v6345.toNat, 0]
def k0_mult152 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3786 : BitVec 32 := 256#32
  let v6366 : BitVec 32 := Scalar.muli v6200 c256_i32_3786
  v6366
def k0_off175 (i : grid0.Coords) (k0_t5 : Fin (k0_t5_loop i).trips) : Fin 3 → Nat :=
  let c0_3787 : Index := 0#32
  let c240_3788 : Index := 240#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off176 (i : grid0.Coords) (k0_t5 : Fin (k0_t5_loop i).trips) : Fin 3 → Nat :=
  let c4_3805 : Index := 4#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6384 : Index := Scalar.indexCast v6200
  let c0_3806 : Index := 0#32
  ![4, v6384.toNat, 0]
def k0_mult153 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3814 : BitVec 32 := 256#32
  let v6405 : BitVec 32 := Scalar.muli v6200 c256_i32_3814
  v6405
def k0_off177 (i : grid0.Coords) (k0_t5 : Fin (k0_t5_loop i).trips) : Fin 3 → Nat :=
  let c0_3815 : Index := 0#32
  let c320_3816 : Index := 320#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off178 (i : grid0.Coords) (k0_t5 : Fin (k0_t5_loop i).trips) : Fin 3 → Nat :=
  let c5_3833 : Index := 5#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6423 : Index := Scalar.indexCast v6200
  let c0_3834 : Index := 0#32
  ![5, v6423.toNat, 0]
def k0_mult154 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3842 : BitVec 32 := 256#32
  let v6444 : BitVec 32 := Scalar.muli v6200 c256_i32_3842
  v6444
def k0_off179 (i : grid0.Coords) (k0_t5 : Fin (k0_t5_loop i).trips) : Fin 3 → Nat :=
  let c0_3843 : Index := 0#32
  let c400_3844 : Index := 400#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off180 (i : grid0.Coords) (k0_t5 : Fin (k0_t5_loop i).trips) : Fin 3 → Nat :=
  let c6_3856 : Index := 6#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6458 : Index := Scalar.indexCast v6200
  let c0_3857 : Index := 0#32
  ![6, v6458.toNat, 0]
def k0_mult155 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3865 : BitVec 32 := 256#32
  let v6479 : BitVec 32 := Scalar.muli v6200 c256_i32_3865
  v6479
def k0_off181 (i : grid0.Coords) (k0_t5 : Fin (k0_t5_loop i).trips) : Fin 3 → Nat :=
  let c0_3866 : Index := 0#32
  let c480_3867 : Index := 480#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off182 (i : grid0.Coords) (k0_t5 : Fin (k0_t5_loop i).trips) : Fin 3 → Nat :=
  let c7_3879 : Index := 7#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let v6493 : Index := Scalar.indexCast v6200
  let c0_3880 : Index := 0#32
  ![7, v6493.toNat, 0]
def k0_mult156 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3888 : BitVec 32 := 256#32
  let v6514 : BitVec 32 := Scalar.muli v6200 c256_i32_3888
  v6514
def k0_off183 (i : grid0.Coords) (k0_t5 : Fin (k0_t5_loop i).trips) : Fin 3 → Nat :=
  let c0_3889 : Index := 0#32
  let c560_3890 : Index := 560#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult157 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult158 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off184 (i : grid0.Coords) (k0_t5 : Fin (k0_t5_loop i).trips) : Fin 3 → Nat :=
  let c0_3924 : Index := 0#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult159 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off185 (i : grid0.Coords) (k0_t5 : Fin (k0_t5_loop i).trips) : Fin 3 → Nat :=
  let c0_3935 : Index := 0#32
  let c0_3936 : Index := 0#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off186 (i : grid0.Coords) (k0_t5 : Fin (k0_t5_loop i).trips) : Fin 3 → Nat :=
  let c1_3953 : Index := 1#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult160 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off187 (i : grid0.Coords) (k0_t5 : Fin (k0_t5_loop i).trips) : Fin 3 → Nat :=
  let c0_3964 : Index := 0#32
  let c80_3965 : Index := 80#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off188 (i : grid0.Coords) (k0_t5 : Fin (k0_t5_loop i).trips) : Fin 3 → Nat :=
  let c2_3982 : Index := 2#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult161 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off189 (i : grid0.Coords) (k0_t5 : Fin (k0_t5_loop i).trips) : Fin 3 → Nat :=
  let c0_3993 : Index := 0#32
  let c160_3994 : Index := 160#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off190 (i : grid0.Coords) (k0_t5 : Fin (k0_t5_loop i).trips) : Fin 3 → Nat :=
  let c3_4011 : Index := 3#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult162 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off191 (i : grid0.Coords) (k0_t5 : Fin (k0_t5_loop i).trips) : Fin 3 → Nat :=
  let c0_4022 : Index := 0#32
  let c240_4023 : Index := 240#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off192 (i : grid0.Coords) (k0_t5 : Fin (k0_t5_loop i).trips) : Fin 3 → Nat :=
  let c4_4040 : Index := 4#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult163 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off193 (i : grid0.Coords) (k0_t5 : Fin (k0_t5_loop i).trips) : Fin 3 → Nat :=
  let c0_4051 : Index := 0#32
  let c320_4052 : Index := 320#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off194 (i : grid0.Coords) (k0_t5 : Fin (k0_t5_loop i).trips) : Fin 3 → Nat :=
  let c5_4069 : Index := 5#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult164 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off195 (i : grid0.Coords) (k0_t5 : Fin (k0_t5_loop i).trips) : Fin 3 → Nat :=
  let c0_4080 : Index := 0#32
  let c400_4081 : Index := 400#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off196 (i : grid0.Coords) (k0_t5 : Fin (k0_t5_loop i).trips) : Fin 3 → Nat :=
  let c6_4093 : Index := 6#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult165 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off197 (i : grid0.Coords) (k0_t5 : Fin (k0_t5_loop i).trips) : Fin 3 → Nat :=
  let c0_4104 : Index := 0#32
  let c480_4105 : Index := 480#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off198 (i : grid0.Coords) (k0_t5 : Fin (k0_t5_loop i).trips) : Fin 3 → Nat :=
  let c7_4117 : Index := 7#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult166 (i : grid0.Coords) (k0_t5 : Fin (k0_t5_loop i).trips) : BitVec 32 :=
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off199 (i : grid0.Coords) (k0_t5 : Fin (k0_t5_loop i).trips) : Fin 3 → Nat :=
  let c0_4128 : Index := 0#32
  let c560_4129 : Index := 560#32
  let c2_i32_3663 : BitVec 32 := 2#32
  let c0_i32_2677 : BitVec 32 := 0#32
  let c1_i32_2679 : BitVec 32 := 1#32
  let arg15 : BitVec 32 := Scf.iv c0_i32_2677 c1_i32_2679 k0_t5
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
@[reducible] def k0_t6_loop (i : grid0.Coords) : Scf.Loop 32 :=
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let v4576 : BitVec 32 := Scalar.addi c0_i32_2677 v4575
  let c1_i32_2680 : BitVec 32 := 1#32
  ⟨v4579, v4576, c1_i32_2680⟩
def k0_mult167 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off200 (i : grid0.Coords) (k0_t6 : Fin (k0_t6_loop i).trips) (c1_i32_3664 : BitVec 32) : Fin 3 → Nat :=
  let c0_3666 : Index := 0#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult168 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off201 (i : grid0.Coords) (k0_t6 : Fin (k0_t6_loop i).trips) (c1_i32_3664 : BitVec 32) : Fin 3 → Nat :=
  let c0_3669 : Index := 0#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off202 (i : grid0.Coords) (k0_t6 : Fin (k0_t6_loop i).trips) : Fin 3 → Nat :=
  let c0_3693 : Index := 0#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6228 : Index := Scalar.indexCast v6200
  let c0_3694 : Index := 0#32
  ![0, v6228.toNat, 0]
def k0_mult169 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3702 : BitVec 32 := 256#32
  let v6249 : BitVec 32 := Scalar.muli v6200 c256_i32_3702
  v6249
def k0_off203 (i : grid0.Coords) (k0_t6 : Fin (k0_t6_loop i).trips) : Fin 3 → Nat :=
  let c0_3703 : Index := 0#32
  let c0_3704 : Index := 0#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off204 (i : grid0.Coords) (k0_t6 : Fin (k0_t6_loop i).trips) : Fin 3 → Nat :=
  let c1_3721 : Index := 1#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6267 : Index := Scalar.indexCast v6200
  let c0_3722 : Index := 0#32
  ![1, v6267.toNat, 0]
def k0_mult170 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3730 : BitVec 32 := 256#32
  let v6288 : BitVec 32 := Scalar.muli v6200 c256_i32_3730
  v6288
def k0_off205 (i : grid0.Coords) (k0_t6 : Fin (k0_t6_loop i).trips) : Fin 3 → Nat :=
  let c0_3731 : Index := 0#32
  let c80_3732 : Index := 80#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off206 (i : grid0.Coords) (k0_t6 : Fin (k0_t6_loop i).trips) : Fin 3 → Nat :=
  let c2_3749 : Index := 2#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6306 : Index := Scalar.indexCast v6200
  let c0_3750 : Index := 0#32
  ![2, v6306.toNat, 0]
def k0_mult171 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3758 : BitVec 32 := 256#32
  let v6327 : BitVec 32 := Scalar.muli v6200 c256_i32_3758
  v6327
def k0_off207 (i : grid0.Coords) (k0_t6 : Fin (k0_t6_loop i).trips) : Fin 3 → Nat :=
  let c0_3759 : Index := 0#32
  let c160_3760 : Index := 160#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off208 (i : grid0.Coords) (k0_t6 : Fin (k0_t6_loop i).trips) : Fin 3 → Nat :=
  let c3_3777 : Index := 3#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6345 : Index := Scalar.indexCast v6200
  let c0_3778 : Index := 0#32
  ![3, v6345.toNat, 0]
def k0_mult172 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3786 : BitVec 32 := 256#32
  let v6366 : BitVec 32 := Scalar.muli v6200 c256_i32_3786
  v6366
def k0_off209 (i : grid0.Coords) (k0_t6 : Fin (k0_t6_loop i).trips) : Fin 3 → Nat :=
  let c0_3787 : Index := 0#32
  let c240_3788 : Index := 240#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off210 (i : grid0.Coords) (k0_t6 : Fin (k0_t6_loop i).trips) : Fin 3 → Nat :=
  let c4_3805 : Index := 4#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6384 : Index := Scalar.indexCast v6200
  let c0_3806 : Index := 0#32
  ![4, v6384.toNat, 0]
def k0_mult173 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3814 : BitVec 32 := 256#32
  let v6405 : BitVec 32 := Scalar.muli v6200 c256_i32_3814
  v6405
def k0_off211 (i : grid0.Coords) (k0_t6 : Fin (k0_t6_loop i).trips) : Fin 3 → Nat :=
  let c0_3815 : Index := 0#32
  let c320_3816 : Index := 320#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off212 (i : grid0.Coords) (k0_t6 : Fin (k0_t6_loop i).trips) : Fin 3 → Nat :=
  let c5_3833 : Index := 5#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6423 : Index := Scalar.indexCast v6200
  let c0_3834 : Index := 0#32
  ![5, v6423.toNat, 0]
def k0_mult174 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3842 : BitVec 32 := 256#32
  let v6444 : BitVec 32 := Scalar.muli v6200 c256_i32_3842
  v6444
def k0_off213 (i : grid0.Coords) (k0_t6 : Fin (k0_t6_loop i).trips) : Fin 3 → Nat :=
  let c0_3843 : Index := 0#32
  let c400_3844 : Index := 400#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off214 (i : grid0.Coords) (k0_t6 : Fin (k0_t6_loop i).trips) : Fin 3 → Nat :=
  let c6_3856 : Index := 6#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6458 : Index := Scalar.indexCast v6200
  let c0_3857 : Index := 0#32
  ![6, v6458.toNat, 0]
def k0_mult175 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3865 : BitVec 32 := 256#32
  let v6479 : BitVec 32 := Scalar.muli v6200 c256_i32_3865
  v6479
def k0_off215 (i : grid0.Coords) (k0_t6 : Fin (k0_t6_loop i).trips) : Fin 3 → Nat :=
  let c0_3866 : Index := 0#32
  let c480_3867 : Index := 480#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off216 (i : grid0.Coords) (k0_t6 : Fin (k0_t6_loop i).trips) : Fin 3 → Nat :=
  let c7_3879 : Index := 7#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let v6493 : Index := Scalar.indexCast v6200
  let c0_3880 : Index := 0#32
  ![7, v6493.toNat, 0]
def k0_mult176 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3888 : BitVec 32 := 256#32
  let v6514 : BitVec 32 := Scalar.muli v6200 c256_i32_3888
  v6514
def k0_off217 (i : grid0.Coords) (k0_t6 : Fin (k0_t6_loop i).trips) : Fin 3 → Nat :=
  let c0_3889 : Index := 0#32
  let c560_3890 : Index := 560#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult177 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult178 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off218 (i : grid0.Coords) (k0_t6 : Fin (k0_t6_loop i).trips) : Fin 3 → Nat :=
  let c0_3924 : Index := 0#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult179 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off219 (i : grid0.Coords) (k0_t6 : Fin (k0_t6_loop i).trips) : Fin 3 → Nat :=
  let c0_3935 : Index := 0#32
  let c0_3936 : Index := 0#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off220 (i : grid0.Coords) (k0_t6 : Fin (k0_t6_loop i).trips) : Fin 3 → Nat :=
  let c1_3953 : Index := 1#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult180 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off221 (i : grid0.Coords) (k0_t6 : Fin (k0_t6_loop i).trips) : Fin 3 → Nat :=
  let c0_3964 : Index := 0#32
  let c80_3965 : Index := 80#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off222 (i : grid0.Coords) (k0_t6 : Fin (k0_t6_loop i).trips) : Fin 3 → Nat :=
  let c2_3982 : Index := 2#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult181 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off223 (i : grid0.Coords) (k0_t6 : Fin (k0_t6_loop i).trips) : Fin 3 → Nat :=
  let c0_3993 : Index := 0#32
  let c160_3994 : Index := 160#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off224 (i : grid0.Coords) (k0_t6 : Fin (k0_t6_loop i).trips) : Fin 3 → Nat :=
  let c3_4011 : Index := 3#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult182 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off225 (i : grid0.Coords) (k0_t6 : Fin (k0_t6_loop i).trips) : Fin 3 → Nat :=
  let c0_4022 : Index := 0#32
  let c240_4023 : Index := 240#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off226 (i : grid0.Coords) (k0_t6 : Fin (k0_t6_loop i).trips) : Fin 3 → Nat :=
  let c4_4040 : Index := 4#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult183 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off227 (i : grid0.Coords) (k0_t6 : Fin (k0_t6_loop i).trips) : Fin 3 → Nat :=
  let c0_4051 : Index := 0#32
  let c320_4052 : Index := 320#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off228 (i : grid0.Coords) (k0_t6 : Fin (k0_t6_loop i).trips) : Fin 3 → Nat :=
  let c5_4069 : Index := 5#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult184 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off229 (i : grid0.Coords) (k0_t6 : Fin (k0_t6_loop i).trips) : Fin 3 → Nat :=
  let c0_4080 : Index := 0#32
  let c400_4081 : Index := 400#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off230 (i : grid0.Coords) (k0_t6 : Fin (k0_t6_loop i).trips) : Fin 3 → Nat :=
  let c6_4093 : Index := 6#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult185 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off231 (i : grid0.Coords) (k0_t6 : Fin (k0_t6_loop i).trips) : Fin 3 → Nat :=
  let c0_4104 : Index := 0#32
  let c480_4105 : Index := 480#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off232 (i : grid0.Coords) (k0_t6 : Fin (k0_t6_loop i).trips) : Fin 3 → Nat :=
  let c7_4117 : Index := 7#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult186 (i : grid0.Coords) (k0_t6 : Fin (k0_t6_loop i).trips) : BitVec 32 :=
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off233 (i : grid0.Coords) (k0_t6 : Fin (k0_t6_loop i).trips) : Fin 3 → Nat :=
  let c0_4128 : Index := 0#32
  let c560_4129 : Index := 560#32
  let c2_i32_3663 : BitVec 32 := 2#32
  let c0_i32_2677 : BitVec 32 := 0#32
  let arg2 : BitVec 32 := BitVec.ofNat 32 (i 2).val
  let c4_i32_1817 : BitVec 32 := 4#32
  let v3100 : BitVec 32 := Scalar.muli arg2 c4_i32_1817
  let c2_i32_1818 : BitVec 32 := 2#32
  let v3101 : BitVec 32 := Scalar.addi v3100 c2_i32_1818
  let c1_i32_2095 : BitVec 32 := 1#32
  let v3798 : BitVec 32 := Scalar.subi v3101 c1_i32_2095
  let c0_i32_2096 : BitVec 32 := 0#32
  let v3799 : BitVec 32 := Scalar.maxsi v3798 c0_i32_2096
  let c1_i32_2668 : BitVec 32 := 1#32
  let v4557 : BitVec 32 := Scalar.addi v3799 c1_i32_2668
  let c0_i32_2670 : BitVec 32 := 0#32
  let v4559 : BitVec 1 := Scalar.cmpi .sgt v4557 c0_i32_2670
  let v4560 : BitVec 32 := Scalar.extui v4559
  let c0_i32_2671 : BitVec 32 := 0#32
  let v4561 : BitVec 1 := Scalar.cmpi .slt v4557 c0_i32_2671
  let v4562 : BitVec 32 := Scalar.extui v4561
  let v4563 : BitVec 32 := Scalar.subi v4560 v4562
  let c2_i32_2669 : BitVec 32 := 2#32
  let c0_i32_2672 : BitVec 32 := 0#32
  let v4564 : BitVec 1 := Scalar.cmpi .sgt c2_i32_2669 c0_i32_2672
  let v4565 : BitVec 32 := Scalar.extui v4564
  let c0_i32_2673 : BitVec 32 := 0#32
  let v4566 : BitVec 1 := Scalar.cmpi .slt c2_i32_2669 c0_i32_2673
  let v4567 : BitVec 32 := Scalar.extui v4566
  let v4568 : BitVec 32 := Scalar.subi v4565 v4567
  let v4569 : BitVec 1 := Scalar.cmpi .ne v4563 v4568
  let v4570 : BitVec 32 := Scalar.remsi v4557 c2_i32_2669
  let c0_i32_2674 : BitVec 32 := 0#32
  let v4571 : BitVec 1 := Scalar.cmpi .ne v4570 c0_i32_2674
  let v4572 : BitVec 1 := Scalar.andi v4569 v4571
  let v4558 : BitVec 32 := Scalar.divsi v4557 c2_i32_2669
  let c1_i32_2675 : BitVec 32 := 1#32
  let v4573 : BitVec 32 := Scalar.subi v4558 c1_i32_2675
  let v4574 : BitVec 32 := Scalar.select v4572 v4573 v4558
  let v4575 : BitVec 32 := Scalar.subi v4574 c0_i32_2677
  let c1_i32_2678 : BitVec 32 := 1#32
  let v4577 : BitVec 32 := Scalar.divsi v4575 c1_i32_2678
  let v4578 : BitVec 32 := Scalar.muli v4577 c1_i32_2678
  let v4579 : BitVec 32 := Scalar.addi c0_i32_2677 v4578
  let c1_i32_2680 : BitVec 32 := 1#32
  let arg15 : BitVec 32 := Scf.iv v4579 c1_i32_2680 k0_t6
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
def k0_mult187 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3029 : BitVec 32 := 256#32
  let v5359 : BitVec 32 := Scalar.muli v4651 c256_i32_3029
  v5359
def k0_mult188 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3064 : BitVec 32 := 256#32
  let v5392 : BitVec 32 := Scalar.muli v4651 c256_i32_3064
  v5392
def k0_mult189 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3099 : BitVec 32 := 256#32
  let v5425 : BitVec 32 := Scalar.muli v5349 c256_i32_3099
  v5425
def k0_mult190 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3102 : BitVec 32 := 256#32
  let v5430 : BitVec 32 := Scalar.muli v5349 c256_i32_3102
  v5430
def k0_mult191 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3143 : BitVec 32 := 256#32
  let v5478 : BitVec 32 := Scalar.muli v4651 c256_i32_3143
  v5478
def k0_mult192 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3172 : BitVec 32 := 256#32
  let v5517 : BitVec 32 := Scalar.muli v4651 c256_i32_3172
  v5517
def k0_mult193 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3201 : BitVec 32 := 256#32
  let v5556 : BitVec 32 := Scalar.muli v4651 c256_i32_3201
  v5556
def k0_mult194 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3230 : BitVec 32 := 256#32
  let v5595 : BitVec 32 := Scalar.muli v4651 c256_i32_3230
  v5595
def k0_mult195 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3259 : BitVec 32 := 256#32
  let v5634 : BitVec 32 := Scalar.muli v4651 c256_i32_3259
  v5634
def k0_mult196 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3288 : BitVec 32 := 256#32
  let v5673 : BitVec 32 := Scalar.muli v4651 c256_i32_3288
  v5673
def k0_mult197 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3309 : BitVec 32 := 256#32
  let v5705 : BitVec 32 := Scalar.muli v4651 c256_i32_3309
  v5705
def k0_mult198 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c256_i32_3330 : BitVec 32 := 256#32
  let v5737 : BitVec 32 := Scalar.muli v4651 c256_i32_3330
  v5737
def k0_mult199 : BitVec 32 :=
  let c0_i32_3337 : BitVec 32 := 0#32
  c0_i32_3337
def k0_mult200 : BitVec 32 :=
  let c0_i32_3340 : BitVec 32 := 0#32
  c0_i32_3340
def k0_mult201 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3377 : BitVec 32 := 256#32
  let v5797 : BitVec 32 := Scalar.muli v5349 c256_i32_3377
  v5797
def k0_mult202 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3408 : BitVec 32 := 256#32
  let v5841 : BitVec 32 := Scalar.muli v5349 c256_i32_3408
  v5841
def k0_mult203 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3439 : BitVec 32 := 256#32
  let v5885 : BitVec 32 := Scalar.muli v5349 c256_i32_3439
  v5885
def k0_mult204 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3470 : BitVec 32 := 256#32
  let v5929 : BitVec 32 := Scalar.muli v5349 c256_i32_3470
  v5929
def k0_mult205 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3501 : BitVec 32 := 256#32
  let v5973 : BitVec 32 := Scalar.muli v5349 c256_i32_3501
  v5973
def k0_mult206 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3532 : BitVec 32 := 256#32
  let v6017 : BitVec 32 := Scalar.muli v5349 c256_i32_3532
  v6017
def k0_mult207 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3558 : BitVec 32 := 256#32
  let v6057 : BitVec 32 := Scalar.muli v5349 c256_i32_3558
  v6057
def k0_mult208 (i : grid0.Coords) : BitVec 32 :=
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c256_i32_3584 : BitVec 32 := 256#32
  let v6097 : BitVec 32 := Scalar.muli v5349 c256_i32_3584
  v6097
@[reducible] def k0_t7_loop (i : grid0.Coords) : Scf.Loop 32 :=
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3602 : BitVec 32 := 1#32
  ⟨c0_i32_3600, v6129, c1_i32_3602⟩
def k0_mult209 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off234 (i : grid0.Coords) (k0_t7 : Fin (k0_t7_loop i).trips) (c1_i32_3664 : BitVec 32) : Fin 3 → Nat :=
  let c0_3666 : Index := 0#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult210 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off235 (i : grid0.Coords) (k0_t7 : Fin (k0_t7_loop i).trips) (c1_i32_3664 : BitVec 32) : Fin 3 → Nat :=
  let c0_3669 : Index := 0#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off236 (i : grid0.Coords) (k0_t7 : Fin (k0_t7_loop i).trips) : Fin 3 → Nat :=
  let c0_3693 : Index := 0#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6228 : Index := Scalar.indexCast v6200
  let c0_3694 : Index := 0#32
  ![0, v6228.toNat, 0]
def k0_mult211 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3702 : BitVec 32 := 256#32
  let v6249 : BitVec 32 := Scalar.muli v6200 c256_i32_3702
  v6249
def k0_off237 (i : grid0.Coords) (k0_t7 : Fin (k0_t7_loop i).trips) : Fin 3 → Nat :=
  let c0_3703 : Index := 0#32
  let c0_3704 : Index := 0#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off238 (i : grid0.Coords) (k0_t7 : Fin (k0_t7_loop i).trips) : Fin 3 → Nat :=
  let c1_3721 : Index := 1#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6267 : Index := Scalar.indexCast v6200
  let c0_3722 : Index := 0#32
  ![1, v6267.toNat, 0]
def k0_mult212 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3730 : BitVec 32 := 256#32
  let v6288 : BitVec 32 := Scalar.muli v6200 c256_i32_3730
  v6288
def k0_off239 (i : grid0.Coords) (k0_t7 : Fin (k0_t7_loop i).trips) : Fin 3 → Nat :=
  let c0_3731 : Index := 0#32
  let c80_3732 : Index := 80#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off240 (i : grid0.Coords) (k0_t7 : Fin (k0_t7_loop i).trips) : Fin 3 → Nat :=
  let c2_3749 : Index := 2#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6306 : Index := Scalar.indexCast v6200
  let c0_3750 : Index := 0#32
  ![2, v6306.toNat, 0]
def k0_mult213 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3758 : BitVec 32 := 256#32
  let v6327 : BitVec 32 := Scalar.muli v6200 c256_i32_3758
  v6327
def k0_off241 (i : grid0.Coords) (k0_t7 : Fin (k0_t7_loop i).trips) : Fin 3 → Nat :=
  let c0_3759 : Index := 0#32
  let c160_3760 : Index := 160#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off242 (i : grid0.Coords) (k0_t7 : Fin (k0_t7_loop i).trips) : Fin 3 → Nat :=
  let c3_3777 : Index := 3#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6345 : Index := Scalar.indexCast v6200
  let c0_3778 : Index := 0#32
  ![3, v6345.toNat, 0]
def k0_mult214 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3786 : BitVec 32 := 256#32
  let v6366 : BitVec 32 := Scalar.muli v6200 c256_i32_3786
  v6366
def k0_off243 (i : grid0.Coords) (k0_t7 : Fin (k0_t7_loop i).trips) : Fin 3 → Nat :=
  let c0_3787 : Index := 0#32
  let c240_3788 : Index := 240#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off244 (i : grid0.Coords) (k0_t7 : Fin (k0_t7_loop i).trips) : Fin 3 → Nat :=
  let c4_3805 : Index := 4#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6384 : Index := Scalar.indexCast v6200
  let c0_3806 : Index := 0#32
  ![4, v6384.toNat, 0]
def k0_mult215 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3814 : BitVec 32 := 256#32
  let v6405 : BitVec 32 := Scalar.muli v6200 c256_i32_3814
  v6405
def k0_off245 (i : grid0.Coords) (k0_t7 : Fin (k0_t7_loop i).trips) : Fin 3 → Nat :=
  let c0_3815 : Index := 0#32
  let c320_3816 : Index := 320#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off246 (i : grid0.Coords) (k0_t7 : Fin (k0_t7_loop i).trips) : Fin 3 → Nat :=
  let c5_3833 : Index := 5#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6423 : Index := Scalar.indexCast v6200
  let c0_3834 : Index := 0#32
  ![5, v6423.toNat, 0]
def k0_mult216 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3842 : BitVec 32 := 256#32
  let v6444 : BitVec 32 := Scalar.muli v6200 c256_i32_3842
  v6444
def k0_off247 (i : grid0.Coords) (k0_t7 : Fin (k0_t7_loop i).trips) : Fin 3 → Nat :=
  let c0_3843 : Index := 0#32
  let c400_3844 : Index := 400#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off248 (i : grid0.Coords) (k0_t7 : Fin (k0_t7_loop i).trips) : Fin 3 → Nat :=
  let c6_3856 : Index := 6#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6458 : Index := Scalar.indexCast v6200
  let c0_3857 : Index := 0#32
  ![6, v6458.toNat, 0]
def k0_mult217 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3865 : BitVec 32 := 256#32
  let v6479 : BitVec 32 := Scalar.muli v6200 c256_i32_3865
  v6479
def k0_off249 (i : grid0.Coords) (k0_t7 : Fin (k0_t7_loop i).trips) : Fin 3 → Nat :=
  let c0_3866 : Index := 0#32
  let c480_3867 : Index := 480#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off250 (i : grid0.Coords) (k0_t7 : Fin (k0_t7_loop i).trips) : Fin 3 → Nat :=
  let c7_3879 : Index := 7#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let v6493 : Index := Scalar.indexCast v6200
  let c0_3880 : Index := 0#32
  ![7, v6493.toNat, 0]
def k0_mult218 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3888 : BitVec 32 := 256#32
  let v6514 : BitVec 32 := Scalar.muli v6200 c256_i32_3888
  v6514
def k0_off251 (i : grid0.Coords) (k0_t7 : Fin (k0_t7_loop i).trips) : Fin 3 → Nat :=
  let c0_3889 : Index := 0#32
  let c560_3890 : Index := 560#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult219 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult220 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off252 (i : grid0.Coords) (k0_t7 : Fin (k0_t7_loop i).trips) : Fin 3 → Nat :=
  let c0_3924 : Index := 0#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult221 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off253 (i : grid0.Coords) (k0_t7 : Fin (k0_t7_loop i).trips) : Fin 3 → Nat :=
  let c0_3935 : Index := 0#32
  let c0_3936 : Index := 0#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off254 (i : grid0.Coords) (k0_t7 : Fin (k0_t7_loop i).trips) : Fin 3 → Nat :=
  let c1_3953 : Index := 1#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult222 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off255 (i : grid0.Coords) (k0_t7 : Fin (k0_t7_loop i).trips) : Fin 3 → Nat :=
  let c0_3964 : Index := 0#32
  let c80_3965 : Index := 80#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off256 (i : grid0.Coords) (k0_t7 : Fin (k0_t7_loop i).trips) : Fin 3 → Nat :=
  let c2_3982 : Index := 2#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult223 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off257 (i : grid0.Coords) (k0_t7 : Fin (k0_t7_loop i).trips) : Fin 3 → Nat :=
  let c0_3993 : Index := 0#32
  let c160_3994 : Index := 160#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off258 (i : grid0.Coords) (k0_t7 : Fin (k0_t7_loop i).trips) : Fin 3 → Nat :=
  let c3_4011 : Index := 3#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult224 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off259 (i : grid0.Coords) (k0_t7 : Fin (k0_t7_loop i).trips) : Fin 3 → Nat :=
  let c0_4022 : Index := 0#32
  let c240_4023 : Index := 240#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off260 (i : grid0.Coords) (k0_t7 : Fin (k0_t7_loop i).trips) : Fin 3 → Nat :=
  let c4_4040 : Index := 4#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult225 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off261 (i : grid0.Coords) (k0_t7 : Fin (k0_t7_loop i).trips) : Fin 3 → Nat :=
  let c0_4051 : Index := 0#32
  let c320_4052 : Index := 320#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off262 (i : grid0.Coords) (k0_t7 : Fin (k0_t7_loop i).trips) : Fin 3 → Nat :=
  let c5_4069 : Index := 5#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult226 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off263 (i : grid0.Coords) (k0_t7 : Fin (k0_t7_loop i).trips) : Fin 3 → Nat :=
  let c0_4080 : Index := 0#32
  let c400_4081 : Index := 400#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off264 (i : grid0.Coords) (k0_t7 : Fin (k0_t7_loop i).trips) : Fin 3 → Nat :=
  let c6_4093 : Index := 6#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult227 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off265 (i : grid0.Coords) (k0_t7 : Fin (k0_t7_loop i).trips) : Fin 3 → Nat :=
  let c0_4104 : Index := 0#32
  let c480_4105 : Index := 480#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off266 (i : grid0.Coords) (k0_t7 : Fin (k0_t7_loop i).trips) : Fin 3 → Nat :=
  let c7_4117 : Index := 7#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult228 (i : grid0.Coords) (k0_t7 : Fin (k0_t7_loop i).trips) : BitVec 32 :=
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off267 (i : grid0.Coords) (k0_t7 : Fin (k0_t7_loop i).trips) : Fin 3 → Nat :=
  let c0_4128 : Index := 0#32
  let c560_4129 : Index := 560#32
  let c2_i32_3663 : BitVec 32 := 2#32
  let c0_i32_3600 : BitVec 32 := 0#32
  let c1_i32_3602 : BitVec 32 := 1#32
  let arg15 : BitVec 32 := Scf.iv c0_i32_3600 c1_i32_3602 k0_t7
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
@[reducible] def k0_t8_loop (i : grid0.Coords) : Scf.Loop 32 :=
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let v6126 : BitVec 32 := Scalar.addi c0_i32_3600 v6125
  let c1_i32_3603 : BitVec 32 := 1#32
  ⟨v6129, v6126, c1_i32_3603⟩
def k0_mult229 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3665 : BitVec 32 := 256#32
  let v6202 : BitVec 32 := Scalar.muli v6201 c256_i32_3665
  v6202
def k0_off268 (i : grid0.Coords) (k0_t8 : Fin (k0_t8_loop i).trips) (c1_i32_3664 : BitVec 32) : Fin 3 → Nat :=
  let c0_3666 : Index := 0#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6201 : BitVec 32 := Scalar.addi v6200 c1_i32_3664
  let c256_i32_3665 : BitVec 32 := 256#32
  let v6202 : BitVec 32 := Scalar.muli v6201 c256_i32_3665
  let v6203 : BitVec 32 := v6202
  let v6204 : Index := Scalar.indexCast v6203
  let c0_3667 : Index := 0#32
  ![0, v6204.toNat, 0]
def k0_mult230 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3668 : BitVec 32 := 256#32
  let v6207 : BitVec 32 := Scalar.muli v6201 c256_i32_3668
  v6207
def k0_off269 (i : grid0.Coords) (k0_t8 : Fin (k0_t8_loop i).trips) (c1_i32_3664 : BitVec 32) : Fin 3 → Nat :=
  let c0_3669 : Index := 0#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6201 : BitVec 32 := Scalar.addi v6200 c1_i32_3664
  let c256_i32_3668 : BitVec 32 := 256#32
  let v6207 : BitVec 32 := Scalar.muli v6201 c256_i32_3668
  let v6208 : BitVec 32 := v6207
  let v6209 : Index := Scalar.indexCast v6208
  let c256_3670 : Index := 256#32
  ![0, v6209.toNat, 256]
def k0_off270 (i : grid0.Coords) (k0_t8 : Fin (k0_t8_loop i).trips) : Fin 3 → Nat :=
  let c0_3693 : Index := 0#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6228 : Index := Scalar.indexCast v6200
  let c0_3694 : Index := 0#32
  ![0, v6228.toNat, 0]
def k0_mult231 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3702 : BitVec 32 := 256#32
  let v6249 : BitVec 32 := Scalar.muli v6200 c256_i32_3702
  v6249
def k0_off271 (i : grid0.Coords) (k0_t8 : Fin (k0_t8_loop i).trips) : Fin 3 → Nat :=
  let c0_3703 : Index := 0#32
  let c0_3704 : Index := 0#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3702 : BitVec 32 := 256#32
  let v6249 : BitVec 32 := Scalar.muli v6200 c256_i32_3702
  let v6250 : BitVec 32 := v6249
  let v6251 : Index := Scalar.indexCast v6250
  ![0, 0, v6251.toNat]
def k0_off272 (i : grid0.Coords) (k0_t8 : Fin (k0_t8_loop i).trips) : Fin 3 → Nat :=
  let c1_3721 : Index := 1#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6267 : Index := Scalar.indexCast v6200
  let c0_3722 : Index := 0#32
  ![1, v6267.toNat, 0]
def k0_mult232 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3730 : BitVec 32 := 256#32
  let v6288 : BitVec 32 := Scalar.muli v6200 c256_i32_3730
  v6288
def k0_off273 (i : grid0.Coords) (k0_t8 : Fin (k0_t8_loop i).trips) : Fin 3 → Nat :=
  let c0_3731 : Index := 0#32
  let c80_3732 : Index := 80#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3730 : BitVec 32 := 256#32
  let v6288 : BitVec 32 := Scalar.muli v6200 c256_i32_3730
  let v6289 : BitVec 32 := v6288
  let v6290 : Index := Scalar.indexCast v6289
  ![0, 80, v6290.toNat]
def k0_off274 (i : grid0.Coords) (k0_t8 : Fin (k0_t8_loop i).trips) : Fin 3 → Nat :=
  let c2_3749 : Index := 2#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6306 : Index := Scalar.indexCast v6200
  let c0_3750 : Index := 0#32
  ![2, v6306.toNat, 0]
def k0_mult233 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3758 : BitVec 32 := 256#32
  let v6327 : BitVec 32 := Scalar.muli v6200 c256_i32_3758
  v6327
def k0_off275 (i : grid0.Coords) (k0_t8 : Fin (k0_t8_loop i).trips) : Fin 3 → Nat :=
  let c0_3759 : Index := 0#32
  let c160_3760 : Index := 160#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3758 : BitVec 32 := 256#32
  let v6327 : BitVec 32 := Scalar.muli v6200 c256_i32_3758
  let v6328 : BitVec 32 := v6327
  let v6329 : Index := Scalar.indexCast v6328
  ![0, 160, v6329.toNat]
def k0_off276 (i : grid0.Coords) (k0_t8 : Fin (k0_t8_loop i).trips) : Fin 3 → Nat :=
  let c3_3777 : Index := 3#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6345 : Index := Scalar.indexCast v6200
  let c0_3778 : Index := 0#32
  ![3, v6345.toNat, 0]
def k0_mult234 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3786 : BitVec 32 := 256#32
  let v6366 : BitVec 32 := Scalar.muli v6200 c256_i32_3786
  v6366
def k0_off277 (i : grid0.Coords) (k0_t8 : Fin (k0_t8_loop i).trips) : Fin 3 → Nat :=
  let c0_3787 : Index := 0#32
  let c240_3788 : Index := 240#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3786 : BitVec 32 := 256#32
  let v6366 : BitVec 32 := Scalar.muli v6200 c256_i32_3786
  let v6367 : BitVec 32 := v6366
  let v6368 : Index := Scalar.indexCast v6367
  ![0, 240, v6368.toNat]
def k0_off278 (i : grid0.Coords) (k0_t8 : Fin (k0_t8_loop i).trips) : Fin 3 → Nat :=
  let c4_3805 : Index := 4#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6384 : Index := Scalar.indexCast v6200
  let c0_3806 : Index := 0#32
  ![4, v6384.toNat, 0]
def k0_mult235 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3814 : BitVec 32 := 256#32
  let v6405 : BitVec 32 := Scalar.muli v6200 c256_i32_3814
  v6405
def k0_off279 (i : grid0.Coords) (k0_t8 : Fin (k0_t8_loop i).trips) : Fin 3 → Nat :=
  let c0_3815 : Index := 0#32
  let c320_3816 : Index := 320#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3814 : BitVec 32 := 256#32
  let v6405 : BitVec 32 := Scalar.muli v6200 c256_i32_3814
  let v6406 : BitVec 32 := v6405
  let v6407 : Index := Scalar.indexCast v6406
  ![0, 320, v6407.toNat]
def k0_off280 (i : grid0.Coords) (k0_t8 : Fin (k0_t8_loop i).trips) : Fin 3 → Nat :=
  let c5_3833 : Index := 5#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6423 : Index := Scalar.indexCast v6200
  let c0_3834 : Index := 0#32
  ![5, v6423.toNat, 0]
def k0_mult236 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3842 : BitVec 32 := 256#32
  let v6444 : BitVec 32 := Scalar.muli v6200 c256_i32_3842
  v6444
def k0_off281 (i : grid0.Coords) (k0_t8 : Fin (k0_t8_loop i).trips) : Fin 3 → Nat :=
  let c0_3843 : Index := 0#32
  let c400_3844 : Index := 400#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3842 : BitVec 32 := 256#32
  let v6444 : BitVec 32 := Scalar.muli v6200 c256_i32_3842
  let v6445 : BitVec 32 := v6444
  let v6446 : Index := Scalar.indexCast v6445
  ![0, 400, v6446.toNat]
def k0_off282 (i : grid0.Coords) (k0_t8 : Fin (k0_t8_loop i).trips) : Fin 3 → Nat :=
  let c6_3856 : Index := 6#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6458 : Index := Scalar.indexCast v6200
  let c0_3857 : Index := 0#32
  ![6, v6458.toNat, 0]
def k0_mult237 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3865 : BitVec 32 := 256#32
  let v6479 : BitVec 32 := Scalar.muli v6200 c256_i32_3865
  v6479
def k0_off283 (i : grid0.Coords) (k0_t8 : Fin (k0_t8_loop i).trips) : Fin 3 → Nat :=
  let c0_3866 : Index := 0#32
  let c480_3867 : Index := 480#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3865 : BitVec 32 := 256#32
  let v6479 : BitVec 32 := Scalar.muli v6200 c256_i32_3865
  let v6480 : BitVec 32 := v6479
  let v6481 : Index := Scalar.indexCast v6480
  ![0, 480, v6481.toNat]
def k0_off284 (i : grid0.Coords) (k0_t8 : Fin (k0_t8_loop i).trips) : Fin 3 → Nat :=
  let c7_3879 : Index := 7#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let v6493 : Index := Scalar.indexCast v6200
  let c0_3880 : Index := 0#32
  ![7, v6493.toNat, 0]
def k0_mult238 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3888 : BitVec 32 := 256#32
  let v6514 : BitVec 32 := Scalar.muli v6200 c256_i32_3888
  v6514
def k0_off285 (i : grid0.Coords) (k0_t8 : Fin (k0_t8_loop i).trips) : Fin 3 → Nat :=
  let c0_3889 : Index := 0#32
  let c560_3890 : Index := 560#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c256_i32_3888 : BitVec 32 := 256#32
  let v6514 : BitVec 32 := Scalar.muli v6200 c256_i32_3888
  let v6515 : BitVec 32 := v6514
  let v6516 : Index := Scalar.indexCast v6515
  ![0, 560, v6516.toNat]
def k0_mult239 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c2_i32_3895 : BitVec 32 := 2#32
  let v6524 : BitVec 32 := Scalar.addi v6200 c2_i32_3895
  let c256_i32_3896 : BitVec 32 := 256#32
  let v6525 : BitVec 32 := Scalar.muli v6524 c256_i32_3896
  v6525
def k0_mult240 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c2_i32_3895 : BitVec 32 := 2#32
  let v6524 : BitVec 32 := Scalar.addi v6200 c2_i32_3895
  let c256_i32_3899 : BitVec 32 := 256#32
  let v6530 : BitVec 32 := Scalar.muli v6524 c256_i32_3899
  v6530
def k0_off286 (i : grid0.Coords) (k0_t8 : Fin (k0_t8_loop i).trips) : Fin 3 → Nat :=
  let c0_3924 : Index := 0#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6552 : Index := Scalar.indexCast v6201
  let c0_3925 : Index := 0#32
  ![0, v6552.toNat, 0]
def k0_mult241 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  v6575
def k0_off287 (i : grid0.Coords) (k0_t8 : Fin (k0_t8_loop i).trips) : Fin 3 → Nat :=
  let c0_3935 : Index := 0#32
  let c0_3936 : Index := 0#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3934 : BitVec 32 := 256#32
  let v6575 : BitVec 32 := Scalar.muli v6201 c256_i32_3934
  let v6576 : BitVec 32 := v6575
  let v6577 : Index := Scalar.indexCast v6576
  ![0, 0, v6577.toNat]
def k0_off288 (i : grid0.Coords) (k0_t8 : Fin (k0_t8_loop i).trips) : Fin 3 → Nat :=
  let c1_3953 : Index := 1#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6594 : Index := Scalar.indexCast v6201
  let c0_3954 : Index := 0#32
  ![1, v6594.toNat, 0]
def k0_mult242 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  v6617
def k0_off289 (i : grid0.Coords) (k0_t8 : Fin (k0_t8_loop i).trips) : Fin 3 → Nat :=
  let c0_3964 : Index := 0#32
  let c80_3965 : Index := 80#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3963 : BitVec 32 := 256#32
  let v6617 : BitVec 32 := Scalar.muli v6201 c256_i32_3963
  let v6618 : BitVec 32 := v6617
  let v6619 : Index := Scalar.indexCast v6618
  ![0, 80, v6619.toNat]
def k0_off290 (i : grid0.Coords) (k0_t8 : Fin (k0_t8_loop i).trips) : Fin 3 → Nat :=
  let c2_3982 : Index := 2#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6636 : Index := Scalar.indexCast v6201
  let c0_3983 : Index := 0#32
  ![2, v6636.toNat, 0]
def k0_mult243 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  v6659
def k0_off291 (i : grid0.Coords) (k0_t8 : Fin (k0_t8_loop i).trips) : Fin 3 → Nat :=
  let c0_3993 : Index := 0#32
  let c160_3994 : Index := 160#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_3992 : BitVec 32 := 256#32
  let v6659 : BitVec 32 := Scalar.muli v6201 c256_i32_3992
  let v6660 : BitVec 32 := v6659
  let v6661 : Index := Scalar.indexCast v6660
  ![0, 160, v6661.toNat]
def k0_off292 (i : grid0.Coords) (k0_t8 : Fin (k0_t8_loop i).trips) : Fin 3 → Nat :=
  let c3_4011 : Index := 3#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6678 : Index := Scalar.indexCast v6201
  let c0_4012 : Index := 0#32
  ![3, v6678.toNat, 0]
def k0_mult244 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  v6701
def k0_off293 (i : grid0.Coords) (k0_t8 : Fin (k0_t8_loop i).trips) : Fin 3 → Nat :=
  let c0_4022 : Index := 0#32
  let c240_4023 : Index := 240#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4021 : BitVec 32 := 256#32
  let v6701 : BitVec 32 := Scalar.muli v6201 c256_i32_4021
  let v6702 : BitVec 32 := v6701
  let v6703 : Index := Scalar.indexCast v6702
  ![0, 240, v6703.toNat]
def k0_off294 (i : grid0.Coords) (k0_t8 : Fin (k0_t8_loop i).trips) : Fin 3 → Nat :=
  let c4_4040 : Index := 4#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6720 : Index := Scalar.indexCast v6201
  let c0_4041 : Index := 0#32
  ![4, v6720.toNat, 0]
def k0_mult245 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  v6743
def k0_off295 (i : grid0.Coords) (k0_t8 : Fin (k0_t8_loop i).trips) : Fin 3 → Nat :=
  let c0_4051 : Index := 0#32
  let c320_4052 : Index := 320#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4050 : BitVec 32 := 256#32
  let v6743 : BitVec 32 := Scalar.muli v6201 c256_i32_4050
  let v6744 : BitVec 32 := v6743
  let v6745 : Index := Scalar.indexCast v6744
  ![0, 320, v6745.toNat]
def k0_off296 (i : grid0.Coords) (k0_t8 : Fin (k0_t8_loop i).trips) : Fin 3 → Nat :=
  let c5_4069 : Index := 5#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6762 : Index := Scalar.indexCast v6201
  let c0_4070 : Index := 0#32
  ![5, v6762.toNat, 0]
def k0_mult246 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  v6785
def k0_off297 (i : grid0.Coords) (k0_t8 : Fin (k0_t8_loop i).trips) : Fin 3 → Nat :=
  let c0_4080 : Index := 0#32
  let c400_4081 : Index := 400#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4079 : BitVec 32 := 256#32
  let v6785 : BitVec 32 := Scalar.muli v6201 c256_i32_4079
  let v6786 : BitVec 32 := v6785
  let v6787 : Index := Scalar.indexCast v6786
  ![0, 400, v6787.toNat]
def k0_off298 (i : grid0.Coords) (k0_t8 : Fin (k0_t8_loop i).trips) : Fin 3 → Nat :=
  let c6_4093 : Index := 6#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6800 : Index := Scalar.indexCast v6201
  let c0_4094 : Index := 0#32
  ![6, v6800.toNat, 0]
def k0_mult247 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  v6823
def k0_off299 (i : grid0.Coords) (k0_t8 : Fin (k0_t8_loop i).trips) : Fin 3 → Nat :=
  let c0_4104 : Index := 0#32
  let c480_4105 : Index := 480#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4103 : BitVec 32 := 256#32
  let v6823 : BitVec 32 := Scalar.muli v6201 c256_i32_4103
  let v6824 : BitVec 32 := v6823
  let v6825 : Index := Scalar.indexCast v6824
  ![0, 480, v6825.toNat]
def k0_off300 (i : grid0.Coords) (k0_t8 : Fin (k0_t8_loop i).trips) : Fin 3 → Nat :=
  let c7_4117 : Index := 7#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let v6838 : Index := Scalar.indexCast v6201
  let c0_4118 : Index := 0#32
  ![7, v6838.toNat, 0]
def k0_mult248 (i : grid0.Coords) (k0_t8 : Fin (k0_t8_loop i).trips) : BitVec 32 :=
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  v6861
def k0_off301 (i : grid0.Coords) (k0_t8 : Fin (k0_t8_loop i).trips) : Fin 3 → Nat :=
  let c0_4128 : Index := 0#32
  let c560_4129 : Index := 560#32
  let c2_i32_3663 : BitVec 32 := 2#32
  let c0_i32_3600 : BitVec 32 := 0#32
  let arg2 : BitVec 32 := BitVec.ofNat 32 (i 2).val
  let c4_i32_2740 : BitVec 32 := 4#32
  let v4650 : BitVec 32 := Scalar.muli arg2 c4_i32_2740
  let c3_i32_2741 : BitVec 32 := 3#32
  let v4651 : BitVec 32 := Scalar.addi v4650 c3_i32_2741
  let c1_i32_3018 : BitVec 32 := 1#32
  let v5348 : BitVec 32 := Scalar.subi v4651 c1_i32_3018
  let c0_i32_3019 : BitVec 32 := 0#32
  let v5349 : BitVec 32 := Scalar.maxsi v5348 c0_i32_3019
  let c1_i32_3591 : BitVec 32 := 1#32
  let v6107 : BitVec 32 := Scalar.addi v5349 c1_i32_3591
  let c0_i32_3593 : BitVec 32 := 0#32
  let v6109 : BitVec 1 := Scalar.cmpi .sgt v6107 c0_i32_3593
  let v6110 : BitVec 32 := Scalar.extui v6109
  let c0_i32_3594 : BitVec 32 := 0#32
  let v6111 : BitVec 1 := Scalar.cmpi .slt v6107 c0_i32_3594
  let v6112 : BitVec 32 := Scalar.extui v6111
  let v6113 : BitVec 32 := Scalar.subi v6110 v6112
  let c2_i32_3592 : BitVec 32 := 2#32
  let c0_i32_3595 : BitVec 32 := 0#32
  let v6114 : BitVec 1 := Scalar.cmpi .sgt c2_i32_3592 c0_i32_3595
  let v6115 : BitVec 32 := Scalar.extui v6114
  let c0_i32_3596 : BitVec 32 := 0#32
  let v6116 : BitVec 1 := Scalar.cmpi .slt c2_i32_3592 c0_i32_3596
  let v6117 : BitVec 32 := Scalar.extui v6116
  let v6118 : BitVec 32 := Scalar.subi v6115 v6117
  let v6119 : BitVec 1 := Scalar.cmpi .ne v6113 v6118
  let v6120 : BitVec 32 := Scalar.remsi v6107 c2_i32_3592
  let c0_i32_3597 : BitVec 32 := 0#32
  let v6121 : BitVec 1 := Scalar.cmpi .ne v6120 c0_i32_3597
  let v6122 : BitVec 1 := Scalar.andi v6119 v6121
  let v6108 : BitVec 32 := Scalar.divsi v6107 c2_i32_3592
  let c1_i32_3598 : BitVec 32 := 1#32
  let v6123 : BitVec 32 := Scalar.subi v6108 c1_i32_3598
  let v6124 : BitVec 32 := Scalar.select v6122 v6123 v6108
  let v6125 : BitVec 32 := Scalar.subi v6124 c0_i32_3600
  let c1_i32_3601 : BitVec 32 := 1#32
  let v6127 : BitVec 32 := Scalar.divsi v6125 c1_i32_3601
  let v6128 : BitVec 32 := Scalar.muli v6127 c1_i32_3601
  let v6129 : BitVec 32 := Scalar.addi c0_i32_3600 v6128
  let c1_i32_3603 : BitVec 32 := 1#32
  let arg15 : BitVec 32 := Scf.iv v6129 c1_i32_3603 k0_t8
  let v6200 : BitVec 32 := Scalar.muli c2_i32_3663 arg15
  let c1_i32_3664 : BitVec 32 := 1#32
  let v6201 : BitVec 32 := Scalar.addi v6200 c1_i32_3664
  let c256_i32_4127 : BitVec 32 := 256#32
  let v6861 : BitVec 32 := Scalar.muli v6201 c256_i32_4127
  let v6862 : BitVec 32 := v6861
  let v6863 : Index := Scalar.indexCast v6862
  ![0, 560, v6863.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Proof.Attn.Ok.lean ====
/- A program that only loads, stores and loops, run beside arrays of which nothing but the holding is stated: what it needs at
   each access is a way to take the accessed array out of what is held and to put it back. -/
module

public import Idealize.ShloMosaic.Lib.Scf
public import Idealize.ShloMosaic.Rules.Step
public import Idealize.ShloMosaic.Lib.Memref

@[expose] public section

noncomputable section

namespace Cert.Attn

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels}
local notation "𝕄" => MT nD τ sig Ix Val Name U Lvl

variable (defs : Defs nD τ sig Val Λ) (𝒱 : Variants) (c : Thread nD τ) (E : Set Name)

/-- Holding `S`, the program runs and `S` is held again. -/
def Ok (S : sProp 𝕄) {α : Type} (p : Prog (TpuEff nD τ sig Val Λ c.2) α) : Prop :=
  S ⊢ wp frame (wpE (Ix := Ix) (Name := Name) (U := U) (Lvl := Lvl) defs 𝒱 c none) E p (fun _ => S)

/-- The memref's array may be read: it is taken out at some contents and put back at the same. -/
def Rd (S : sProp 𝕄) {cs : CoreSpace} {s : Shape} {e : EltTy} (m : Memref sig c.2.kind cs s e) : Prop :=
  ∃ T : Finset (Idx (m.view.loc c)), m.view.set ⊆ T ∧
    (S ⊢ (iprop(∃ f : Buf Val (m.view.loc c), (m.view.loc c ↦[T]{fullShare} f) ∗ ((m.view.loc c ↦[T]{fullShare} f) -∗ S)) : sProp 𝕄))

/-- The memref's array may be written: it is taken out at some contents and put back at any. -/
def Wr (S : sProp 𝕄) {cs : CoreSpace} {s : Shape} {e : EltTy} (m : Memref sig c.2.kind cs s e) : Prop :=
  ∃ T : Finset (Idx (m.view.loc c)), m.view.set ⊆ T ∧
    (S ⊢ (iprop(∃ f : Buf Val (m.view.loc c), (m.view.loc c ↦[T]{fullShare} f) ∗ (∀ g : Buf Val (m.view.loc c), (m.view.loc c ↦[T]{fullShare} g) -∗ S)) : sProp 𝕄))

variable {defs 𝒱 c E}

theorem Wr.rd {S : sProp 𝕄} {cs : CoreSpace} {s : Shape} {e : EltTy} {m : Memref sig c.2.kind cs s e} (h : Wr c S m) : Rd c S m := by
  obtain ⟨T, hT, hS⟩ := h
  refine ⟨T, hT, hS.trans ?_⟩
  iintro ⟨%f, Hf, Hg⟩
  iexists f
  isplitl [Hf]; · iexact Hf
  iapply Hg

theorem Ok.ret {S : sProp 𝕄} {α : Type} (a : α) : Ok defs 𝒱 c E S (pure a) := by
  unfold Ok
  rw [wp_pure]
  iintro H; imodintro; iexact H

theorem Ok.bind {S : sProp 𝕄} {α β : Type} {p : Prog (TpuEff nD τ sig Val Λ c.2) α} {k : α → Prog (TpuEff nD τ sig Val Λ c.2) β}
    (hp : Ok defs 𝒱 c E S p) (hk : ∀ a, Ok defs 𝒱 c E S (k a)) : Ok defs 𝒱 c E S (p >>= k) := by
  unfold Ok at *
  rw [wp_bind]
  exact hp.trans (wp_mono _ _ _ hk)

theorem Ok.load {S : sProp 𝕄} {cs : CoreSpace} {s : Shape} {e : EltTy} {m : Memref sig c.2.kind cs s e} (h : Rd c S m) (r : LoadRect s)
    (hl : m.view.LoadsAt r) : Ok defs 𝒱 c E S (Prog.lift (.load m r hl)) := by
  obtain ⟨T, hT, hS⟩ := h
  refine hS.trans ?_
  iintro ⟨%f, Hf, Hg⟩
  iapply (wp_load 𝒱 c none E (hl := hl) (k := fun x => .ret x) (f := f) ((View.setOn_subset_set _ _).trans hT)) $$ Hf
  iintro Hf
  rw [wp_ret]
  imodintro
  iapply Hg; iexact Hf

theorem Ok.store {S : sProp 𝕄} {cs : CoreSpace} {s : Shape} {e : EltTy} {m : Memref sig c.2.kind cs s e} (h : Wr c S m) (r : Rect s)
    (w : r.shape.Idx → Val e) (M : Finset r.shape.Idx) (hx : (m.access r).Stores M) (hm : M = Finset.univ ∨ ∀ a, r.stride a = 1) :
    Ok defs 𝒱 c E S (Prog.lift (.store m r w M hx hm)) := by
  obtain ⟨T, hT, hS⟩ := h
  refine hS.trans ?_
  iintro ⟨%f, Hf, Hg⟩
  iapply (wp_store 𝒱 c none E (hx := hx) (hm := hm) (k := fun x => .ret x) (f := f)
    (((View.setOn_subset_set _ _).trans (View.set_slice_subset _ _)).trans hT)) $$ Hf
  iintro Hf
  rw [wp_ret]
  imodintro
  iapply Hg; iexact Hf

theorem Ok.word {S : sProp 𝕄} {s : Shape} {e : EltTy} {m : Memref sig c.2.kind .smem s e} (h : Rd c S m) (r : Rect s)
    (h1 : r.shape.numel = 1) (hp : e.packing = 1) : Ok defs 𝒱 c E S (smemLoad m r h1 hp) := by
  unfold smemLoad smemLoadElt
  obtain ⟨T, hT, hS⟩ := h
  refine hS.trans ?_
  iintro ⟨%f, Hf, Hg⟩
  iapply (wp_load 𝒱 c none E (k := fun x => .ret (x _)) (f := f) ((View.setOn_subset_set _ _).trans hT)) $$ Hf
  iintro Hf
  rw [wp_ret]
  imodintro
  iapply Hg; iexact Hf

theorem Ok.loop {S : sProp 𝕄} {σ : Type} {w : Nat} (lb ub st : BitVec w) (hok : Scf.OK lb ub st) (init : σ)
    {body : Fin (Scf.trips lb ub st) → σ → Prog (TpuEff nD τ sig Val Λ c.2) σ}
    (h : ∀ k a, Ok defs 𝒱 c E S (body k a)) : Ok defs 𝒱 c E S (Scf.for lb ub st hok init body) := by
  unfold Ok
  refine BIBase.Entails.trans ?_ (Scf.wp_for _ _ _ lb ub st hok init body (fun _ _ => S) (fun k a => h k a))
  iintro H
  isplitl [H]; · iexact H
  iintro %a H; iexact H

theorem Ok.turns {S : sProp 𝕄} {σ : Type} {w : Nat} {l : Scf.Loop w} {hok : l.OK} {init : σ}
    {body : Fin l.trips → σ → Prog (TpuEff nD τ sig Val Λ c.2) σ}
    (h : ∀ k a, Ok defs 𝒱 c E S (body k a)) : Ok defs 𝒱 c E S (l.for hok init body) := Ok.loop _ _ _ hok init h

variable {cs : CoreSpace} {s : Shape} {e : EltTy} {m : Memref sig c.2.kind cs s e}

theorem Rd.here {A R : sProp 𝕄} (h : Rd c A m) : Rd c iprop(A ∗ R) m := by
  obtain ⟨T, hT, hS⟩ := h
  refine ⟨T, hT, (sep_mono hS .rfl).trans ?_⟩
  iintro ⟨⟨%f, Hf, Hg⟩, HR⟩
  iexists f
  isplitl [Hf]; · iexact Hf
  iintro Hf
  isplitr [HR]
  · iapply Hg; iexact Hf
  iexact HR

theorem Rd.there {A R : sProp 𝕄} (h : Rd c R m) : Rd c iprop(A ∗ R) m := by
  obtain ⟨T, hT, hS⟩ := h
  refine ⟨T, hT, (sep_mono .rfl hS).trans ?_⟩
  iintro ⟨HA, ⟨%f, Hf, Hg⟩⟩
  iexists f
  isplitl [Hf]; · iexact Hf
  iintro Hf
  isplitl [HA]; · iexact HA
  iapply Hg; iexact Hf

theorem Wr.here {A R : sProp 𝕄} (h : Wr c A m) : Wr c iprop(A ∗ R) m := by
  obtain ⟨T, hT, hS⟩ := h
  refine ⟨T, hT, (sep_mono hS .rfl).trans ?_⟩
  iintro ⟨⟨%f, Hf, Hg⟩, HR⟩
  iexists f
  isplitl [Hf]; · iexact Hf
  iintro %g Hf
  isplitr [HR]
  · iapply Hg; iexact Hf
  iexact HR

theorem Wr.there {A R : sProp 𝕄} (h : Wr c R m) : Wr c iprop(A ∗ R) m := by
  obtain ⟨T, hT, hS⟩ := h
  refine ⟨T, hT, (sep_mono .rfl hS).trans ?_⟩
  iintro ⟨HA, ⟨%f, Hf, Hg⟩⟩
  iexists f
  isplitl [Hf]; · iexact Hf
  iintro %g Hf
  isplitl [HA]; · iexact HA
  iapply Hg; iexact Hf

theorem Rd.owned {X : s.Idx → Val e} : Rd c (owns c m fullShare X : sProp 𝕄) m := by
  refine ⟨m.view.set, Finset.Subset.refl _, ?_⟩
  unfold owns
  iintro ⟨%f, %hf, Hf⟩
  iexists f
  isplitl [Hf]; · iexact Hf
  iintro Hf
  iexists f
  isplitr; · ipureintro; exact hf
  iexact Hf

theorem Wr.owned : Wr c (iprop(∃ X, owns c m fullShare X) : sProp 𝕄) m := by
  refine ⟨m.view.set, Finset.Subset.refl _, ?_⟩
  unfold owns
  iintro ⟨%X, %f, %hf, Hf⟩
  iexists f
  isplitl [Hf]; · iexact Hf
  iintro %g Hf
  iexists m.view.read Val g
  iexists g
  isplitr; · ipureintro; rfl
  iexact Hf

theorem Wr.held : Wr c (iprop(∃ f : Buf Val (m.view.loc c), (m.view.loc c ↦{fullShare} f)) : sProp 𝕄) m := by
  refine ⟨Finset.univ, Finset.subset_univ _, ?_⟩
  iintro ⟨%f, Hf⟩
  iexists f
  isplitl [Hf]; · iexact Hf
  iintro %g Hf
  iexists g
  iexact Hf

end Cert.Attn

end
-- ==== Proof.Attn.Base.lean ====
/- What the attention kernel's parts are run beside: a way to each of the twelve arrays. -/
module

public import proofs.«01_k».proof.Kernel2Ideal
public import proofs.«01_k».proof.Proof.Attn.Ok
public import Idealize.ShloMosaic.Lib.Pipeline.Kit

@[expose] public section

noncomputable section

namespace Cert.Kernel2Ideal.Attn

open Cert.Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

/-- The kernels' functions, one of which is the attention's. -/
local notation "𝔻" => Defs nD τ sig (Elt F) Λ₀

/-- Reading arrays 3 to 9 and writing arrays 10 to 14 leaves what is held. -/
structure Ctx (c : Dev nD) (S : sProp 𝕄)
    (a3 : Memref sig .tc .smem S8 .f32) (a4 : Memref sig .tc .vmem S1x512x1024 .bf16) (a5 : Memref sig .tc .vmem S1x4096x512 .bf16)
    (a6 : Memref sig .tc .vmem S1x640x4096 .bf16) (a7 : Memref sig .tc .vmem S1x16x512 .f32) (a8 : Memref sig .tc .vmem S8x256x256 .f32)
    (a9 : Memref sig .tc .vmem S8x256x256 .f32) (a10 : Memref sig .tc .vmem S1x1024x512 .bf16) (a11 : Memref sig .tc .vmem S8x16x256 .f32)
    (a12 : Memref sig .tc .vmem S2x8x256x256 .f32) (a13 : Memref sig .tc .vmem S8x1x256 .f32) (a14 : Memref sig .tc .vmem S8x80x256 .f32) : Prop where
  r3 : Rd (c : Thread nD τ) S a3
  r4 : Rd (c : Thread nD τ) S a4
  r5 : Rd (c : Thread nD τ) S a5
  r6 : Rd (c : Thread nD τ) S a6
  r7 : Rd (c : Thread nD τ) S a7
  r8 : Rd (c : Thread nD τ) S a8
  r9 : Rd (c : Thread nD τ) S a9
  w10 : Wr (c : Thread nD τ) S a10
  w11 : Wr (c : Thread nD τ) S a11
  w12 : Wr (c : Thread nD τ) S a12
  w13 : Wr (c : Thread nD τ) S a13
  w14 : Wr (c : Thread nD τ) S a14

/-- A part of the kernel leaves what is held. -/
abbrev Fine (D : Defs nD τ sig (Elt F) Λ₀) (c : Dev nD) (S : sProp 𝕄) {α : Type} (p : Prog (TpuEff nD τ sig (Elt F) Λ₀ .tc) α) : Prop :=
  Ok D Variants.none (c : Thread nD τ) Set.univ S p

variable {D : Defs nD τ sig (Elt F) Λ₀} {c : Dev nD}
    {a3 : Memref sig .tc .smem S8 .f32} {a4 : Memref sig .tc .vmem S1x512x1024 .bf16} {a5 : Memref sig .tc .vmem S1x4096x512 .bf16}
    {a6 : Memref sig .tc .vmem S1x640x4096 .bf16} {a7 : Memref sig .tc .vmem S1x16x512 .f32} {a8 : Memref sig .tc .vmem S8x256x256 .f32}
    {a9 : Memref sig .tc .vmem S8x256x256 .f32} {a10 : Memref sig .tc .vmem S1x1024x512 .bf16} {a11 : Memref sig .tc .vmem S8x16x256 .f32}
    {a12 : Memref sig .tc .vmem S2x8x256x256 .f32} {a13 : Memref sig .tc .vmem S8x1x256 .f32} {a14 : Memref sig .tc .vmem S8x80x256 .f32}

theorem Ctx.w3 {S : sProp 𝕄} (C : Ctx c S a3 a4 a5 a6 a7 a8 a9 a10 a11 a12 a13 a14) {r : Rect _} {h1 : r.shape.numel = 1}
    {hp : EltTy.f32.packing = 1} {α : Type} {k : Elt F .f32 → Prog (TpuEff nD τ sig (Elt F) Λ₀ .tc) α} (h : ∀ v, Fine D c S (k v)) :
    Fine D c S (smemLoad a3 r h1 hp >>= k) := (Ok.word C.r3 r h1 hp).bind h

theorem Ctx.l3 {S : sProp 𝕄} (C : Ctx c S a3 a4 a5 a6 a7 a8 a9 a10 a11 a12 a13 a14) {r : LoadRect _} {hl : a3.view.LoadsAt r} {α : Type}
    {k : (r.shape.Idx → Elt F _) → Prog (TpuEff nD τ sig (Elt F) Λ₀ .tc) α} (h : ∀ v, Fine D c S (k v)) :
    Fine D c S (Prog.lift (.load a3 r hl) >>= k) := (Ok.load C.r3 r hl).bind h

theorem Ctx.l4 {S : sProp 𝕄} (C : Ctx c S a3 a4 a5 a6 a7 a8 a9 a10 a11 a12 a13 a14) {r : LoadRect _} {hl : a4.view.LoadsAt r} {α : Type}
    {k : (r.shape.Idx → Elt F _) → Prog (TpuEff nD τ sig (Elt F) Λ₀ .tc) α} (h : ∀ v, Fine D c S (k v)) :
    Fine D c S (Prog.lift (.load a4 r hl) >>= k) := (Ok.load C.r4 r hl).bind h

theorem Ctx.l5 {S : sProp 𝕄} (C : Ctx c S a3 a4 a5 a6 a7 a8 a9 a10 a11 a12 a13 a14) {r : LoadRect _} {hl : a5.view.LoadsAt r} {α : Type}
    {k : (r.shape.Idx → Elt F _) → Prog (TpuEff nD τ sig (Elt F) Λ₀ .tc) α} (h : ∀ v, Fine D c S (k v)) :
    Fine D c S (Prog.lift (.load a5 r hl) >>= k) := (Ok.load C.r5 r hl).bind h

theorem Ctx.l6 {S : sProp 𝕄} (C : Ctx c S a3 a4 a5 a6 a7 a8 a9 a10 a11 a12 a13 a14) {r : LoadRect _} {hl : a6.view.LoadsAt r} {α : Type}
    {k : (r.shape.Idx → Elt F _) → Prog (TpuEff nD τ sig (Elt F) Λ₀ .tc) α} (h : ∀ v, Fine D c S (k v)) :
    Fine D c S (Prog.lift (.load a6 r hl) >>= k) := (Ok.load C.r6 r hl).bind h

theorem Ctx.l7 {S : sProp 𝕄} (C : Ctx c S a3 a4 a5 a6 a7 a8 a9 a10 a11 a12 a13 a14) {r : LoadRect _} {hl : a7.view.LoadsAt r} {α : Type}
    {k : (r.shape.Idx → Elt F _) → Prog (TpuEff nD τ sig (Elt F) Λ₀ .tc) α} (h : ∀ v, Fine D c S (k v)) :
    Fine D c S (Prog.lift (.load a7 r hl) >>= k) := (Ok.load C.r7 r hl).bind h

theorem Ctx.l8 {S : sProp 𝕄} (C : Ctx c S a3 a4 a5 a6 a7 a8 a9 a10 a11 a12 a13 a14) {r : LoadRect _} {hl : a8.view.LoadsAt r} {α : Type}
    {k : (r.shape.Idx → Elt F _) → Prog (TpuEff nD τ sig (Elt F) Λ₀ .tc) α} (h : ∀ v, Fine D c S (k v)) :
    Fine D c S (Prog.lift (.load a8 r hl) >>= k) := (Ok.load C.r8 r hl).bind h

theorem Ctx.l9 {S : sProp 𝕄} (C : Ctx c S a3 a4 a5 a6 a7 a8 a9 a10 a11 a12 a13 a14) {r : LoadRect _} {hl : a9.view.LoadsAt r} {α : Type}
    {k : (r.shape.Idx → Elt F _) → Prog (TpuEff nD τ sig (Elt F) Λ₀ .tc) α} (h : ∀ v, Fine D c S (k v)) :
    Fine D c S (Prog.lift (.load a9 r hl) >>= k) := (Ok.load C.r9 r hl).bind h

theorem Ctx.l10 {S : sProp 𝕄} (C : Ctx c S a3 a4 a5 a6 a7 a8 a9 a10 a11 a12 a13 a14) {r : LoadRect _} {hl : a10.view.LoadsAt r} {α : Type}
    {k : (r.shape.Idx → Elt F _) → Prog (TpuEff nD τ sig (Elt F) Λ₀ .tc) α} (h : ∀ v, Fine D c S (k v)) :
    Fine D c S (Prog.lift (.load a10 r hl) >>= k) := (Ok.load C.w10.rd r hl).bind h

theorem Ctx.l11 {S : sProp 𝕄} (C : Ctx c S a3 a4 a5 a6 a7 a8 a9 a10 a11 a12 a13 a14) {r : LoadRect _} {hl : a11.view.LoadsAt r} {α : Type}
    {k : (r.shape.Idx → Elt F _) → Prog (TpuEff nD τ sig (Elt F) Λ₀ .tc) α} (h : ∀ v, Fine D c S (k v)) :
    Fine D c S (Prog.lift (.load a11 r hl) >>= k) := (Ok.load C.w11.rd r hl).bind h

theorem Ctx.l12 {S : sProp 𝕄} (C : Ctx c S a3 a4 a5 a6 a7 a8 a9 a10 a11 a12 a13 a14) {r : LoadRect _} {hl : a12.view.LoadsAt r} {α : Type}
    {k : (r.shape.Idx → Elt F _) → Prog (TpuEff nD τ sig (Elt F) Λ₀ .tc) α} (h : ∀ v, Fine D c S (k v)) :
    Fine D c S (Prog.lift (.load a12 r hl) >>= k) := (Ok.load C.w12.rd r hl).bind h

theorem Ctx.l13 {S : sProp 𝕄} (C : Ctx c S a3 a4 a5 a6 a7 a8 a9 a10 a11 a12 a13 a14) {r : LoadRect _} {hl : a13.view.LoadsAt r} {α : Type}
    {k : (r.shape.Idx → Elt F _) → Prog (TpuEff nD τ sig (Elt F) Λ₀ .tc) α} (h : ∀ v, Fine D c S (k v)) :
    Fine D c S (Prog.lift (.load a13 r hl) >>= k) := (Ok.load C.w13.rd r hl).bind h

theorem Ctx.l14 {S : sProp 𝕄} (C : Ctx c S a3 a4 a5 a6 a7 a8 a9 a10 a11 a12 a13 a14) {r : LoadRect _} {hl : a14.view.LoadsAt r} {α : Type}
    {k : (r.shape.Idx → Elt F _) → Prog (TpuEff nD τ sig (Elt F) Λ₀ .tc) α} (h : ∀ v, Fine D c S (k v)) :
    Fine D c S (Prog.lift (.load a14 r hl) >>= k) := (Ok.load C.w14.rd r hl).bind h

theorem Ctx.s10 {S : sProp 𝕄} (C : Ctx c S a3 a4 a5 a6 a7 a8 a9 a10 a11 a12 a13 a14) {r : Rect _} {w : r.shape.Idx → Elt F _} {M : Finset r.shape.Idx}
    {hx : (a10.access r).Stores M} {hm : M = Finset.univ ∨ ∀ a, r.stride a = 1} {α : Type}
    {k : PUnit → Prog (TpuEff nD τ sig (Elt F) Λ₀ .tc) α} (h : ∀ v, Fine D c S (k v)) :
    Fine D c S (Prog.lift (.store a10 r w M hx hm) >>= k) := (Ok.store C.w10 r w M hx hm).bind h

theorem Ctx.e10 {S : sProp 𝕄} (C : Ctx c S a3 a4 a5 a6 a7 a8 a9 a10 a11 a12 a13 a14) {r : Rect _} {w : r.shape.Idx → Elt F _} {M : Finset r.shape.Idx}
    {hx : (a10.access r).Stores M} {hm : M = Finset.univ ∨ ∀ a, r.stride a = 1} :
    Fine D c S (Prog.lift (.store a10 r w M hx hm)) := Ok.store C.w10 r w M hx hm

theorem Ctx.s11 {S : sProp 𝕄} (C : Ctx c S a3 a4 a5 a6 a7 a8 a9 a10 a11 a12 a13 a14) {r : Rect _} {w : r.shape.Idx → Elt F _} {M : Finset r.shape.Idx}
    {hx : (a11.access r).Stores M} {hm : M = Finset.univ ∨ ∀ a, r.stride a = 1} {α : Type}
    {k : PUnit → Prog (TpuEff nD τ sig (Elt F) Λ₀ .tc) α} (h : ∀ v, Fine D c S (k v)) :
    Fine D c S (Prog.lift (.store a11 r w M hx hm) >>= k) := (Ok.store C.w11 r w M hx hm).bind h

theorem Ctx.e11 {S : sProp 𝕄} (C : Ctx c S a3 a4 a5 a6 a7 a8 a9 a10 a11 a12 a13 a14) {r : Rect _} {w : r.shape.Idx → Elt F _} {M : Finset r.shape.Idx}
    {hx : (a11.access r).Stores M} {hm : M = Finset.univ ∨ ∀ a, r.stride a = 1} :
    Fine D c S (Prog.lift (.store a11 r w M hx hm)) := Ok.store C.w11 r w M hx hm

theorem Ctx.s12 {S : sProp 𝕄} (C : Ctx c S a3 a4 a5 a6 a7 a8 a9 a10 a11 a12 a13 a14) {r : Rect _} {w : r.shape.Idx → Elt F _} {M : Finset r.shape.Idx}
    {hx : (a12.access r).Stores M} {hm : M = Finset.univ ∨ ∀ a, r.stride a = 1} {α : Type}
    {k : PUnit → Prog (TpuEff nD τ sig (Elt F) Λ₀ .tc) α} (h : ∀ v, Fine D c S (k v)) :
    Fine D c S (Prog.lift (.store a12 r w M hx hm) >>= k) := (Ok.store C.w12 r w M hx hm).bind h

theorem Ctx.e12 {S : sProp 𝕄} (C : Ctx c S a3 a4 a5 a6 a7 a8 a9 a10 a11 a12 a13 a14) {r : Rect _} {w : r.shape.Idx → Elt F _} {M : Finset r.shape.Idx}
    {hx : (a12.access r).Stores M} {hm : M = Finset.univ ∨ ∀ a, r.stride a = 1} :
    Fine D c S (Prog.lift (.store a12 r w M hx hm)) := Ok.store C.w12 r w M hx hm

theorem Ctx.s13 {S : sProp 𝕄} (C : Ctx c S a3 a4 a5 a6 a7 a8 a9 a10 a11 a12 a13 a14) {r : Rect _} {w : r.shape.Idx → Elt F _} {M : Finset r.shape.Idx}
    {hx : (a13.access r).Stores M} {hm : M = Finset.univ ∨ ∀ a, r.stride a = 1} {α : Type}
    {k : PUnit → Prog (TpuEff nD τ sig (Elt F) Λ₀ .tc) α} (h : ∀ v, Fine D c S (k v)) :
    Fine D c S (Prog.lift (.store a13 r w M hx hm) >>= k) := (Ok.store C.w13 r w M hx hm).bind h

theorem Ctx.e13 {S : sProp 𝕄} (C : Ctx c S a3 a4 a5 a6 a7 a8 a9 a10 a11 a12 a13 a14) {r : Rect _} {w : r.shape.Idx → Elt F _} {M : Finset r.shape.Idx}
    {hx : (a13.access r).Stores M} {hm : M = Finset.univ ∨ ∀ a, r.stride a = 1} :
    Fine D c S (Prog.lift (.store a13 r w M hx hm)) := Ok.store C.w13 r w M hx hm

theorem Ctx.s14 {S : sProp 𝕄} (C : Ctx c S a3 a4 a5 a6 a7 a8 a9 a10 a11 a12 a13 a14) {r : Rect _} {w : r.shape.Idx → Elt F _} {M : Finset r.shape.Idx}
    {hx : (a14.access r).Stores M} {hm : M = Finset.univ ∨ ∀ a, r.stride a = 1} {α : Type}
    {k : PUnit → Prog (TpuEff nD τ sig (Elt F) Λ₀ .tc) α} (h : ∀ v, Fine D c S (k v)) :
    Fine D c S (Prog.lift (.store a14 r w M hx hm) >>= k) := (Ok.store C.w14 r w M hx hm).bind h

theorem Ctx.e14 {S : sProp 𝕄} (C : Ctx c S a3 a4 a5 a6 a7 a8 a9 a10 a11 a12 a13 a14) {r : Rect _} {w : r.shape.Idx → Elt F _} {M : Finset r.shape.Idx}
    {hx : (a14.access r).Stores M} {hm : M = Finset.univ ∨ ∀ a, r.stride a = 1} :
    Fine D c S (Prog.lift (.store a14 r w M hx hm)) := Ok.store C.w14 r w M hx hm

end Cert.Kernel2Ideal.Attn

end
-- ==== Proof.Attn.PartsA.lean ====
/- The first two hundred parts of the attention kernel leave what is held, one by one in the order they are printed. -/
module

public import proofs.«01_k».proof.Proof.Attn.Base

@[expose] public section

noncomputable section

namespace Cert.Kernel2Ideal.Attn

open Cert.Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

variable {D : Defs nD τ sig (Elt F) Λ₀} {c : Dev nD} {i : grid0.Coords}
    {a3 : Memref sig .tc .smem S8 .f32} {a4 : Memref sig .tc .vmem S1x512x1024 .bf16} {a5 : Memref sig .tc .vmem S1x4096x512 .bf16}
    {a6 : Memref sig .tc .vmem S1x640x4096 .bf16} {a7 : Memref sig .tc .vmem S1x16x512 .f32} {a8 : Memref sig .tc .vmem S8x256x256 .f32}
    {a9 : Memref sig .tc .vmem S8x256x256 .f32} {a10 : Memref sig .tc .vmem S1x1024x512 .bf16} {a11 : Memref sig .tc .vmem S8x16x256 .f32}
    {a12 : Memref sig .tc .vmem S2x8x256x256 .f32} {a13 : Memref sig .tc .vmem S8x1x256 .f32} {a14 : Memref sig .tc .vmem S8x80x256 .f32}
    {h3 : a3.IsWhole} {h4 : a4.IsWhole} {h5 : a5.IsWhole} {h6 : a6.IsWhole} {h7 : a7.IsWhole} {h8 : a8.IsWhole} {h9 : a9.IsWhole}
    {h10 : a10.IsWhole} {h11 : a11.IsWhole} {h12 : a12.IsWhole} {h13 : a13.IsWhole} {h14 : a14.IsWhole}

theorem ok1 {S : sProp 𝕄} (C : Ctx c S a3 a4 a5 a6 a7 a8 a9 a10 a11 a12 a13 a14) {x0 x1 x2 x3 x4 x5 : _} :
    Fine D c S (k0_part1 (F := F) i a3 h3 a4 h4 a5 h5 a6 h6 a7 h7 a8 h8 a9 h9 a10 h10 a11 h11 a12 h12 a13 h13 a14 h14 x0 x1 x2 x3 x4 x5) := by
  unfold k0_part1
  with_reducible
   exact
    C.l5 fun _ => C.l5 fun _ => C.l12 fun _ => C.s12 fun _ => C.l12 fun _ => C.s12 fun _ => C.l12 fun _ => C.s12 fun _ => C.l13 fun _ => .ret _

theorem ok2 {S : sProp 𝕄} (C : Ctx c S a3 a4 a5 a6 a7 a8 a9 a10 a11 a12 a13 a14) {x0 x1 x2 x3 x4 : _} :
    Fine D c S (k0_part2 (F := F) i a3 h3 a4 h4 a5 h5 a6 h6 a7 h7 a8 h8 a9 h9 a10 h10 a11 h11 a12 h12 a13 h13 a14 h14 x0 x1 x2 x3 x4) := by
  unfold k0_part2
  with_reducible
   exact
    C.l12 fun _ => C.l11 fun _ => C.l13 fun _ => C.s13 fun _ => C.l14 fun _ => C.l6 fun _ => C.l14 fun _ => C.s14 fun _ => C.l12 fun _ => .ret _

theorem ok3 {S : sProp 𝕄} (C : Ctx c S a3 a4 a5 a6 a7 a8 a9 a10 a11 a12 a13 a14) {x0 x1 x2 : _} :
    Fine D c S (k0_part3 (F := F) i a3 h3 a4 h4 a5 h5 a6 h6 a7 h7 a8 h8 a9 h9 a10 h10 a11 h11 a12 h12 a13 h13 a14 h14 x0 x1 x2) := by
  unfold k0_part3
  with_reducible
   exact
    C.s12 fun _ => C.l13 fun _ => C.l12 fun _ => C.l11 fun _ => C.l13 fun _ => C.s13 fun _ => C.l14 fun _ => C.l6 fun _ => C.l14 fun _ => .ret _

theorem ok4 {S : sProp 𝕄} (C : Ctx c S a3 a4 a5 a6 a7 a8 a9 a10 a11 a12 a13 a14) {x0 x1 x2 x3 x4 : _} :
    Fine D c S (k0_part4 (F := F) i a3 h3 a4 h4 a5 h5 a6 h6 a7 h7 a8 h8 a9 h9 a10 h10 a11 h11 a12 h12 a13 h13 a14 h14 x0 x1 x2 x3 x4) := by
  unfold k0_part4
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok5 {S : sProp 𝕄} (C : Ctx c S a3 a4 a5 a6 a7 a8 a9 a10 a11 a12 a13 a14) {x0 x1 x2 x3 x4 x5 x6 : _} :
    Fine D c S (k0_part5 (F := F) i a3 h3 a4 h4 a5 h5 a6 h6 a7 h7 a8 h8 a9 h9 a10 h10 a11 h11 a12 h12 a13 h13 a14 h14 x0 x1 x2 x3 x4 x5 x6) := by
  unfold k0_part5
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok6 {S : sProp 𝕄} (C : Ctx c S a3 a4 a5 a6 a7 a8 a9 a10 a11 a12 a13 a14) {x0 x1 x2 x3 x4 x5 x6 : _} :
    Fine D c S (k0_part6 (F := F) i a3 h3 a4 h4 a5 h5 a6 h6 a7 h7 a8 h8 a9 h9 a10 h10 a11 h11 a12 h12 a13 h13 a14 h14 x0 x1 x2 x3 x4 x5 x6) := by
  unfold k0_part6
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok7 {S : sProp 𝕄} (C : Ctx c S a3 a4 a5 a6 a7 a8 a9 a10 a11 a12 a13 a14) {x0 x1 x2 x3 x4 x5 x6 x7 : _} :
    Fine D c S (k0_part7 (F := F) i a3 h3 a4 h4 a5 h5 a6 h6 a7 h7 a8 h8 a9 h9 a10 h10 a11 h11 a12 h12 a13 h13 a14 h14 x0 x1 x2 x3 x4 x5 x6 x7) := by
  unfold k0_part7
  with_reducible
   exact
    C.l14 fun _ => C.l6 fun _ => C.l14 fun _ => C.s14 fun _ => C.l12 fun _ => C.s12 fun _ => C.l13 fun _ => C.l12 fun _ => C.l11 fun _ => .ret _

theorem ok8 {S : sProp 𝕄} (C : Ctx c S a3 a4 a5 a6 a7 a8 a9 a10 a11 a12 a13 a14) {x0 x1 x2 x3 x4 x5 : _} :
    Fine D c S (k0_part8 (F := F) i a3 h3 a4 h4 a5 h5 a6 h6 a7 h7 a8 h8 a9 h9 a10 h10 a11 h11 a12 h12 a13 h13 a14 h14 x0 x1 x2 x3 x4 x5) := by
  unfold k0_part8
  with_reducible
   exact
    C.l13 fun _ => C.s13 fun _ => C.l14 fun _ => C.l6 fun _ => C.l14 fun _ => C.s14 fun _ => C.l13 fun _ => C.l12 fun _ => C.l11 fun _ => .ret _

theorem ok9 {S : sProp 𝕄} (C : Ctx c S a3 a4 a5 a6 a7 a8 a9 a10 a11 a12 a13 a14) {x0 x1 x2 x3 x4 x5 : _} :
    Fine D c S (k0_part9 (F := F) i a3 h3 a4 h4 a5 h5 a6 h6 a7 h7 a8 h8 a9 h9 a10 h10 a11 h11 a12 h12 a13 h13 a14 h14 x0 x1 x2 x3 x4 x5) := by
  unfold k0_part9
  with_reducible
   exact
    C.l13 fun _ => C.s13 fun _ => C.l14 fun _ => C.l6 fun _ => C.l14 fun _ => C.s14 fun _ => C.l13 fun _ => C.l12 fun _ => C.l11 fun _ => .ret _

theorem ok10 {S : sProp 𝕄} (C : Ctx c S a3 a4 a5 a6 a7 a8 a9 a10 a11 a12 a13 a14) {x0 x1 x2 x3 x4 x5 : _} :
    Fine D c S (k0_part10 (F := F) i a3 h3 a4 h4 a5 h5 a6 h6 a7 h7 a8 h8 a9 h9 a10 h10 a11 h11 a12 h12 a13 h13 a14 h14 x0 x1 x2 x3 x4 x5) := by
  unfold k0_part10
  with_reducible
   exact
    C.l13 fun _ => C.s13 fun _ => C.l14 fun _ => C.l6 fun _ => C.l14 fun _ => C.s14 fun _ => C.l5 fun _ => C.l5 fun _ => .ret _

theorem ok11 {S : sProp 𝕄} (C : Ctx c S a3 a4 a5 a6 a7 a8 a9 a10 a11 a12 a13 a14) {x0 x1 x2 x3 x4 x5 x6 x7 : _} :
    Fine D c S (k0_part11 (F := F) i a3 h3 a4 h4 a5 h5 a6 h6 a7 h7 a8 h8 a9 h9 a10 h10 a11 h11 a12 h12 a13 h13 a14 h14 x0 x1 x2 x3 x4 x5 x6 x7) := by
  unfold k0_part11
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok12 {S : sProp 𝕄} (C : Ctx c S a3 a4 a5 a6 a7 a8 a9 a10 a11 a12 a13 a14) {x0 x1 x2 x3 x4 x5 x6 x7 x8 x9 : _} :
    Fine D c S (k0_part12 (F := F) i a3 h3 a4 h4 a5 h5 a6 h6 a7 h7 a8 h8 a9 h9 a10 h10 a11 h11 a12 h12 a13 h13 a14 h14 x0 x1 x2 x3 x4 x5 x6 x7 x8 x9) := by
  unfold k0_part12
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok13 {S : sProp 𝕄} (C : Ctx c S a3 a4 a5 a6 a7 a8 a9 a10 a11 a12 a13 a14) {x0 x1 x2 x3 x4 x5 x6 x7 : _} :
    Fine D c S (k0_part13 (F := F) i a3 h3 a4 h4 a5 h5 a6 h6 a7 h7 a8 h8 a9 h9 a10 h10 a11 h11 a12 h12 a13 h13 a14 h14 x0 x1 x2 x3 x4 x5 x6 x7) := by
  unfold k0_part13
  with_reducible
   exact
    C.l13 fun _ => C.s13 fun _ => C.l14 fun _ => C.l6 fun _ => C.l14 fun _ => C.s14 fun _ => C.l12 fun _ => C.s12 fun _ => .ret _

theorem ok14 {S : sProp 𝕄} (C : Ctx c S a3 a4 a5 a6 a7 a8 a9 a10 a11 a12 a13 a14) {x0 x1 x2 : _} :
    Fine D c S (k0_part14 (F := F) i a3 h3 a4 h4 a5 h5 a6 h6 a7 h7 a8 h8 a9 h9 a10 h10 a11 h11 a12 h12 a13 h13 a14 h14 x0 x1 x2) := by
  unfold k0_part14
  with_reducible
   exact
    C.l13 fun _ => C.l12 fun _ => C.l11 fun _ => C.l13 fun _ => C.s13 fun _ => C.l14 fun _ => C.l6 fun _ => C.l14 fun _ => .ret _

theorem ok15 {S : sProp 𝕄} (C : Ctx c S a3 a4 a5 a6 a7 a8 a9 a10 a11 a12 a13 a14) {x0 x1 x2 x3 x4 x5 : _} :
    Fine D c S (k0_part15 (F := F) i a3 h3 a4 h4 a5 h5 a6 h6 a7 h7 a8 h8 a9 h9 a10 h10 a11 h11 a12 h12 a13 h13 a14 h14 x0 x1 x2 x3 x4 x5) := by
  unfold k0_part15
  with_reducible
   exact
    C.s14 fun _ => C.l12 fun _ => C.s12 fun _ => C.l13 fun _ => C.l12 fun _ => C.l11 fun _ => C.l13 fun _ => C.s13 fun _ => C.l14 fun _ => .ret _

theorem ok16 {S : sProp 𝕄} (C : Ctx c S a3 a4 a5 a6 a7 a8 a9 a10 a11 a12 a13 a14) {x0 x1 x2 x3 x4 x5 x6 x7 : _} :
    Fine D c S (k0_part16 (F := F) i a3 h3 a4 h4 a5 h5 a6 h6 a7 h7 a8 h8 a9 h9 a10 h10 a11 h11 a12 h12 a13 h13 a14 h14 x0 x1 x2 x3 x4 x5 x6 x7) := by
  unfold k0_part16
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok17 {S : sProp 𝕄} (C : Ctx c S a3 a4 a5 a6 a7 a8 a9 a10 a11 a12 a13 a14) {x0 x1 x2 x3 x4 x5 x6 x7 : _} :
    Fine D c S (k0_part17 (F := F) i a3 h3 a4 h4 a5 h5 a6 h6 a7 h7 a8 h8 a9 h9 a10 h10 a11 h11 a12 h12 a13 h13 a14 h14 x0 x1 x2 x3 x4 x5 x6 x7) := by
  unfold k0_part17
  with_reducible
   exact
    C.l14 fun _ => C.l6 fun _ => C.l14 fun _ => C.s14 fun _ => C.l12 fun _ => C.s12 fun _ => C.l13 fun _ => C.l12 fun _ => C.l11 fun _ => .ret _

theorem ok18 {S : sProp 𝕄} (C : Ctx c S a3 a4 a5 a6 a7 a8 a9 a10 a11 a12 a13 a14) {x0 x1 x2 x3 x4 x5 : _} :
    Fine D c S (k0_part18 (F := F) i a3 h3 a4 h4 a5 h5 a6 h6 a7 h7 a8 h8 a9 h9 a10 h10 a11 h11 a12 h12 a13 h13 a14 h14 x0 x1 x2 x3 x4 x5) := by
  unfold k0_part18
  with_reducible
   exact
    C.l13 fun _ => C.s13 fun _ => C.l14 fun _ => C.l6 fun _ => C.l14 fun _ => C.s14 fun _ => C.l13 fun _ => C.l12 fun _ => C.l11 fun _ => .ret _

theorem ok19 {S : sProp 𝕄} (C : Ctx c S a3 a4 a5 a6 a7 a8 a9 a10 a11 a12 a13 a14) {x0 x1 x2 x3 x4 x5 x6 : _} :
    Fine D c S (k0_part19 (F := F) i a3 h3 a4 h4 a5 h5 a6 h6 a7 h7 a8 h8 a9 h9 a10 h10 a11 h11 a12 h12 a13 h13 a14 h14 x0 x1 x2 x3 x4 x5 x6) := by
  unfold k0_part19
  with_reducible
   exact
    C.l13 fun _ => C.s13 fun _ => C.l14 fun _ => C.l6 fun _ => C.l14 fun _ => C.s14 fun _ => C.l13 fun _ => C.l12 fun _ => .ret _

theorem ok20 {S : sProp 𝕄} (C : Ctx c S a3 a4 a5 a6 a7 a8 a9 a10 a11 a12 a13 a14) {x0 x1 x2 x3 x4 x5 x6 x7 x8 x9 x10 x11 : _} :
    Fine D c S (k0_part20 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part20
  with_reducible
   exact
    (ok1 C).bind fun _ => (ok2 C).bind fun _ => (ok3 C).bind fun _ => (ok4 C).bind fun _ => (ok5 C).bind fun _ => (ok6 C).bind fun _ =>
    (ok7 C).bind fun _ => (ok8 C).bind fun _ => (ok9 C).bind fun _ => (ok10 C).bind fun _ => (ok11 C).bind fun _ => (ok12 C).bind fun _ =>
    (ok13 C).bind fun _ => (ok14 C).bind fun _ => (ok15 C).bind fun _ => (ok16 C).bind fun _ => (ok17 C).bind fun _ => (ok18 C).bind fun _ =>
    (ok19 C).bind fun _ => C.l11 fun _ => C.l13 fun _ => C.s13 fun _ => C.l14 fun _ => C.l6 fun _ => .ret _

theorem ok21 {S : sProp 𝕄} (C : Ctx c S a3 a4 a5 a6 a7 a8 a9 a10 a11 a12 a13 a14) {x0 x1 x2 x3 x4 x5 : _} :
    Fine D c S (k0_part21 (F := F) i a3 h3 a4 h4 a5 h5 a6 h6 a7 h7 a8 h8 a9 h9 a10 h10 a11 h11 a12 h12 a13 h13 a14 h14 x0 x1 x2 x3 x4 x5) := by
  unfold k0_part21
  with_reducible
   exact
    C.l5 fun _ => C.l5 fun _ => C.l12 fun _ => C.s12 fun _ => C.l12 fun _ => C.s12 fun _ => C.l12 fun _ => C.s12 fun _ => C.l13 fun _ => .ret _

theorem ok22 {S : sProp 𝕄} (C : Ctx c S a3 a4 a5 a6 a7 a8 a9 a10 a11 a12 a13 a14) {x0 x1 x2 x3 x4 : _} :
    Fine D c S (k0_part22 (F := F) i a3 h3 a4 h4 a5 h5 a6 h6 a7 h7 a8 h8 a9 h9 a10 h10 a11 h11 a12 h12 a13 h13 a14 h14 x0 x1 x2 x3 x4) := by
  unfold k0_part22
  with_reducible
   exact
    C.l12 fun _ => C.l11 fun _ => C.l13 fun _ => C.s13 fun _ => C.l14 fun _ => C.l6 fun _ => C.l14 fun _ => C.s14 fun _ => C.l12 fun _ => .ret _

theorem ok23 {S : sProp 𝕄} (C : Ctx c S a3 a4 a5 a6 a7 a8 a9 a10 a11 a12 a13 a14) {x0 x1 x2 : _} :
    Fine D c S (k0_part23 (F := F) i a3 h3 a4 h4 a5 h5 a6 h6 a7 h7 a8 h8 a9 h9 a10 h10 a11 h11 a12 h12 a13 h13 a14 h14 x0 x1 x2) := by
  unfold k0_part23
  with_reducible
   exact
    C.s12 fun _ => C.l13 fun _ => C.l12 fun _ => C.l11 fun _ => C.l13 fun _ => C.s13 fun _ => C.l14 fun _ => C.l6 fun _ => C.l14 fun _ => .ret _

theorem ok24 {S : sProp 𝕄} (C : Ctx c S a3 a4 a5 a6 a7 a8 a9 a10 a11 a12 a13 a14) {x0 x1 x2 x3 x4 : _} :
    Fine D c S (k0_part24 (F := F) i a3 h3 a4 h4 a5 h5 a6 h6 a7 h7 a8 h8 a9 h9 a10 h10 a11 h11 a12 h12 a13 h13 a14 h14 x0 x1 x2 x3 x4) := by
  unfold k0_part24
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok25 {S : sProp 𝕄} (C : Ctx c S a3 a4 a5 a6 a7 a8 a9 a10 a11 a12 a13 a14) {x0 x1 x2 x3 x4 x5 x6 : _} :
    Fine D c S (k0_part25 (F := F) i a3 h3 a4 h4 a5 h5 a6 h6 a7 h7 a8 h8 a9 h9 a10 h10 a11 h11 a12 h12 a13 h13 a14 h14 x0 x1 x2 x3 x4 x5 x6) := by
  unfold k0_part25
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok26 {S : sProp 𝕄} (C : Ctx c S a3 a4 a5 a6 a7 a8 a9 a10 a11 a12 a13 a14) {x0 x1 x2 x3 x4 x5 x6 : _} :
    Fine D c S (k0_part26 (F := F) i a3 h3 a4 h4 a5 h5 a6 h6 a7 h7 a8 h8 a9 h9 a10 h10 a11 h11 a12 h12 a13 h13 a14 h14 x0 x1 x2 x3 x4 x5 x6) := by
  unfold k0_part26
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok27 {S : sProp 𝕄} (C : Ctx c S a3 a4 a5 a6 a7 a8 a9 a10 a11 a12 a13 a14) {x0 x1 x2 x3 x4 x5 x6 x7 : _} :
    Fine D c S (k0_part27 (F := F) i a3 h3 a4 h4 a5 h5 a6 h6 a7 h7 a8 h8 a9 h9 a10 h10 a11 h11 a12 h12 a13 h13 a14 h14 x0 x1 x2 x3 x4 x5 x6 x7) := by
  unfold k0_part27
  with_reducible
   exact
    C.l14 fun _ => C.l6 fun _ => C.l14 fun _ => C.s14 fun _ => C.l12 fun _ => C.s12 fun _ => C.l13 fun _ => C.l12 fun _ => C.l11 fun _ => .ret _

theorem ok28 {S : sProp 𝕄} (C : Ctx c S a3 a4 a5 a6 a7 a8 a9 a10 a11 a12 a13 a14) {x0 x1 x2 x3 x4 x5 : _} :
    Fine D c S (k0_part28 (F := F) i a3 h3 a4 h4 a5 h5 a6 h6 a7 h7 a8 h8 a9 h9 a10 h10 a11 h11 a12 h12 a13 h13 a14 h14 x0 x1 x2 x3 x4 x5) := by
  unfold k0_part28
  with_reducible
   exact
    C.l13 fun _ => C.s13 fun _ => C.l14 fun _ => C.l6 fun _ => C.l14 fun _ => C.s14 fun _ => C.l13 fun _ => C.l12 fun _ => C.l11 fun _ => .ret _

theorem ok29 {S : sProp 𝕄} (C : Ctx c S a3 a4 a5 a6 a7 a8 a9 a10 a11 a12 a13 a14) {x0 x1 x2 x3 x4 x5 : _} :
    Fine D c S (k0_part29 (F := F) i a3 h3 a4 h4 a5 h5 a6 h6 a7 h7 a8 h8 a9 h9 a10 h10 a11 h11 a12 h12 a13 h13 a14 h14 x0 x1 x2 x3 x4 x5) := by
  unfold k0_part29
  with_reducible
   exact
    C.l13 fun _ => C.s13 fun _ => C.l14 fun _ => C.l6 fun _ => C.l14 fun _ => C.s14 fun _ => C.l13 fun _ => C.l12 fun _ => C.l11 fun _ => .ret _

theorem ok30 {S : sProp 𝕄} (C : Ctx c S a3 a4 a5 a6 a7 a8 a9 a10 a11 a12 a13 a14) {x0 x1 x2 x3 x4 x5 : _} :
    Fine D c S (k0_part30 (F := F) i a3 h3 a4 h4 a5 h5 a6 h6 a7 h7 a8 h8 a9 h9 a10 h10 a11 h11 a12 h12 a13 h13 a14 h14 x0 x1 x2 x3 x4 x5) := by
  unfold k0_part30
  with_reducible
   exact
    C.l13 fun _ => C.s13 fun _ => C.l14 fun _ => C.l6 fun _ => C.l14 fun _ => C.s14 fun _ => C.l5 fun _ => C.l5 fun _ => .ret _

theorem ok31 {S : sProp 𝕄} (C : Ctx c S a3 a4 a5 a6 a7 a8 a9 a10 a11 a12 a13 a14) {x0 x1 x2 x3 x4 x5 x6 x7 : _} :
    Fine D c S (k0_part31 (F := F) i a3 h3 a4 h4 a5 h5 a6 h6 a7 h7 a8 h8 a9 h9 a10 h10 a11 h11 a12 h12 a13 h13 a14 h14 x0 x1 x2 x3 x4 x5 x6 x7) := by
  unfold k0_part31
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok32 {S : sProp 𝕄} (C : Ctx c S a3 a4 a5 a6 a7 a8 a9 a10 a11 a12 a13 a14) {x0 x1 x2 x3 x4 x5 x6 x7 x8 x9 : _} :
    Fine D c S (k0_part32 (F := F) i a3 h3 a4 h4 a5 h5 a6 h6 a7 h7 a8 h8 a9 h9 a10 h10 a11 h11 a12 h12 a13 h13 a14 h14 x0 x1 x2 x3 x4 x5 x6 x7 x8 x9) := by
  unfold k0_part32
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok33 {S : sProp 𝕄} (C : Ctx c S a3 a4 a5 a6 a7 a8 a9 a10 a11 a12 a13 a14) {x0 x1 x2 x3 x4 x5 x6 x7 : _} :
    Fine D c S (k0_part33 (F := F) i a3 h3 a4 h4 a5 h5 a6 h6 a7 h7 a8 h8 a9 h9 a10 h10 a11 h11 a12 h12 a13 h13 a14 h14 x0 x1 x2 x3 x4 x5 x6 x7) := by
  unfold k0_part33
  with_reducible
   exact
    C.l13 fun _ => C.s13 fun _ => C.l14 fun _ => C.l6 fun _ => C.l14 fun _ => C.s14 fun _ => C.l12 fun _ => C.s12 fun _ => .ret _

theorem ok34 {S : sProp 𝕄} (C : Ctx c S a3 a4 a5 a6 a7 a8 a9 a10 a11 a12 a13 a14) {x0 x1 x2 : _} :
    Fine D c S (k0_part34 (F := F) i a3 h3 a4 h4 a5 h5 a6 h6 a7 h7 a8 h8 a9 h9 a10 h10 a11 h11 a12 h12 a13 h13 a14 h14 x0 x1 x2) := by
  unfold k0_part34
  with_reducible
   exact
    C.l13 fun _ => C.l12 fun _ => C.l11 fun _ => C.l13 fun _ => C.s13 fun _ => C.l14 fun _ => C.l6 fun _ => C.l14 fun _ => .ret _

theorem ok35 {S : sProp 𝕄} (C : Ctx c S a3 a4 a5 a6 a7 a8 a9 a10 a11 a12 a13 a14) {x0 x1 x2 x3 x4 x5 : _} :
    Fine D c S (k0_part35 (F := F) i a3 h3 a4 h4 a5 h5 a6 h6 a7 h7 a8 h8 a9 h9 a10 h10 a11 h11 a12 h12 a13 h13 a14 h14 x0 x1 x2 x3 x4 x5) := by
  unfold k0_part35
  with_reducible
   exact
    C.s14 fun _ => C.l12 fun _ => C.s12 fun _ => C.l13 fun _ => C.l12 fun _ => C.l11 fun _ => C.l13 fun _ => C.s13 fun _ => C.l14 fun _ => .ret _

theorem ok36 {S : sProp 𝕄} (C : Ctx c S a3 a4 a5 a6 a7 a8 a9 a10 a11 a12 a13 a14) {x0 x1 x2 x3 x4 x5 x6 x7 : _} :
    Fine D c S (k0_part36 (F := F) i a3 h3 a4 h4 a5 h5 a6 h6 a7 h7 a8 h8 a9 h9 a10 h10 a11 h11 a12 h12 a13 h13 a14 h14 x0 x1 x2 x3 x4 x5 x6 x7) := by
  unfold k0_part36
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok37 {S : sProp 𝕄} (C : Ctx c S a3 a4 a5 a6 a7 a8 a9 a10 a11 a12 a13 a14) {x0 x1 x2 x3 x4 x5 x6 x7 : _} :
    Fine D c S (k0_part37 (F := F) i a3 h3 a4 h4 a5 h5 a6 h6 a7 h7 a8 h8 a9 h9 a10 h10 a11 h11 a12 h12 a13 h13 a14 h14 x0 x1 x2 x3 x4 x5 x6 x7) := by
  unfold k0_part37
  with_reducible
   exact
    C.l14 fun _ => C.l6 fun _ => C.l14 fun _ => C.s14 fun _ => C.l12 fun _ => C.s12 fun _ => C.l13 fun _ => C.l12 fun _ => C.l11 fun _ => .ret _

theorem ok38 {S : sProp 𝕄} (C : Ctx c S a3 a4 a5 a6 a7 a8 a9 a10 a11 a12 a13 a14) {x0 x1 x2 x3 x4 x5 : _} :
    Fine D c S (k0_part38 (F := F) i a3 h3 a4 h4 a5 h5 a6 h6 a7 h7 a8 h8 a9 h9 a10 h10 a11 h11 a12 h12 a13 h13 a14 h14 x0 x1 x2 x3 x4 x5) := by
  unfold k0_part38
  with_reducible
   exact
    C.l13 fun _ => C.s13 fun _ => C.l14 fun _ => C.l6 fun _ => C.l14 fun _ => C.s14 fun _ => C.l13 fun _ => C.l12 fun _ => C.l11 fun _ => .ret _

theorem ok39 {S : sProp 𝕄} (C : Ctx c S a3 a4 a5 a6 a7 a8 a9 a10 a11 a12 a13 a14) {x0 x1 x2 x3 x4 x5 x6 : _} :
    Fine D c S (k0_part39 (F := F) i a3 h3 a4 h4 a5 h5 a6 h6 a7 h7 a8 h8 a9 h9 a10 h10 a11 h11 a12 h12 a13 h13 a14 h14 x0 x1 x2 x3 x4 x5 x6) := by
  unfold k0_part39
  with_reducible
   exact
    C.l13 fun _ => C.s13 fun _ => C.l14 fun _ => C.l6 fun _ => C.l14 fun _ => C.s14 fun _ => C.l13 fun _ => C.l12 fun _ => .ret _

theorem ok40 {S : sProp 𝕄} (C : Ctx c S a3 a4 a5 a6 a7 a8 a9 a10 a11 a12 a13 a14) {x0 x1 x2 x3 x4 x5 x6 x7 x8 x9 x10 x11 : _} :
    Fine D c S (k0_part40 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part40
  with_reducible
   exact
    (ok21 C).bind fun _ => (ok22 C).bind fun _ => (ok23 C).bind fun _ => (ok24 C).bind fun _ => (ok25 C).bind fun _ => (ok26 C).bind fun _ =>
    (ok27 C).bind fun _ => (ok28 C).bind fun _ => (ok29 C).bind fun _ => (ok30 C).bind fun _ => (ok31 C).bind fun _ => (ok32 C).bind fun _ =>
    (ok33 C).bind fun _ => (ok34 C).bind fun _ => (ok35 C).bind fun _ => (ok36 C).bind fun _ => (ok37 C).bind fun _ => (ok38 C).bind fun _ =>
    (ok39 C).bind fun _ => C.l11 fun _ => C.l13 fun _ => C.s13 fun _ => C.l14 fun _ => C.l6 fun _ => .ret _

theorem ok41 {S : sProp 𝕄} (C : Ctx c S a3 a4 a5 a6 a7 a8 a9 a10 a11 a12 a13 a14) {x0 x1 x2 x3 x4 x5 : _} :
    Fine D c S (k0_part41 (F := F) i a3 h3 a4 h4 a5 h5 a6 h6 a7 h7 a8 h8 a9 h9 a10 h10 a11 h11 a12 h12 a13 h13 a14 h14 x0 x1 x2 x3 x4 x5) := by
  unfold k0_part41
  with_reducible
   exact
    C.l5 fun _ => C.l5 fun _ => C.l12 fun _ => C.s12 fun _ => C.l12 fun _ => C.s12 fun _ => C.l12 fun _ => C.s12 fun _ => C.l13 fun _ => .ret _

theorem ok42 {S : sProp 𝕄} (C : Ctx c S a3 a4 a5 a6 a7 a8 a9 a10 a11 a12 a13 a14) {x0 x1 x2 x3 x4 : _} :
    Fine D c S (k0_part42 (F := F) i a3 h3 a4 h4 a5 h5 a6 h6 a7 h7 a8 h8 a9 h9 a10 h10 a11 h11 a12 h12 a13 h13 a14 h14 x0 x1 x2 x3 x4) := by
  unfold k0_part42
  with_reducible
   exact
    C.l12 fun _ => C.l11 fun _ => C.l13 fun _ => C.s13 fun _ => C.l14 fun _ => C.l6 fun _ => C.l14 fun _ => C.s14 fun _ => C.l12 fun _ => .ret _

theorem ok43 {S : sProp 𝕄} (C : Ctx c S a3 a4 a5 a6 a7 a8 a9 a10 a11 a12 a13 a14) {x0 x1 x2 : _} :
    Fine D c S (k0_part43 (F := F) i a3 h3 a4 h4 a5 h5 a6 h6 a7 h7 a8 h8 a9 h9 a10 h10 a11 h11 a12 h12 a13 h13 a14 h14 x0 x1 x2) := by
  unfold k0_part43
  with_reducible
   exact
    C.s12 fun _ => C.l13 fun _ => C.l12 fun _ => C.l11 fun _ => C.l13 fun _ => C.s13 fun _ => C.l14 fun _ => C.l6 fun _ => C.l14 fun _ => .ret _

theorem ok44 {S : sProp 𝕄} (C : Ctx c S a3 a4 a5 a6 a7 a8 a9 a10 a11 a12 a13 a14) {x0 x1 x2 x3 x4 : _} :
    Fine D c S (k0_part44 (F := F) i a3 h3 a4 h4 a5 h5 a6 h6 a7 h7 a8 h8 a9 h9 a10 h10 a11 h11 a12 h12 a13 h13 a14 h14 x0 x1 x2 x3 x4) := by
  unfold k0_part44
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok45 {S : sProp 𝕄} (C : Ctx c S a3 a4 a5 a6 a7 a8 a9 a10 a11 a12 a13 a14) {x0 x1 x2 x3 x4 x5 x6 : _} :
    Fine D c S (k0_part45 (F := F) i a3 h3 a4 h4 a5 h5 a6 h6 a7 h7 a8 h8 a9 h9 a10 h10 a11 h11 a12 h12 a13 h13 a14 h14 x0 x1 x2 x3 x4 x5 x6) := by
  unfold k0_part45
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok46 {S : sProp 𝕄} (C : Ctx c S a3 a4 a5 a6 a7 a8 a9 a10 a11 a12 a13 a14) {x0 x1 x2 x3 x4 x5 x6 : _} :
    Fine D c S (k0_part46 (F := F) i a3 h3 a4 h4 a5 h5 a6 h6 a7 h7 a8 h8 a9 h9 a10 h10 a11 h11 a12 h12 a13 h13 a14 h14 x0 x1 x2 x3 x4 x5 x6) := by
  unfold k0_part46
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok47 {S : sProp 𝕄} (C : Ctx c S a3 a4 a5 a6 a7 a8 a9 a10 a11 a12 a13 a14) {x0 x1 x2 x3 x4 x5 x6 x7 : _} :
    Fine D c S (k0_part47 (F := F) i a3 h3 a4 h4 a5 h5 a6 h6 a7 h7 a8 h8 a9 h9 a10 h10 a11 h11 a12 h12 a13 h13 a14 h14 x0 x1 x2 x3 x4 x5 x6 x7) := by
  unfold k0_part47
  with_reducible
   exact
    C.l14 fun _ => C.l6 fun _ => C.l14 fun _ => C.s14 fun _ => C.l12 fun _ => C.s12 fun _ => C.l13 fun _ => C.l12 fun _ => C.l11 fun _ => .ret _

theorem ok48 {S : sProp 𝕄} (C : Ctx c S a3 a4 a5 a6 a7 a8 a9 a10 a11 a12 a13 a14) {x0 x1 x2 x3 x4 x5 : _} :
    Fine D c S (k0_part48 (F := F) i a3 h3 a4 h4 a5 h5 a6 h6 a7 h7 a8 h8 a9 h9 a10 h10 a11 h11 a12 h12 a13 h13 a14 h14 x0 x1 x2 x3 x4 x5) := by
  unfold k0_part48
  with_reducible
   exact
    C.l13 fun _ => C.s13 fun _ => C.l14 fun _ => C.l6 fun _ => C.l14 fun _ => C.s14 fun _ => C.l13 fun _ => C.l12 fun _ => C.l11 fun _ => .ret _

theorem ok49 {S : sProp 𝕄} (C : Ctx c S a3 a4 a5 a6 a7 a8 a9 a10 a11 a12 a13 a14) {x0 x1 x2 x3 x4 x5 : _} :
    Fine D c S (k0_part49 (F := F) i a3 h3 a4 h4 a5 h5 a6 h6 a7 h7 a8 h8 a9 h9 a10 h10 a11 h11 a12 h12 a13 h13 a14 h14 x0 x1 x2 x3 x4 x5) := by
  unfold k0_part49
  with_reducible
   exact
    C.l13 fun _ => C.s13 fun _ => C.l14 fun _ => C.l6 fun _ => C.l14 fun _ => C.s14 fun _ => C.l13 fun _ => C.l12 fun _ => C.l11 fun _ => .ret _

theorem ok50 {S : sProp 𝕄} (C : Ctx c S a3 a4 a5 a6 a7 a8 a9 a10 a11 a12 a13 a14) {x0 x1 x2 x3 x4 x5 : _} :
    Fine D c S (k0_part50 (F := F) i a3 h3 a4 h4 a5 h5 a6 h6 a7 h7 a8 h8 a9 h9 a10 h10 a11 h11 a12 h12 a13 h13 a14 h14 x0 x1 x2 x3 x4 x5) := by
  unfold k0_part50
  with_reducible
   exact
    C.l13 fun _ => C.s13 fun _ => C.l14 fun _ => C.l6 fun _ => C.l14 fun _ => C.s14 fun _ => C.l5 fun _ => C.l5 fun _ => .ret _

theorem ok51 {S : sProp 𝕄} (C : Ctx c S a3 a4 a5 a6 a7 a8 a9 a10 a11 a12 a13 a14) {x0 x1 x2 x3 x4 x5 x6 x7 : _} :
    Fine D c S (k0_part51 (F := F) i a3 h3 a4 h4 a5 h5 a6 h6 a7 h7 a8 h8 a9 h9 a10 h10 a11 h11 a12 h12 a13 h13 a14 h14 x0 x1 x2 x3 x4 x5 x6 x7) := by
  unfold k0_part51
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok52 {S : sProp 𝕄} (C : Ctx c S a3 a4 a5 a6 a7 a8 a9 a10 a11 a12 a13 a14) {x0 x1 x2 x3 x4 x5 x6 x7 x8 x9 : _} :
    Fine D c S (k0_part52 (F := F) i a3 h3 a4 h4 a5 h5 a6 h6 a7 h7 a8 h8 a9 h9 a10 h10 a11 h11 a12 h12 a13 h13 a14 h14 x0 x1 x2 x3 x4 x5 x6 x7 x8 x9) := by
  unfold k0_part52
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok53 {S : sProp 𝕄} (C : Ctx c S a3 a4 a5 a6 a7 a8 a9 a10 a11 a12 a13 a14) {x0 x1 x2 x3 x4 x5 x6 x7 : _} :
    Fine D c S (k0_part53 (F := F) i a3 h3 a4 h4 a5 h5 a6 h6 a7 h7 a8 h8 a9 h9 a10 h10 a11 h11 a12 h12 a13 h13 a14 h14 x0 x1 x2 x3 x4 x5 x6 x7) := by
  unfold k0_part53
  with_reducible
   exact
    C.l13 fun _ => C.s13 fun _ => C.l14 fun _ => C.l6 fun _ => C.l14 fun _ => C.s14 fun _ => C.l12 fun _ => C.s12 fun _ => .ret _

theorem ok54 {S : sProp 𝕄} (C : Ctx c S a3 a4 a5 a6 a7 a8 a9 a10 a11 a12 a13 a14) {x0 x1 x2 : _} :
    Fine D c S (k0_part54 (F := F) i a3 h3 a4 h4 a5 h5 a6 h6 a7 h7 a8 h8 a9 h9 a10 h10 a11 h11 a12 h12 a13 h13 a14 h14 x0 x1 x2) := by
  unfold k0_part54
  with_reducible
   exact
    C.l13 fun _ => C.l12 fun _ => C.l11 fun _ => C.l13 fun _ => C.s13 fun _ => C.l14 fun _ => C.l6 fun _ => C.l14 fun _ => .ret _

theorem ok55 {S : sProp 𝕄} (C : Ctx c S a3 a4 a5 a6 a7 a8 a9 a10 a11 a12 a13 a14) {x0 x1 x2 x3 x4 x5 : _} :
    Fine D c S (k0_part55 (F := F) i a3 h3 a4 h4 a5 h5 a6 h6 a7 h7 a8 h8 a9 h9 a10 h10 a11 h11 a12 h12 a13 h13 a14 h14 x0 x1 x2 x3 x4 x5) := by
  unfold k0_part55
  with_reducible
   exact
    C.s14 fun _ => C.l12 fun _ => C.s12 fun _ => C.l13 fun _ => C.l12 fun _ => C.l11 fun _ => C.l13 fun _ => C.s13 fun _ => C.l14 fun _ => .ret _

theorem ok56 {S : sProp 𝕄} (C : Ctx c S a3 a4 a5 a6 a7 a8 a9 a10 a11 a12 a13 a14) {x0 x1 x2 x3 x4 x5 x6 x7 : _} :
    Fine D c S (k0_part56 (F := F) i a3 h3 a4 h4 a5 h5 a6 h6 a7 h7 a8 h8 a9 h9 a10 h10 a11 h11 a12 h12 a13 h13 a14 h14 x0 x1 x2 x3 x4 x5 x6 x7) := by
  unfold k0_part56
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok57 {S : sProp 𝕄} (C : Ctx c S a3 a4 a5 a6 a7 a8 a9 a10 a11 a12 a13 a14) {x0 x1 x2 x3 x4 x5 x6 x7 : _} :
    Fine D c S (k0_part57 (F := F) i a3 h3 a4 h4 a5 h5 a6 h6 a7 h7 a8 h8 a9 h9 a10 h10 a11 h11 a12 h12 a13 h13 a14 h14 x0 x1 x2 x3 x4 x5 x6 x7) := by
  unfold k0_part57
  with_reducible
   exact
    C.l14 fun _ => C.l6 fun _ => C.l14 fun _ => C.s14 fun _ => C.l12 fun _ => C.s12 fun _ => C.l13 fun _ => C.l12 fun _ => C.l11 fun _ => .ret _

theorem ok58 {S : sProp 𝕄} (C : Ctx c S a3 a4 a5 a6 a7 a8 a9 a10 a11 a12 a13 a14) {x0 x1 x2 x3 x4 x5 : _} :
    Fine D c S (k0_part58 (F := F) i a3 h3 a4 h4 a5 h5 a6 h6 a7 h7 a8 h8 a9 h9 a10 h10 a11 h11 a12 h12 a13 h13 a14 h14 x0 x1 x2 x3 x4 x5) := by
  unfold k0_part58
  with_reducible
   exact
    C.l13 fun _ => C.s13 fun _ => C.l14 fun _ => C.l6 fun _ => C.l14 fun _ => C.s14 fun _ => C.l13 fun _ => C.l12 fun _ => C.l11 fun _ => .ret _

theorem ok59 {S : sProp 𝕄} (C : Ctx c S a3 a4 a5 a6 a7 a8 a9 a10 a11 a12 a13 a14) {x0 x1 x2 x3 x4 x5 x6 : _} :
    Fine D c S (k0_part59 (F := F) i a3 h3 a4 h4 a5 h5 a6 h6 a7 h7 a8 h8 a9 h9 a10 h10 a11 h11 a12 h12 a13 h13 a14 h14 x0 x1 x2 x3 x4 x5 x6) := by
  unfold k0_part59
  with_reducible
   exact
    C.l13 fun _ => C.s13 fun _ => C.l14 fun _ => C.l6 fun _ => C.l14 fun _ => C.s14 fun _ => C.l13 fun _ => C.l12 fun _ => .ret _

theorem ok60 {S : sProp 𝕄} (C : Ctx c S a3 a4 a5 a6 a7 a8 a9 a10 a11 a12 a13 a14) {x0 x1 x2 x3 x4 x5 x6 x7 x8 x9 x10 x11 : _} :
    Fine D c S (k0_part60 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part60
  with_reducible
   exact
    (ok41 C).bind fun _ => (ok42 C).bind fun _ => (ok43 C).bind fun _ => (ok44 C).bind fun _ => (ok45 C).bind fun _ => (ok46 C).bind fun _ =>
    (ok47 C).bind fun _ => (ok48 C).bind fun _ => (ok49 C).bind fun _ => (ok50 C).bind fun _ => (ok51 C).bind fun _ => (ok52 C).bind fun _ =>
    (ok53 C).bind fun _ => (ok54 C).bind fun _ => (ok55 C).bind fun _ => (ok56 C).bind fun _ => (ok57 C).bind fun _ => (ok58 C).bind fun _ =>
    (ok59 C).bind fun _ => C.l11 fun _ => C.l13 fun _ => C.s13 fun _ => C.l14 fun _ => C.l6 fun _ => .ret _

theorem ok61 {S : sProp 𝕄} (C : Ctx c S a3 a4 a5 a6 a7 a8 a9 a10 a11 a12 a13 a14) {x0 x1 x2 x3 x4 x5 : _} :
    Fine D c S (k0_part61 (F := F) i a3 h3 a4 h4 a5 h5 a6 h6 a7 h7 a8 h8 a9 h9 a10 h10 a11 h11 a12 h12 a13 h13 a14 h14 x0 x1 x2 x3 x4 x5) := by
  unfold k0_part61
  with_reducible
   exact
    C.l5 fun _ => C.l5 fun _ => C.l12 fun _ => C.s12 fun _ => C.l12 fun _ => C.s12 fun _ => C.l12 fun _ => C.s12 fun _ => C.l13 fun _ => .ret _

theorem ok62 {S : sProp 𝕄} (C : Ctx c S a3 a4 a5 a6 a7 a8 a9 a10 a11 a12 a13 a14) {x0 x1 x2 x3 x4 : _} :
    Fine D c S (k0_part62 (F := F) i a3 h3 a4 h4 a5 h5 a6 h6 a7 h7 a8 h8 a9 h9 a10 h10 a11 h11 a12 h12 a13 h13 a14 h14 x0 x1 x2 x3 x4) := by
  unfold k0_part62
  with_reducible
   exact
    C.l12 fun _ => C.l11 fun _ => C.l13 fun _ => C.s13 fun _ => C.l14 fun _ => C.l6 fun _ => C.l14 fun _ => C.s14 fun _ => C.l12 fun _ => .ret _

theorem ok63 {S : sProp 𝕄} (C : Ctx c S a3 a4 a5 a6 a7 a8 a9 a10 a11 a12 a13 a14) {x0 x1 x2 : _} :
    Fine D c S (k0_part63 (F := F) i a3 h3 a4 h4 a5 h5 a6 h6 a7 h7 a8 h8 a9 h9 a10 h10 a11 h11 a12 h12 a13 h13 a14 h14 x0 x1 x2) := by
  unfold k0_part63
  with_reducible
   exact
    C.s12 fun _ => C.l13 fun _ => C.l12 fun _ => C.l11 fun _ => C.l13 fun _ => C.s13 fun _ => C.l14 fun _ => C.l6 fun _ => C.l14 fun _ => .ret _

theorem ok64 {S : sProp 𝕄} (C : Ctx c S a3 a4 a5 a6 a7 a8 a9 a10 a11 a12 a13 a14) {x0 x1 x2 x3 x4 : _} :
    Fine D c S (k0_part64 (F := F) i a3 h3 a4 h4 a5 h5 a6 h6 a7 h7 a8 h8 a9 h9 a10 h10 a11 h11 a12 h12 a13 h13 a14 h14 x0 x1 x2 x3 x4) := by
  unfold k0_part64
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok65 {S : sProp 𝕄} (C : Ctx c S a3 a4 a5 a6 a7 a8 a9 a10 a11 a12 a13 a14) {x0 x1 x2 x3 x4 x5 x6 : _} :
    Fine D c S (k0_part65 (F := F) i a3 h3 a4 h4 a5 h5 a6 h6 a7 h7 a8 h8 a9 h9 a10 h10 a11 h11 a12 h12 a13 h13 a14 h14 x0 x1 x2 x3 x4 x5 x6) := by
  unfold k0_part65
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok66 {S : sProp 𝕄} (C : Ctx c S a3 a4 a5 a6 a7 a8 a9 a10 a11 a12 a13 a14) {x0 x1 x2 x3 x4 x5 x6 : _} :
    Fine D c S (k0_part66 (F := F) i a3 h3 a4 h4 a5 h5 a6 h6 a7 h7 a8 h8 a9 h9 a10 h10 a11 h11 a12 h12 a13 h13 a14 h14 x0 x1 x2 x3 x4 x5 x6) := by
  unfold k0_part66
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok67 {S : sProp 𝕄} (C : Ctx c S a3 a4 a5 a6 a7 a8 a9 a10 a11 a12 a13 a14) {x0 x1 x2 x3 x4 x5 x6 x7 : _} :
    Fine D c S (k0_part67 (F := F) i a3 h3 a4 h4 a5 h5 a6 h6 a7 h7 a8 h8 a9 h9 a10 h10 a11 h11 a12 h12 a13 h13 a14 h14 x0 x1 x2 x3 x4 x5 x6 x7) := by
  unfold k0_part67
  with_reducible
   exact
    C.l14 fun _ => C.l6 fun _ => C.l14 fun _ => C.s14 fun _ => C.l12 fun _ => C.s12 fun _ => C.l13 fun _ => C.l12 fun _ => C.l11 fun _ => .ret _

theorem ok68 {S : sProp 𝕄} (C : Ctx c S a3 a4 a5 a6 a7 a8 a9 a10 a11 a12 a13 a14) {x0 x1 x2 x3 x4 x5 : _} :
    Fine D c S (k0_part68 (F := F) i a3 h3 a4 h4 a5 h5 a6 h6 a7 h7 a8 h8 a9 h9 a10 h10 a11 h11 a12 h12 a13 h13 a14 h14 x0 x1 x2 x3 x4 x5) := by
  unfold k0_part68
  with_reducible
   exact
    C.l13 fun _ => C.s13 fun _ => C.l14 fun _ => C.l6 fun _ => C.l14 fun _ => C.s14 fun _ => C.l13 fun _ => C.l12 fun _ => C.l11 fun _ => .ret _

theorem ok69 {S : sProp 𝕄} (C : Ctx c S a3 a4 a5 a6 a7 a8 a9 a10 a11 a12 a13 a14) {x0 x1 x2 x3 x4 x5 : _} :
    Fine D c S (k0_part69 (F := F) i a3 h3 a4 h4 a5 h5 a6 h6 a7 h7 a8 h8 a9 h9 a10 h10 a11 h11 a12 h12 a13 h13 a14 h14 x0 x1 x2 x3 x4 x5) := by
  unfold k0_part69
  with_reducible
   exact
    C.l13 fun _ => C.s13 fun _ => C.l14 fun _ => C.l6 fun _ => C.l14 fun _ => C.s14 fun _ => C.l13 fun _ => C.l12 fun _ => C.l11 fun _ => .ret _

theorem ok70 {S : sProp 𝕄} (C : Ctx c S a3 a4 a5 a6 a7 a8 a9 a10 a11 a12 a13 a14) {x0 x1 x2 x3 x4 x5 : _} :
    Fine D c S (k0_part70 (F := F) i a3 h3 a4 h4 a5 h5 a6 h6 a7 h7 a8 h8 a9 h9 a10 h10 a11 h11 a12 h12 a13 h13 a14 h14 x0 x1 x2 x3 x4 x5) := by
  unfold k0_part70
  with_reducible
   exact
    C.l13 fun _ => C.s13 fun _ => C.l14 fun _ => C.l6 fun _ => C.l14 fun _ => C.s14 fun _ => C.l5 fun _ => C.l5 fun _ => .ret _

theorem ok71 {S : sProp 𝕄} (C : Ctx c S a3 a4 a5 a6 a7 a8 a9 a10 a11 a12 a13 a14) {x0 x1 x2 x3 x4 x5 x6 x7 : _} :
    Fine D c S (k0_part71 (F := F) i a3 h3 a4 h4 a5 h5 a6 h6 a7 h7 a8 h8 a9 h9 a10 h10 a11 h11 a12 h12 a13 h13 a14 h14 x0 x1 x2 x3 x4 x5 x6 x7) := by
  unfold k0_part71
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok72 {S : sProp 𝕄} (C : Ctx c S a3 a4 a5 a6 a7 a8 a9 a10 a11 a12 a13 a14) {x0 x1 x2 x3 x4 x5 x6 x7 x8 x9 : _} :
    Fine D c S (k0_part72 (F := F) i a3 h3 a4 h4 a5 h5 a6 h6 a7 h7 a8 h8 a9 h9 a10 h10 a11 h11 a12 h12 a13 h13 a14 h14 x0 x1 x2 x3 x4 x5 x6 x7 x8 x9) := by
  unfold k0_part72
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok73 {S : sProp 𝕄} (C : Ctx c S a3 a4 a5 a6 a7 a8 a9 a10 a11 a12 a13 a14) {x0 x1 x2 x3 x4 x5 x6 x7 : _} :
    Fine D c S (k0_part73 (F := F) i a3 h3 a4 h4 a5 h5 a6 h6 a7 h7 a8 h8 a9 h9 a10 h10 a11 h11 a12 h12 a13 h13 a14 h14 x0 x1 x2 x3 x4 x5 x6 x7) := by
  unfold k0_part73
  with_reducible
   exact
    C.l13 fun _ => C.s13 fun _ => C.l14 fun _ => C.l6 fun _ => C.l14 fun _ => C.s14 fun _ => C.l12 fun _ => C.s12 fun _ => .ret _

theorem ok74 {S : sProp 𝕄} (C : Ctx c S a3 a4 a5 a6 a7 a8 a9 a10 a11 a12 a13 a14) {x0 x1 x2 : _} :
    Fine D c S (k0_part74 (F := F) i a3 h3 a4 h4 a5 h5 a6 h6 a7 h7 a8 h8 a9 h9 a10 h10 a11 h11 a12 h12 a13 h13 a14 h14 x0 x1 x2) := by
  unfold k0_part74
  with_reducible
   exact
    C.l13 fun _ => C.l12 fun _ => C.l11 fun _ => C.l13 fun _ => C.s13 fun _ => C.l14 fun _ => C.l6 fun _ => C.l14 fun _ => .ret _

theorem ok75 {S : sProp 𝕄} (C : Ctx c S a3 a4 a5 a6 a7 a8 a9 a10 a11 a12 a13 a14) {x0 x1 x2 x3 x4 x5 : _} :
    Fine D c S (k0_part75 (F := F) i a3 h3 a4 h4 a5 h5 a6 h6 a7 h7 a8 h8 a9 h9 a10 h10 a11 h11 a12 h12 a13 h13 a14 h14 x0 x1 x2 x3 x4 x5) := by
  unfold k0_part75
  with_reducible
   exact
    C.s14 fun _ => C.l12 fun _ => C.s12 fun _ => C.l13 fun _ => C.l12 fun _ => C.l11 fun _ => C.l13 fun _ => C.s13 fun _ => C.l14 fun _ => .ret _

theorem ok76 {S : sProp 𝕄} (C : Ctx c S a3 a4 a5 a6 a7 a8 a9 a10 a11 a12 a13 a14) {x0 x1 x2 x3 x4 x5 x6 x7 : _} :
    Fine D c S (k0_part76 (F := F) i a3 h3 a4 h4 a5 h5 a6 h6 a7 h7 a8 h8 a9 h9 a10 h10 a11 h11 a12 h12 a13 h13 a14 h14 x0 x1 x2 x3 x4 x5 x6 x7) := by
  unfold k0_part76
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok77 {S : sProp 𝕄} (C : Ctx c S a3 a4 a5 a6 a7 a8 a9 a10 a11 a12 a13 a14) {x0 x1 x2 x3 x4 x5 x6 x7 : _} :
    Fine D c S (k0_part77 (F := F) i a3 h3 a4 h4 a5 h5 a6 h6 a7 h7 a8 h8 a9 h9 a10 h10 a11 h11 a12 h12 a13 h13 a14 h14 x0 x1 x2 x3 x4 x5 x6 x7) := by
  unfold k0_part77
  with_reducible
   exact
    C.l14 fun _ => C.l6 fun _ => C.l14 fun _ => C.s14 fun _ => C.l12 fun _ => C.s12 fun _ => C.l13 fun _ => C.l12 fun _ => C.l11 fun _ => .ret _

theorem ok78 {S : sProp 𝕄} (C : Ctx c S a3 a4 a5 a6 a7 a8 a9 a10 a11 a12 a13 a14) {x0 x1 x2 x3 x4 x5 : _} :
    Fine D c S (k0_part78 (F := F) i a3 h3 a4 h4 a5 h5 a6 h6 a7 h7 a8 h8 a9 h9 a10 h10 a11 h11 a12 h12 a13 h13 a14 h14 x0 x1 x2 x3 x4 x5) := by
  unfold k0_part78
  with_reducible
   exact
    C.l13 fun _ => C.s13 fun _ => C.l14 fun _ => C.l6 fun _ => C.l14 fun _ => C.s14 fun _ => C.l13 fun _ => C.l12 fun _ => C.l11 fun _ => .ret _

theorem ok79 {S : sProp 𝕄} (C : Ctx c S a3 a4 a5 a6 a7 a8 a9 a10 a11 a12 a13 a14) {x0 x1 x2 x3 x4 x5 x6 : _} :
    Fine D c S (k0_part79 (F := F) i a3 h3 a4 h4 a5 h5 a6 h6 a7 h7 a8 h8 a9 h9 a10 h10 a11 h11 a12 h12 a13 h13 a14 h14 x0 x1 x2 x3 x4 x5 x6) := by
  unfold k0_part79
  with_reducible
   exact
    C.l13 fun _ => C.s13 fun _ => C.l14 fun _ => C.l6 fun _ => C.l14 fun _ => C.s14 fun _ => C.l13 fun _ => C.l12 fun _ => .ret _

theorem ok80 {S : sProp 𝕄} (C : Ctx c S a3 a4 a5 a6 a7 a8 a9 a10 a11 a12 a13 a14) {x0 x1 x2 x3 x4 x5 x6 x7 x8 x9 x10 x11 : _} :
    Fine D c S (k0_part80 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part80
  with_reducible
   exact
    (ok61 C).bind fun _ => (ok62 C).bind fun _ => (ok63 C).bind fun _ => (ok64 C).bind fun _ => (ok65 C).bind fun _ => (ok66 C).bind fun _ =>
    (ok67 C).bind fun _ => (ok68 C).bind fun _ => (ok69 C).bind fun _ => (ok70 C).bind fun _ => (ok71 C).bind fun _ => (ok72 C).bind fun _ =>
    (ok73 C).bind fun _ => (ok74 C).bind fun _ => (ok75 C).bind fun _ => (ok76 C).bind fun _ => (ok77 C).bind fun _ => (ok78 C).bind fun _ =>
    (ok79 C).bind fun _ => C.l11 fun _ => C.l13 fun _ => C.s13 fun _ => C.l14 fun _ => C.l6 fun _ => .ret _

theorem ok81 {S : sProp 𝕄} (C : Ctx c S a3 a4 a5 a6 a7 a8 a9 a10 a11 a12 a13 a14) {x0 x1 x2 x3 x4 x5 : _} :
    Fine D c S (k0_part81 (F := F) i a3 h3 a4 h4 a5 h5 a6 h6 a7 h7 a8 h8 a9 h9 a10 h10 a11 h11 a12 h12 a13 h13 a14 h14 x0 x1 x2 x3 x4 x5) := by
  unfold k0_part81
  with_reducible
   exact
    C.l5 fun _ => C.l5 fun _ => C.l12 fun _ => C.s12 fun _ => C.l12 fun _ => C.s12 fun _ => C.l12 fun _ => C.s12 fun _ => C.l13 fun _ => .ret _

theorem ok82 {S : sProp 𝕄} (C : Ctx c S a3 a4 a5 a6 a7 a8 a9 a10 a11 a12 a13 a14) {x0 x1 x2 x3 x4 : _} :
    Fine D c S (k0_part82 (F := F) i a3 h3 a4 h4 a5 h5 a6 h6 a7 h7 a8 h8 a9 h9 a10 h10 a11 h11 a12 h12 a13 h13 a14 h14 x0 x1 x2 x3 x4) := by
  unfold k0_part82
  with_reducible
   exact
    C.l12 fun _ => C.l11 fun _ => C.l13 fun _ => C.s13 fun _ => C.l14 fun _ => C.l6 fun _ => C.l14 fun _ => C.s14 fun _ => C.l12 fun _ => .ret _

theorem ok83 {S : sProp 𝕄} (C : Ctx c S a3 a4 a5 a6 a7 a8 a9 a10 a11 a12 a13 a14) {x0 x1 x2 : _} :
    Fine D c S (k0_part83 (F := F) i a3 h3 a4 h4 a5 h5 a6 h6 a7 h7 a8 h8 a9 h9 a10 h10 a11 h11 a12 h12 a13 h13 a14 h14 x0 x1 x2) := by
  unfold k0_part83
  with_reducible
   exact
    C.s12 fun _ => C.l13 fun _ => C.l12 fun _ => C.l11 fun _ => C.l13 fun _ => C.s13 fun _ => C.l14 fun _ => C.l6 fun _ => C.l14 fun _ => .ret _

theorem ok84 {S : sProp 𝕄} (C : Ctx c S a3 a4 a5 a6 a7 a8 a9 a10 a11 a12 a13 a14) {x0 x1 x2 x3 x4 : _} :
    Fine D c S (k0_part84 (F := F) i a3 h3 a4 h4 a5 h5 a6 h6 a7 h7 a8 h8 a9 h9 a10 h10 a11 h11 a12 h12 a13 h13 a14 h14 x0 x1 x2 x3 x4) := by
  unfold k0_part84
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok85 {S : sProp 𝕄} (C : Ctx c S a3 a4 a5 a6 a7 a8 a9 a10 a11 a12 a13 a14) {x0 x1 x2 x3 x4 x5 x6 : _} :
    Fine D c S (k0_part85 (F := F) i a3 h3 a4 h4 a5 h5 a6 h6 a7 h7 a8 h8 a9 h9 a10 h10 a11 h11 a12 h12 a13 h13 a14 h14 x0 x1 x2 x3 x4 x5 x6) := by
  unfold k0_part85
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok86 {S : sProp 𝕄} (C : Ctx c S a3 a4 a5 a6 a7 a8 a9 a10 a11 a12 a13 a14) {x0 x1 x2 x3 x4 x5 x6 : _} :
    Fine D c S (k0_part86 (F := F) i a3 h3 a4 h4 a5 h5 a6 h6 a7 h7 a8 h8 a9 h9 a10 h10 a11 h11 a12 h12 a13 h13 a14 h14 x0 x1 x2 x3 x4 x5 x6) := by
  unfold k0_part86
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok87 {S : sProp 𝕄} (C : Ctx c S a3 a4 a5 a6 a7 a8 a9 a10 a11 a12 a13 a14) {x0 x1 x2 x3 x4 x5 x6 x7 : _} :
    Fine D c S (k0_part87 (F := F) i a3 h3 a4 h4 a5 h5 a6 h6 a7 h7 a8 h8 a9 h9 a10 h10 a11 h11 a12 h12 a13 h13 a14 h14 x0 x1 x2 x3 x4 x5 x6 x7) := by
  unfold k0_part87
  with_reducible
   exact
    C.l14 fun _ => C.l6 fun _ => C.l14 fun _ => C.s14 fun _ => C.l12 fun _ => C.s12 fun _ => C.l13 fun _ => C.l12 fun _ => C.l11 fun _ => .ret _

theorem ok88 {S : sProp 𝕄} (C : Ctx c S a3 a4 a5 a6 a7 a8 a9 a10 a11 a12 a13 a14) {x0 x1 x2 x3 x4 x5 : _} :
    Fine D c S (k0_part88 (F := F) i a3 h3 a4 h4 a5 h5 a6 h6 a7 h7 a8 h8 a9 h9 a10 h10 a11 h11 a12 h12 a13 h13 a14 h14 x0 x1 x2 x3 x4 x5) := by
  unfold k0_part88
  with_reducible
   exact
    C.l13 fun _ => C.s13 fun _ => C.l14 fun _ => C.l6 fun _ => C.l14 fun _ => C.s14 fun _ => C.l13 fun _ => C.l12 fun _ => C.l11 fun _ => .ret _

theorem ok89 {S : sProp 𝕄} (C : Ctx c S a3 a4 a5 a6 a7 a8 a9 a10 a11 a12 a13 a14) {x0 x1 x2 x3 x4 x5 : _} :
    Fine D c S (k0_part89 (F := F) i a3 h3 a4 h4 a5 h5 a6 h6 a7 h7 a8 h8 a9 h9 a10 h10 a11 h11 a12 h12 a13 h13 a14 h14 x0 x1 x2 x3 x4 x5) := by
  unfold k0_part89
  with_reducible
   exact
    C.l13 fun _ => C.s13 fun _ => C.l14 fun _ => C.l6 fun _ => C.l14 fun _ => C.s14 fun _ => C.l13 fun _ => C.l12 fun _ => C.l11 fun _ => .ret _

theorem ok90 {S : sProp 𝕄} (C : Ctx c S a3 a4 a5 a6 a7 a8 a9 a10 a11 a12 a13 a14) {x0 x1 x2 x3 x4 x5 : _} :
    Fine D c S (k0_part90 (F := F) i a3 h3 a4 h4 a5 h5 a6 h6 a7 h7 a8 h8 a9 h9 a10 h10 a11 h11 a12 h12 a13 h13 a14 h14 x0 x1 x2 x3 x4 x5) := by
  unfold k0_part90
  with_reducible
   exact
    C.l13 fun _ => C.s13 fun _ => C.l14 fun _ => C.l6 fun _ => C.l14 fun _ => C.s14 fun _ => C.l5 fun _ => C.l5 fun _ => .ret _

theorem ok91 {S : sProp 𝕄} (C : Ctx c S a3 a4 a5 a6 a7 a8 a9 a10 a11 a12 a13 a14) {x0 x1 x2 x3 x4 x5 x6 x7 : _} :
    Fine D c S (k0_part91 (F := F) i a3 h3 a4 h4 a5 h5 a6 h6 a7 h7 a8 h8 a9 h9 a10 h10 a11 h11 a12 h12 a13 h13 a14 h14 x0 x1 x2 x3 x4 x5 x6 x7) := by
  unfold k0_part91
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok92 {S : sProp 𝕄} (C : Ctx c S a3 a4 a5 a6 a7 a8 a9 a10 a11 a12 a13 a14) {x0 x1 x2 x3 x4 x5 x6 x7 x8 x9 : _} :
    Fine D c S (k0_part92 (F := F) i a3 h3 a4 h4 a5 h5 a6 h6 a7 h7 a8 h8 a9 h9 a10 h10 a11 h11 a12 h12 a13 h13 a14 h14 x0 x1 x2 x3 x4 x5 x6 x7 x8 x9) := by
  unfold k0_part92
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok93 {S : sProp 𝕄} (C : Ctx c S a3 a4 a5 a6 a7 a8 a9 a10 a11 a12 a13 a14) {x0 x1 x2 x3 x4 x5 x6 x7 : _} :
    Fine D c S (k0_part93 (F := F) i a3 h3 a4 h4 a5 h5 a6 h6 a7 h7 a8 h8 a9 h9 a10 h10 a11 h11 a12 h12 a13 h13 a14 h14 x0 x1 x2 x3 x4 x5 x6 x7) := by
  unfold k0_part93
  with_reducible
   exact
    C.l13 fun _ => C.s13 fun _ => C.l14 fun _ => C.l6 fun _ => C.l14 fun _ => C.s14 fun _ => C.l12 fun _ => C.s12 fun _ => .ret _

theorem ok94 {S : sProp 𝕄} (C : Ctx c S a3 a4 a5 a6 a7 a8 a9 a10 a11 a12 a13 a14) {x0 x1 x2 : _} :
    Fine D c S (k0_part94 (F := F) i a3 h3 a4 h4 a5 h5 a6 h6 a7 h7 a8 h8 a9 h9 a10 h10 a11 h11 a12 h12 a13 h13 a14 h14 x0 x1 x2) := by
  unfold k0_part94
  with_reducible
   exact
    C.l13 fun _ => C.l12 fun _ => C.l11 fun _ => C.l13 fun _ => C.s13 fun _ => C.l14 fun _ => C.l6 fun _ => C.l14 fun _ => .ret _

theorem ok95 {S : sProp 𝕄} (C : Ctx c S a3 a4 a5 a6 a7 a8 a9 a10 a11 a12 a13 a14) {x0 x1 x2 x3 x4 x5 : _} :
    Fine D c S (k0_part95 (F := F) i a3 h3 a4 h4 a5 h5 a6 h6 a7 h7 a8 h8 a9 h9 a10 h10 a11 h11 a12 h12 a13 h13 a14 h14 x0 x1 x2 x3 x4 x5) := by
  unfold k0_part95
  with_reducible
   exact
    C.s14 fun _ => C.l12 fun _ => C.s12 fun _ => C.l13 fun _ => C.l12 fun _ => C.l11 fun _ => C.l13 fun _ => C.s13 fun _ => C.l14 fun _ => .ret _

theorem ok96 {S : sProp 𝕄} (C : Ctx c S a3 a4 a5 a6 a7 a8 a9 a10 a11 a12 a13 a14) {x0 x1 x2 x3 x4 x5 x6 x7 : _} :
    Fine D c S (k0_part96 (F := F) i a3 h3 a4 h4 a5 h5 a6 h6 a7 h7 a8 h8 a9 h9 a10 h10 a11 h11 a12 h12 a13 h13 a14 h14 x0 x1 x2 x3 x4 x5 x6 x7) := by
  unfold k0_part96
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok97 {S : sProp 𝕄} (C : Ctx c S a3 a4 a5 a6 a7 a8 a9 a10 a11 a12 a13 a14) {x0 x1 x2 x3 x4 x5 x6 x7 : _} :
    Fine D c S (k0_part97 (F := F) i a3 h3 a4 h4 a5 h5 a6 h6 a7 h7 a8 h8 a9 h9 a10 h10 a11 h11 a12 h12 a13 h13 a14 h14 x0 x1 x2 x3 x4 x5 x6 x7) := by
  unfold k0_part97
  with_reducible
   exact
    C.l14 fun _ => C.l6 fun _ => C.l14 fun _ => C.s14 fun _ => C.l12 fun _ => C.s12 fun _ => C.l13 fun _ => C.l12 fun _ => C.l11 fun _ => .ret _

theorem ok98 {S : sProp 𝕄} (C : Ctx c S a3 a4 a5 a6 a7 a8 a9 a10 a11 a12 a13 a14) {x0 x1 x2 x3 x4 x5 : _} :
    Fine D c S (k0_part98 (F := F) i a3 h3 a4 h4 a5 h5 a6 h6 a7 h7 a8 h8 a9 h9 a10 h10 a11 h11 a12 h12 a13 h13 a14 h14 x0 x1 x2 x3 x4 x5) := by
  unfold k0_part98
  with_reducible
   exact
    C.l13 fun _ => C.s13 fun _ => C.l14 fun _ => C.l6 fun _ => C.l14 fun _ => C.s14 fun _ => C.l13 fun _ => C.l12 fun _ => C.l11 fun _ => .ret _

theorem ok99 {S : sProp 𝕄} (C : Ctx c S a3 a4 a5 a6 a7 a8 a9 a10 a11 a12 a13 a14) {x0 x1 x2 x3 x4 x5 x6 : _} :
    Fine D c S (k0_part99 (F := F) i a3 h3 a4 h4 a5 h5 a6 h6 a7 h7 a8 h8 a9 h9 a10 h10 a11 h11 a12 h12 a13 h13 a14 h14 x0 x1 x2 x3 x4 x5 x6) := by
  unfold k0_part99
  with_reducible
   exact
    C.l13 fun _ => C.s13 fun _ => C.l14 fun _ => C.l6 fun _ => C.l14 fun _ => C.s14 fun _ => C.l13 fun _ => C.l12 fun _ => .ret _

theorem ok100 {S : sProp 𝕄} (C : Ctx c S a3 a4 a5 a6 a7 a8 a9 a10 a11 a12 a13 a14) {x0 x1 x2 x3 x4 x5 x6 x7 x8 x9 x10 x11 : _} :
    Fine D c S (k0_part100 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part100
  with_reducible
   exact
    (ok81 C).bind fun _ => (ok82 C).bind fun _ => (ok83 C).bind fun _ => (ok84 C).bind fun _ => (ok85 C).bind fun _ => (ok86 C).bind fun _ =>
    (ok87 C).bind fun _ => (ok88 C).bind fun _ => (ok89 C).bind fun _ => (ok90 C).bind fun _ => (ok91 C).bind fun _ => (ok92 C).bind fun _ =>
    (ok93 C).bind fun _ => (ok94 C).bind fun _ => (ok95 C).bind fun _ => (ok96 C).bind fun _ => (ok97 C).bind fun _ => (ok98 C).bind fun _ =>
    (ok99 C).bind fun _ => C.l11 fun _ => C.l13 fun _ => C.s13 fun _ => C.l14 fun _ => C.l6 fun _ => .ret _

theorem ok101 {S : sProp 𝕄} (C : Ctx c S a3 a4 a5 a6 a7 a8 a9 a10 a11 a12 a13 a14) {x0 x1 x2 x3 x4 x5 : _} :
    Fine D c S (k0_part101 (F := F) i a3 h3 a4 h4 a5 h5 a6 h6 a7 h7 a8 h8 a9 h9 a10 h10 a11 h11 a12 h12 a13 h13 a14 h14 x0 x1 x2 x3 x4 x5) := by
  unfold k0_part101
  with_reducible
   exact
    C.l5 fun _ => C.l5 fun _ => C.l12 fun _ => C.s12 fun _ => C.l12 fun _ => C.s12 fun _ => C.l12 fun _ => C.s12 fun _ => C.l13 fun _ => .ret _

theorem ok102 {S : sProp 𝕄} (C : Ctx c S a3 a4 a5 a6 a7 a8 a9 a10 a11 a12 a13 a14) {x0 x1 x2 x3 x4 : _} :
    Fine D c S (k0_part102 (F := F) i a3 h3 a4 h4 a5 h5 a6 h6 a7 h7 a8 h8 a9 h9 a10 h10 a11 h11 a12 h12 a13 h13 a14 h14 x0 x1 x2 x3 x4) := by
  unfold k0_part102
  with_reducible
   exact
    C.l12 fun _ => C.l11 fun _ => C.l13 fun _ => C.s13 fun _ => C.l14 fun _ => C.l6 fun _ => C.l14 fun _ => C.s14 fun _ => C.l12 fun _ => .ret _

theorem ok103 {S : sProp 𝕄} (C : Ctx c S a3 a4 a5 a6 a7 a8 a9 a10 a11 a12 a13 a14) {x0 x1 x2 : _} :
    Fine D c S (k0_part103 (F := F) i a3 h3 a4 h4 a5 h5 a6 h6 a7 h7 a8 h8 a9 h9 a10 h10 a11 h11 a12 h12 a13 h13 a14 h14 x0 x1 x2) := by
  unfold k0_part103
  with_reducible
   exact
    C.s12 fun _ => C.l13 fun _ => C.l12 fun _ => C.l11 fun _ => C.l13 fun _ => C.s13 fun _ => C.l14 fun _ => C.l6 fun _ => C.l14 fun _ => .ret _

theorem ok104 {S : sProp 𝕄} (C : Ctx c S a3 a4 a5 a6 a7 a8 a9 a10 a11 a12 a13 a14) {x0 x1 x2 x3 x4 : _} :
    Fine D c S (k0_part104 (F := F) i a3 h3 a4 h4 a5 h5 a6 h6 a7 h7 a8 h8 a9 h9 a10 h10 a11 h11 a12 h12 a13 h13 a14 h14 x0 x1 x2 x3 x4) := by
  unfold k0_part104
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok105 {S : sProp 𝕄} (C : Ctx c S a3 a4 a5 a6 a7 a8 a9 a10 a11 a12 a13 a14) {x0 x1 x2 x3 x4 x5 x6 : _} :
    Fine D c S (k0_part105 (F := F) i a3 h3 a4 h4 a5 h5 a6 h6 a7 h7 a8 h8 a9 h9 a10 h10 a11 h11 a12 h12 a13 h13 a14 h14 x0 x1 x2 x3 x4 x5 x6) := by
  unfold k0_part105
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok106 {S : sProp 𝕄} (C : Ctx c S a3 a4 a5 a6 a7 a8 a9 a10 a11 a12 a13 a14) {x0 x1 x2 x3 x4 x5 x6 : _} :
    Fine D c S (k0_part106 (F := F) i a3 h3 a4 h4 a5 h5 a6 h6 a7 h7 a8 h8 a9 h9 a10 h10 a11 h11 a12 h12 a13 h13 a14 h14 x0 x1 x2 x3 x4 x5 x6) := by
  unfold k0_part106
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok107 {S : sProp 𝕄} (C : Ctx c S a3 a4 a5 a6 a7 a8 a9 a10 a11 a12 a13 a14) {x0 x1 x2 x3 x4 x5 x6 x7 : _} :
    Fine D c S (k0_part107 (F := F) i a3 h3 a4 h4 a5 h5 a6 h6 a7 h7 a8 h8 a9 h9 a10 h10 a11 h11 a12 h12 a13 h13 a14 h14 x0 x1 x2 x3 x4 x5 x6 x7) := by
  unfold k0_part107
  with_reducible
   exact
    C.l14 fun _ => C.l6 fun _ => C.l14 fun _ => C.s14 fun _ => C.l12 fun _ => C.s12 fun _ => C.l13 fun _ => C.l12 fun _ => C.l11 fun _ => .ret _

theorem ok108 {S : sProp 𝕄} (C : Ctx c S a3 a4 a5 a6 a7 a8 a9 a10 a11 a12 a13 a14) {x0 x1 x2 x3 x4 x5 : _} :
    Fine D c S (k0_part108 (F := F) i a3 h3 a4 h4 a5 h5 a6 h6 a7 h7 a8 h8 a9 h9 a10 h10 a11 h11 a12 h12 a13 h13 a14 h14 x0 x1 x2 x3 x4 x5) := by
  unfold k0_part108
  with_reducible
   exact
    C.l13 fun _ => C.s13 fun _ => C.l14 fun _ => C.l6 fun _ => C.l14 fun _ => C.s14 fun _ => C.l13 fun _ => C.l12 fun _ => C.l11 fun _ => .ret _

theorem ok109 {S : sProp 𝕄} (C : Ctx c S a3 a4 a5 a6 a7 a8 a9 a10 a11 a12 a13 a14) {x0 x1 x2 x3 x4 x5 : _} :
    Fine D c S (k0_part109 (F := F) i a3 h3 a4 h4 a5 h5 a6 h6 a7 h7 a8 h8 a9 h9 a10 h10 a11 h11 a12 h12 a13 h13 a14 h14 x0 x1 x2 x3 x4 x5) := by
  unfold k0_part109
  with_reducible
   exact
    C.l13 fun _ => C.s13 fun _ => C.l14 fun _ => C.l6 fun _ => C.l14 fun _ => C.s14 fun _ => C.l13 fun _ => C.l12 fun _ => C.l11 fun _ => .ret _

theorem ok110 {S : sProp 𝕄} (C : Ctx c S a3 a4 a5 a6 a7 a8 a9 a10 a11 a12 a13 a14) {x0 x1 x2 x3 x4 x5 : _} :
    Fine D c S (k0_part110 (F := F) i a3 h3 a4 h4 a5 h5 a6 h6 a7 h7 a8 h8 a9 h9 a10 h10 a11 h11 a12 h12 a13 h13 a14 h14 x0 x1 x2 x3 x4 x5) := by
  unfold k0_part110
  with_reducible
   exact
    C.l13 fun _ => C.s13 fun _ => C.l14 fun _ => C.l6 fun _ => C.l14 fun _ => C.s14 fun _ => C.l5 fun _ => C.l5 fun _ => .ret _

theorem ok111 {S : sProp 𝕄} (C : Ctx c S a3 a4 a5 a6 a7 a8 a9 a10 a11 a12 a13 a14) {x0 x1 x2 x3 x4 x5 x6 x7 : _} :
    Fine D c S (k0_part111 (F := F) i a3 h3 a4 h4 a5 h5 a6 h6 a7 h7 a8 h8 a9 h9 a10 h10 a11 h11 a12 h12 a13 h13 a14 h14 x0 x1 x2 x3 x4 x5 x6 x7) := by
  unfold k0_part111
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok112 {S : sProp 𝕄} (C : Ctx c S a3 a4 a5 a6 a7 a8 a9 a10 a11 a12 a13 a14) {x0 x1 x2 x3 x4 x5 x6 x7 x8 x9 : _} :
    Fine D c S (k0_part112 (F := F) i a3 h3 a4 h4 a5 h5 a6 h6 a7 h7 a8 h8 a9 h9 a10 h10 a11 h11 a12 h12 a13 h13 a14 h14 x0 x1 x2 x3 x4 x5 x6 x7 x8 x9) := by
  unfold k0_part112
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok113 {S : sProp 𝕄} (C : Ctx c S a3 a4 a5 a6 a7 a8 a9 a10 a11 a12 a13 a14) {x0 x1 x2 x3 x4 x5 x6 x7 : _} :
    Fine D c S (k0_part113 (F := F) i a3 h3 a4 h4 a5 h5 a6 h6 a7 h7 a8 h8 a9 h9 a10 h10 a11 h11 a12 h12 a13 h13 a14 h14 x0 x1 x2 x3 x4 x5 x6 x7) := by
  unfold k0_part113
  with_reducible
   exact
    C.l13 fun _ => C.s13 fun _ => C.l14 fun _ => C.l6 fun _ => C.l14 fun _ => C.s14 fun _ => C.l12 fun _ => C.s12 fun _ => .ret _

theorem ok114 {S : sProp 𝕄} (C : Ctx c S a3 a4 a5 a6 a7 a8 a9 a10 a11 a12 a13 a14) {x0 x1 x2 : _} :
    Fine D c S (k0_part114 (F := F) i a3 h3 a4 h4 a5 h5 a6 h6 a7 h7 a8 h8 a9 h9 a10 h10 a11 h11 a12 h12 a13 h13 a14 h14 x0 x1 x2) := by
  unfold k0_part114
  with_reducible
   exact
    C.l13 fun _ => C.l12 fun _ => C.l11 fun _ => C.l13 fun _ => C.s13 fun _ => C.l14 fun _ => C.l6 fun _ => C.l14 fun _ => .ret _

theorem ok115 {S : sProp 𝕄} (C : Ctx c S a3 a4 a5 a6 a7 a8 a9 a10 a11 a12 a13 a14) {x0 x1 x2 x3 x4 x5 : _} :
    Fine D c S (k0_part115 (F := F) i a3 h3 a4 h4 a5 h5 a6 h6 a7 h7 a8 h8 a9 h9 a10 h10 a11 h11 a12 h12 a13 h13 a14 h14 x0 x1 x2 x3 x4 x5) := by
  unfold k0_part115
  with_reducible
   exact
    C.s14 fun _ => C.l12 fun _ => C.s12 fun _ => C.l13 fun _ => C.l12 fun _ => C.l11 fun _ => C.l13 fun _ => C.s13 fun _ => C.l14 fun _ => .ret _

theorem ok116 {S : sProp 𝕄} (C : Ctx c S a3 a4 a5 a6 a7 a8 a9 a10 a11 a12 a13 a14) {x0 x1 x2 x3 x4 x5 x6 x7 : _} :
    Fine D c S (k0_part116 (F := F) i a3 h3 a4 h4 a5 h5 a6 h6 a7 h7 a8 h8 a9 h9 a10 h10 a11 h11 a12 h12 a13 h13 a14 h14 x0 x1 x2 x3 x4 x5 x6 x7) := by
  unfold k0_part116
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok117 {S : sProp 𝕄} (C : Ctx c S a3 a4 a5 a6 a7 a8 a9 a10 a11 a12 a13 a14) {x0 x1 x2 x3 x4 x5 x6 x7 : _} :
    Fine D c S (k0_part117 (F := F) i a3 h3 a4 h4 a5 h5 a6 h6 a7 h7 a8 h8 a9 h9 a10 h10 a11 h11 a12 h12 a13 h13 a14 h14 x0 x1 x2 x3 x4 x5 x6 x7) := by
  unfold k0_part117
  with_reducible
   exact
    C.l14 fun _ => C.l6 fun _ => C.l14 fun _ => C.s14 fun _ => C.l12 fun _ => C.s12 fun _ => C.l13 fun _ => C.l12 fun _ => C.l11 fun _ => .ret _

theorem ok118 {S : sProp 𝕄} (C : Ctx c S a3 a4 a5 a6 a7 a8 a9 a10 a11 a12 a13 a14) {x0 x1 x2 x3 x4 x5 : _} :
    Fine D c S (k0_part118 (F := F) i a3 h3 a4 h4 a5 h5 a6 h6 a7 h7 a8 h8 a9 h9 a10 h10 a11 h11 a12 h12 a13 h13 a14 h14 x0 x1 x2 x3 x4 x5) := by
  unfold k0_part118
  with_reducible
   exact
    C.l13 fun _ => C.s13 fun _ => C.l14 fun _ => C.l6 fun _ => C.l14 fun _ => C.s14 fun _ => C.l13 fun _ => C.l12 fun _ => C.l11 fun _ => .ret _

theorem ok119 {S : sProp 𝕄} (C : Ctx c S a3 a4 a5 a6 a7 a8 a9 a10 a11 a12 a13 a14) {x0 x1 x2 x3 x4 x5 x6 : _} :
    Fine D c S (k0_part119 (F := F) i a3 h3 a4 h4 a5 h5 a6 h6 a7 h7 a8 h8 a9 h9 a10 h10 a11 h11 a12 h12 a13 h13 a14 h14 x0 x1 x2 x3 x4 x5 x6) := by
  unfold k0_part119
  with_reducible
   exact
    C.l13 fun _ => C.s13 fun _ => C.l14 fun _ => C.l6 fun _ => C.l14 fun _ => C.s14 fun _ => C.l13 fun _ => C.l12 fun _ => .ret _

theorem ok120 {S : sProp 𝕄} (C : Ctx c S a3 a4 a5 a6 a7 a8 a9 a10 a11 a12 a13 a14) {x0 x1 x2 x3 x4 x5 x6 x7 x8 x9 x10 x11 : _} :
    Fine D c S (k0_part120 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part120
  with_reducible
   exact
    (ok101 C).bind fun _ => (ok102 C).bind fun _ => (ok103 C).bind fun _ => (ok104 C).bind fun _ => (ok105 C).bind fun _ => (ok106 C).bind fun _ =>
    (ok107 C).bind fun _ => (ok108 C).bind fun _ => (ok109 C).bind fun _ => (ok110 C).bind fun _ => (ok111 C).bind fun _ => (ok112 C).bind fun _ =>
    (ok113 C).bind fun _ => (ok114 C).bind fun _ => (ok115 C).bind fun _ => (ok116 C).bind fun _ => (ok117 C).bind fun _ => (ok118 C).bind fun _ =>
    (ok119 C).bind fun _ => C.l11 fun _ => C.l13 fun _ => C.s13 fun _ => C.l14 fun _ => C.l6 fun _ => .ret _

theorem ok121 {S : sProp 𝕄} (C : Ctx c S a3 a4 a5 a6 a7 a8 a9 a10 a11 a12 a13 a14) {x0 x1 x2 x3 x4 x5 : _} :
    Fine D c S (k0_part121 (F := F) i a3 h3 a4 h4 a5 h5 a6 h6 a7 h7 a8 h8 a9 h9 a10 h10 a11 h11 a12 h12 a13 h13 a14 h14 x0 x1 x2 x3 x4 x5) := by
  unfold k0_part121
  with_reducible
   exact
    C.l5 fun _ => C.l5 fun _ => C.l12 fun _ => C.s12 fun _ => C.l12 fun _ => C.s12 fun _ => C.l12 fun _ => C.s12 fun _ => C.l13 fun _ => .ret _

theorem ok122 {S : sProp 𝕄} (C : Ctx c S a3 a4 a5 a6 a7 a8 a9 a10 a11 a12 a13 a14) {x0 x1 x2 x3 x4 : _} :
    Fine D c S (k0_part122 (F := F) i a3 h3 a4 h4 a5 h5 a6 h6 a7 h7 a8 h8 a9 h9 a10 h10 a11 h11 a12 h12 a13 h13 a14 h14 x0 x1 x2 x3 x4) := by
  unfold k0_part122
  with_reducible
   exact
    C.l12 fun _ => C.l11 fun _ => C.l13 fun _ => C.s13 fun _ => C.l14 fun _ => C.l6 fun _ => C.l14 fun _ => C.s14 fun _ => C.l12 fun _ => .ret _

theorem ok123 {S : sProp 𝕄} (C : Ctx c S a3 a4 a5 a6 a7 a8 a9 a10 a11 a12 a13 a14) {x0 x1 x2 : _} :
    Fine D c S (k0_part123 (F := F) i a3 h3 a4 h4 a5 h5 a6 h6 a7 h7 a8 h8 a9 h9 a10 h10 a11 h11 a12 h12 a13 h13 a14 h14 x0 x1 x2) := by
  unfold k0_part123
  with_reducible
   exact
    C.s12 fun _ => C.l13 fun _ => C.l12 fun _ => C.l11 fun _ => C.l13 fun _ => C.s13 fun _ => C.l14 fun _ => C.l6 fun _ => C.l14 fun _ => .ret _

theorem ok124 {S : sProp 𝕄} (C : Ctx c S a3 a4 a5 a6 a7 a8 a9 a10 a11 a12 a13 a14) {x0 x1 x2 x3 x4 : _} :
    Fine D c S (k0_part124 (F := F) i a3 h3 a4 h4 a5 h5 a6 h6 a7 h7 a8 h8 a9 h9 a10 h10 a11 h11 a12 h12 a13 h13 a14 h14 x0 x1 x2 x3 x4) := by
  unfold k0_part124
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok125 {S : sProp 𝕄} (C : Ctx c S a3 a4 a5 a6 a7 a8 a9 a10 a11 a12 a13 a14) {x0 x1 x2 x3 x4 x5 x6 : _} :
    Fine D c S (k0_part125 (F := F) i a3 h3 a4 h4 a5 h5 a6 h6 a7 h7 a8 h8 a9 h9 a10 h10 a11 h11 a12 h12 a13 h13 a14 h14 x0 x1 x2 x3 x4 x5 x6) := by
  unfold k0_part125
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok126 {S : sProp 𝕄} (C : Ctx c S a3 a4 a5 a6 a7 a8 a9 a10 a11 a12 a13 a14) {x0 x1 x2 x3 x4 x5 x6 : _} :
    Fine D c S (k0_part126 (F := F) i a3 h3 a4 h4 a5 h5 a6 h6 a7 h7 a8 h8 a9 h9 a10 h10 a11 h11 a12 h12 a13 h13 a14 h14 x0 x1 x2 x3 x4 x5 x6) := by
  unfold k0_part126
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok127 {S : sProp 𝕄} (C : Ctx c S a3 a4 a5 a6 a7 a8 a9 a10 a11 a12 a13 a14) {x0 x1 x2 x3 x4 x5 x6 x7 : _} :
    Fine D c S (k0_part127 (F := F) i a3 h3 a4 h4 a5 h5 a6 h6 a7 h7 a8 h8 a9 h9 a10 h10 a11 h11 a12 h12 a13 h13 a14 h14 x0 x1 x2 x3 x4 x5 x6 x7) := by
  unfold k0_part127
  with_reducible
   exact
    C.l14 fun _ => C.l6 fun _ => C.l14 fun _ => C.s14 fun _ => C.l12 fun _ => C.s12 fun _ => C.l13 fun _ => C.l12 fun _ => C.l11 fun _ => .ret _

theorem ok128 {S : sProp 𝕄} (C : Ctx c S a3 a4 a5 a6 a7 a8 a9 a10 a11 a12 a13 a14) {x0 x1 x2 x3 x4 x5 : _} :
    Fine D c S (k0_part128 (F := F) i a3 h3 a4 h4 a5 h5 a6 h6 a7 h7 a8 h8 a9 h9 a10 h10 a11 h11 a12 h12 a13 h13 a14 h14 x0 x1 x2 x3 x4 x5) := by
  unfold k0_part128
  with_reducible
   exact
    C.l13 fun _ => C.s13 fun _ => C.l14 fun _ => C.l6 fun _ => C.l14 fun _ => C.s14 fun _ => C.l13 fun _ => C.l12 fun _ => C.l11 fun _ => .ret _

theorem ok129 {S : sProp 𝕄} (C : Ctx c S a3 a4 a5 a6 a7 a8 a9 a10 a11 a12 a13 a14) {x0 x1 x2 x3 x4 x5 : _} :
    Fine D c S (k0_part129 (F := F) i a3 h3 a4 h4 a5 h5 a6 h6 a7 h7 a8 h8 a9 h9 a10 h10 a11 h11 a12 h12 a13 h13 a14 h14 x0 x1 x2 x3 x4 x5) := by
  unfold k0_part129
  with_reducible
   exact
    C.l13 fun _ => C.s13 fun _ => C.l14 fun _ => C.l6 fun _ => C.l14 fun _ => C.s14 fun _ => C.l13 fun _ => C.l12 fun _ => C.l11 fun _ => .ret _

theorem ok130 {S : sProp 𝕄} (C : Ctx c S a3 a4 a5 a6 a7 a8 a9 a10 a11 a12 a13 a14) {x0 x1 x2 x3 x4 x5 : _} :
    Fine D c S (k0_part130 (F := F) i a3 h3 a4 h4 a5 h5 a6 h6 a7 h7 a8 h8 a9 h9 a10 h10 a11 h11 a12 h12 a13 h13 a14 h14 x0 x1 x2 x3 x4 x5) := by
  unfold k0_part130
  with_reducible
   exact
    C.l13 fun _ => C.s13 fun _ => C.l14 fun _ => C.l6 fun _ => C.l14 fun _ => C.s14 fun _ => C.l5 fun _ => C.l5 fun _ => .ret _

theorem ok131 {S : sProp 𝕄} (C : Ctx c S a3 a4 a5 a6 a7 a8 a9 a10 a11 a12 a13 a14) {x0 x1 x2 x3 x4 x5 x6 x7 : _} :
    Fine D c S (k0_part131 (F := F) i a3 h3 a4 h4 a5 h5 a6 h6 a7 h7 a8 h8 a9 h9 a10 h10 a11 h11 a12 h12 a13 h13 a14 h14 x0 x1 x2 x3 x4 x5 x6 x7) := by
  unfold k0_part131
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok132 {S : sProp 𝕄} (C : Ctx c S a3 a4 a5 a6 a7 a8 a9 a10 a11 a12 a13 a14) {x0 x1 x2 x3 x4 x5 x6 x7 x8 x9 : _} :
    Fine D c S (k0_part132 (F := F) i a3 h3 a4 h4 a5 h5 a6 h6 a7 h7 a8 h8 a9 h9 a10 h10 a11 h11 a12 h12 a13 h13 a14 h14 x0 x1 x2 x3 x4 x5 x6 x7 x8 x9) := by
  unfold k0_part132
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok133 {S : sProp 𝕄} (C : Ctx c S a3 a4 a5 a6 a7 a8 a9 a10 a11 a12 a13 a14) {x0 x1 x2 x3 x4 x5 x6 x7 : _} :
    Fine D c S (k0_part133 (F := F) i a3 h3 a4 h4 a5 h5 a6 h6 a7 h7 a8 h8 a9 h9 a10 h10 a11 h11 a12 h12 a13 h13 a14 h14 x0 x1 x2 x3 x4 x5 x6 x7) := by
  unfold k0_part133
  with_reducible
   exact
    C.l13 fun _ => C.s13 fun _ => C.l14 fun _ => C.l6 fun _ => C.l14 fun _ => C.s14 fun _ => C.l12 fun _ => C.s12 fun _ => .ret _

theorem ok134 {S : sProp 𝕄} (C : Ctx c S a3 a4 a5 a6 a7 a8 a9 a10 a11 a12 a13 a14) {x0 x1 x2 : _} :
    Fine D c S (k0_part134 (F := F) i a3 h3 a4 h4 a5 h5 a6 h6 a7 h7 a8 h8 a9 h9 a10 h10 a11 h11 a12 h12 a13 h13 a14 h14 x0 x1 x2) := by
  unfold k0_part134
  with_reducible
   exact
    C.l13 fun _ => C.l12 fun _ => C.l11 fun _ => C.l13 fun _ => C.s13 fun _ => C.l14 fun _ => C.l6 fun _ => C.l14 fun _ => .ret _

theorem ok135 {S : sProp 𝕄} (C : Ctx c S a3 a4 a5 a6 a7 a8 a9 a10 a11 a12 a13 a14) {x0 x1 x2 x3 x4 x5 : _} :
    Fine D c S (k0_part135 (F := F) i a3 h3 a4 h4 a5 h5 a6 h6 a7 h7 a8 h8 a9 h9 a10 h10 a11 h11 a12 h12 a13 h13 a14 h14 x0 x1 x2 x3 x4 x5) := by
  unfold k0_part135
  with_reducible
   exact
    C.s14 fun _ => C.l12 fun _ => C.s12 fun _ => C.l13 fun _ => C.l12 fun _ => C.l11 fun _ => C.l13 fun _ => C.s13 fun _ => C.l14 fun _ => .ret _

theorem ok136 {S : sProp 𝕄} (C : Ctx c S a3 a4 a5 a6 a7 a8 a9 a10 a11 a12 a13 a14) {x0 x1 x2 x3 x4 x5 x6 x7 : _} :
    Fine D c S (k0_part136 (F := F) i a3 h3 a4 h4 a5 h5 a6 h6 a7 h7 a8 h8 a9 h9 a10 h10 a11 h11 a12 h12 a13 h13 a14 h14 x0 x1 x2 x3 x4 x5 x6 x7) := by
  unfold k0_part136
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok137 {S : sProp 𝕄} (C : Ctx c S a3 a4 a5 a6 a7 a8 a9 a10 a11 a12 a13 a14) {x0 x1 x2 x3 x4 x5 x6 x7 : _} :
    Fine D c S (k0_part137 (F := F) i a3 h3 a4 h4 a5 h5 a6 h6 a7 h7 a8 h8 a9 h9 a10 h10 a11 h11 a12 h12 a13 h13 a14 h14 x0 x1 x2 x3 x4 x5 x6 x7) := by
  unfold k0_part137
  with_reducible
   exact
    C.l14 fun _ => C.l6 fun _ => C.l14 fun _ => C.s14 fun _ => C.l12 fun _ => C.s12 fun _ => C.l13 fun _ => C.l12 fun _ => C.l11 fun _ => .ret _

theorem ok138 {S : sProp 𝕄} (C : Ctx c S a3 a4 a5 a6 a7 a8 a9 a10 a11 a12 a13 a14) {x0 x1 x2 x3 x4 x5 : _} :
    Fine D c S (k0_part138 (F := F) i a3 h3 a4 h4 a5 h5 a6 h6 a7 h7 a8 h8 a9 h9 a10 h10 a11 h11 a12 h12 a13 h13 a14 h14 x0 x1 x2 x3 x4 x5) := by
  unfold k0_part138
  with_reducible
   exact
    C.l13 fun _ => C.s13 fun _ => C.l14 fun _ => C.l6 fun _ => C.l14 fun _ => C.s14 fun _ => C.l13 fun _ => C.l12 fun _ => C.l11 fun _ => .ret _

theorem ok139 {S : sProp 𝕄} (C : Ctx c S a3 a4 a5 a6 a7 a8 a9 a10 a11 a12 a13 a14) {x0 x1 x2 x3 x4 x5 x6 : _} :
    Fine D c S (k0_part139 (F := F) i a3 h3 a4 h4 a5 h5 a6 h6 a7 h7 a8 h8 a9 h9 a10 h10 a11 h11 a12 h12 a13 h13 a14 h14 x0 x1 x2 x3 x4 x5 x6) := by
  unfold k0_part139
  with_reducible
   exact
    C.l13 fun _ => C.s13 fun _ => C.l14 fun _ => C.l6 fun _ => C.l14 fun _ => C.s14 fun _ => C.l13 fun _ => C.l12 fun _ => .ret _

theorem ok140 {S : sProp 𝕄} (C : Ctx c S a3 a4 a5 a6 a7 a8 a9 a10 a11 a12 a13 a14) {x0 x1 x2 x3 x4 x5 x6 x7 x8 x9 x10 x11 : _} :
    Fine D c S (k0_part140 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part140
  with_reducible
   exact
    (ok121 C).bind fun _ => (ok122 C).bind fun _ => (ok123 C).bind fun _ => (ok124 C).bind fun _ => (ok125 C).bind fun _ => (ok126 C).bind fun _ =>
    (ok127 C).bind fun _ => (ok128 C).bind fun _ => (ok129 C).bind fun _ => (ok130 C).bind fun _ => (ok131 C).bind fun _ => (ok132 C).bind fun _ =>
    (ok133 C).bind fun _ => (ok134 C).bind fun _ => (ok135 C).bind fun _ => (ok136 C).bind fun _ => (ok137 C).bind fun _ => (ok138 C).bind fun _ =>
    (ok139 C).bind fun _ => C.l11 fun _ => C.l13 fun _ => C.s13 fun _ => C.l14 fun _ => C.l6 fun _ => .ret _

theorem ok141 {S : sProp 𝕄} (C : Ctx c S a3 a4 a5 a6 a7 a8 a9 a10 a11 a12 a13 a14) {x0 x1 x2 x3 x4 x5 : _} :
    Fine D c S (k0_part141 (F := F) i a3 h3 a4 h4 a5 h5 a6 h6 a7 h7 a8 h8 a9 h9 a10 h10 a11 h11 a12 h12 a13 h13 a14 h14 x0 x1 x2 x3 x4 x5) := by
  unfold k0_part141
  with_reducible
   exact
    C.l5 fun _ => C.l5 fun _ => C.l12 fun _ => C.s12 fun _ => C.l12 fun _ => C.s12 fun _ => C.l12 fun _ => C.s12 fun _ => C.l13 fun _ => .ret _

theorem ok142 {S : sProp 𝕄} (C : Ctx c S a3 a4 a5 a6 a7 a8 a9 a10 a11 a12 a13 a14) {x0 x1 x2 x3 x4 : _} :
    Fine D c S (k0_part142 (F := F) i a3 h3 a4 h4 a5 h5 a6 h6 a7 h7 a8 h8 a9 h9 a10 h10 a11 h11 a12 h12 a13 h13 a14 h14 x0 x1 x2 x3 x4) := by
  unfold k0_part142
  with_reducible
   exact
    C.l12 fun _ => C.l11 fun _ => C.l13 fun _ => C.s13 fun _ => C.l14 fun _ => C.l6 fun _ => C.l14 fun _ => C.s14 fun _ => C.l12 fun _ => .ret _

theorem ok143 {S : sProp 𝕄} (C : Ctx c S a3 a4 a5 a6 a7 a8 a9 a10 a11 a12 a13 a14) {x0 x1 x2 : _} :
    Fine D c S (k0_part143 (F := F) i a3 h3 a4 h4 a5 h5 a6 h6 a7 h7 a8 h8 a9 h9 a10 h10 a11 h11 a12 h12 a13 h13 a14 h14 x0 x1 x2) := by
  unfold k0_part143
  with_reducible
   exact
    C.s12 fun _ => C.l13 fun _ => C.l12 fun _ => C.l11 fun _ => C.l13 fun _ => C.s13 fun _ => C.l14 fun _ => C.l6 fun _ => C.l14 fun _ => .ret _

theorem ok144 {S : sProp 𝕄} (C : Ctx c S a3 a4 a5 a6 a7 a8 a9 a10 a11 a12 a13 a14) {x0 x1 x2 x3 x4 : _} :
    Fine D c S (k0_part144 (F := F) i a3 h3 a4 h4 a5 h5 a6 h6 a7 h7 a8 h8 a9 h9 a10 h10 a11 h11 a12 h12 a13 h13 a14 h14 x0 x1 x2 x3 x4) := by
  unfold k0_part144
  with_reducible
   exact
    C.s14 fun _ => C.l12 fun _ => C.s12 fun _ => C.l13 fun _ => C.l12 fun _ => C.l11 fun _ => C.l13 fun _ => C.s13 fun _ => C.l14 fun _ => C.l6 fun _ =>
    .ret _

theorem ok145 {S : sProp 𝕄} (C : Ctx c S a3 a4 a5 a6 a7 a8 a9 a10 a11 a12 a13 a14) {x0 x1 x2 x3 x4 x5 x6 : _} :
    Fine D c S (k0_part145 (F := F) i a3 h3 a4 h4 a5 h5 a6 h6 a7 h7 a8 h8 a9 h9 a10 h10 a11 h11 a12 h12 a13 h13 a14 h14 x0 x1 x2 x3 x4 x5 x6) := by
  unfold k0_part145
  with_reducible
   exact
    C.l14 fun _ => C.s14 fun _ => C.l12 fun _ => C.s12 fun _ => C.l13 fun _ => C.l12 fun _ => C.l11 fun _ => C.l13 fun _ => C.s13 fun _ => C.l14 fun _ =>
    .ret _

theorem ok146 {S : sProp 𝕄} (C : Ctx c S a3 a4 a5 a6 a7 a8 a9 a10 a11 a12 a13 a14) {x0 x1 x2 x3 x4 x5 x6 : _} :
    Fine D c S (k0_part146 (F := F) i a3 h3 a4 h4 a5 h5 a6 h6 a7 h7 a8 h8 a9 h9 a10 h10 a11 h11 a12 h12 a13 h13 a14 h14 x0 x1 x2 x3 x4 x5 x6) := by
  unfold k0_part146
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok147 {S : sProp 𝕄} (C : Ctx c S a3 a4 a5 a6 a7 a8 a9 a10 a11 a12 a13 a14) {x0 x1 x2 x3 x4 x5 x6 x7 : _} :
    Fine D c S (k0_part147 (F := F) i a3 h3 a4 h4 a5 h5 a6 h6 a7 h7 a8 h8 a9 h9 a10 h10 a11 h11 a12 h12 a13 h13 a14 h14 x0 x1 x2 x3 x4 x5 x6 x7) := by
  unfold k0_part147
  with_reducible
   exact
    C.l14 fun _ => C.l6 fun _ => C.l14 fun _ => C.s14 fun _ => C.l12 fun _ => C.s12 fun _ => C.l13 fun _ => C.l12 fun _ => C.l11 fun _ => .ret _

theorem ok148 {S : sProp 𝕄} (C : Ctx c S a3 a4 a5 a6 a7 a8 a9 a10 a11 a12 a13 a14) {x0 x1 x2 x3 x4 x5 : _} :
    Fine D c S (k0_part148 (F := F) i a3 h3 a4 h4 a5 h5 a6 h6 a7 h7 a8 h8 a9 h9 a10 h10 a11 h11 a12 h12 a13 h13 a14 h14 x0 x1 x2 x3 x4 x5) := by
  unfold k0_part148
  with_reducible
   exact
    C.l13 fun _ => C.s13 fun _ => C.l14 fun _ => C.l6 fun _ => C.l14 fun _ => C.s14 fun _ => C.l13 fun _ => C.l12 fun _ => C.l11 fun _ => .ret _

theorem ok149 {S : sProp 𝕄} (C : Ctx c S a3 a4 a5 a6 a7 a8 a9 a10 a11 a12 a13 a14) {x0 x1 x2 x3 x4 x5 : _} :
    Fine D c S (k0_part149 (F := F) i a3 h3 a4 h4 a5 h5 a6 h6 a7 h7 a8 h8 a9 h9 a10 h10 a11 h11 a12 h12 a13 h13 a14 h14 x0 x1 x2 x3 x4 x5) := by
  unfold k0_part149
  with_reducible
   exact
    C.l13 fun _ => C.s13 fun _ => C.l14 fun _ => C.l6 fun _ => C.l14 fun _ => C.s14 fun _ => C.l13 fun _ => C.l12 fun _ => C.l11 fun _ => .ret _

theorem ok150 {S : sProp 𝕄} (C : Ctx c S a3 a4 a5 a6 a7 a8 a9 a10 a11 a12 a13 a14) {x0 x1 x2 x3 x4 x5 : _} :
    Fine D c S (k0_part150 (F := F) i a3 h3 a4 h4 a5 h5 a6 h6 a7 h7 a8 h8 a9 h9 a10 h10 a11 h11 a12 h12 a13 h13 a14 h14 x0 x1 x2 x3 x4 x5) := by
  unfold k0_part150
  with_reducible
   exact
    C.l13 fun _ => C.s13 fun _ => C.l14 fun _ => C.l6 fun _ => C.l14 fun _ => C.s14 fun _ => C.l5 fun _ => C.l5 fun _ => .ret _

theorem ok151 {S : sProp 𝕄} (C : Ctx c S a3 a4 a5 a6 a7 a8 a9 a10 a11 a12 a13 a14) {x0 x1 x2 x3 x4 x5 x6 x7 : _} :
    Fine D c S (k0_part151 (F := F) i a3 h3 a4 h4 a5 h5 a6 h6 a7 h7 a8 h8 a9 h9 a10 h10 a11 h11 a12 h12 a13 h13 a14 h14 x0 x1 x2 x3 x4 x5 x6 x7) := by
  unfold k0_part151
  with_reducible
   exact
    C.l12 fun _ => C.s12 fun _ => C.l12 fun _ => C.s12 fun _ => C.l12 fun _ => C.s12 fun _ => C.l13 fun _ => C.l12 fun _ => C.l11 fun _ => C.l13 fun _ =>
    .ret _

theorem ok152 {S : sProp 𝕄} (C : Ctx c S a3 a4 a5 a6 a7 a8 a9 a10 a11 a12 a13 a14) {x0 x1 x2 x3 x4 x5 x6 x7 x8 x9 : _} :
    Fine D c S (k0_part152 (F := F) i a3 h3 a4 h4 a5 h5 a6 h6 a7 h7 a8 h8 a9 h9 a10 h10 a11 h11 a12 h12 a13 h13 a14 h14 x0 x1 x2 x3 x4 x5 x6 x7 x8 x9) := by
  unfold k0_part152
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok153 {S : sProp 𝕄} (C : Ctx c S a3 a4 a5 a6 a7 a8 a9 a10 a11 a12 a13 a14) {x0 x1 x2 x3 x4 x5 x6 x7 : _} :
    Fine D c S (k0_part153 (F := F) i a3 h3 a4 h4 a5 h5 a6 h6 a7 h7 a8 h8 a9 h9 a10 h10 a11 h11 a12 h12 a13 h13 a14 h14 x0 x1 x2 x3 x4 x5 x6 x7) := by
  unfold k0_part153
  with_reducible
   exact
    C.l13 fun _ => C.s13 fun _ => C.l14 fun _ => C.l6 fun _ => C.l14 fun _ => C.s14 fun _ => C.l12 fun _ => C.s12 fun _ => .ret _

theorem ok154 {S : sProp 𝕄} (C : Ctx c S a3 a4 a5 a6 a7 a8 a9 a10 a11 a12 a13 a14) {x0 x1 x2 : _} :
    Fine D c S (k0_part154 (F := F) i a3 h3 a4 h4 a5 h5 a6 h6 a7 h7 a8 h8 a9 h9 a10 h10 a11 h11 a12 h12 a13 h13 a14 h14 x0 x1 x2) := by
  unfold k0_part154
  with_reducible
   exact
    C.l13 fun _ => C.l12 fun _ => C.l11 fun _ => C.l13 fun _ => C.s13 fun _ => C.l14 fun _ => C.l6 fun _ => C.l14 fun _ => .ret _

theorem ok155 {S : sProp 𝕄} (C : Ctx c S a3 a4 a5 a6 a7 a8 a9 a10 a11 a12 a13 a14) {x0 x1 x2 x3 x4 x5 : _} :
    Fine D c S (k0_part155 (F := F) i a3 h3 a4 h4 a5 h5 a6 h6 a7 h7 a8 h8 a9 h9 a10 h10 a11 h11 a12 h12 a13 h13 a14 h14 x0 x1 x2 x3 x4 x5) := by
  unfold k0_part155
  with_reducible
   exact
    C.s14 fun _ => C.l12 fun _ => C.s12 fun _ => C.l13 fun _ => C.l12 fun _ => C.l11 fun _ => C.l13 fun _ => C.s13 fun _ => C.l14 fun _ => .ret _

theorem ok156 {S : sProp 𝕄} (C : Ctx c S a3 a4 a5 a6 a7 a8 a9 a10 a11 a12 a13 a14) {x0 x1 x2 x3 x4 x5 x6 x7 : _} :
    Fine D c S (k0_part156 (F := F) i a3 h3 a4 h4 a5 h5 a6 h6 a7 h7 a8 h8 a9 h9 a10 h10 a11 h11 a12 h12 a13 h13 a14 h14 x0 x1 x2 x3 x4 x5 x6 x7) := by
  unfold k0_part156
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok157 {S : sProp 𝕄} (C : Ctx c S a3 a4 a5 a6 a7 a8 a9 a10 a11 a12 a13 a14) {x0 x1 x2 x3 x4 x5 x6 x7 : _} :
    Fine D c S (k0_part157 (F := F) i a3 h3 a4 h4 a5 h5 a6 h6 a7 h7 a8 h8 a9 h9 a10 h10 a11 h11 a12 h12 a13 h13 a14 h14 x0 x1 x2 x3 x4 x5 x6 x7) := by
  unfold k0_part157
  with_reducible
   exact
    C.l14 fun _ => C.l6 fun _ => C.l14 fun _ => C.s14 fun _ => C.l12 fun _ => C.s12 fun _ => C.l13 fun _ => C.l12 fun _ => C.l11 fun _ => .ret _

theorem ok158 {S : sProp 𝕄} (C : Ctx c S a3 a4 a5 a6 a7 a8 a9 a10 a11 a12 a13 a14) {x0 x1 x2 x3 x4 x5 : _} :
    Fine D c S (k0_part158 (F := F) i a3 h3 a4 h4 a5 h5 a6 h6 a7 h7 a8 h8 a9 h9 a10 h10 a11 h11 a12 h12 a13 h13 a14 h14 x0 x1 x2 x3 x4 x5) := by
  unfold k0_part158
  with_reducible
   exact
    C.l13 fun _ => C.s13 fun _ => C.l14 fun _ => C.l6 fun _ => C.l14 fun _ => C.s14 fun _ => C.l13 fun _ => C.l12 fun _ => C.l11 fun _ => .ret _

theorem ok159 {S : sProp 𝕄} (C : Ctx c S a3 a4 a5 a6 a7 a8 a9 a10 a11 a12 a13 a14) {x0 x1 x2 x3 x4 x5 x6 : _} :
    Fine D c S (k0_part159 (F := F) i a3 h3 a4 h4 a5 h5 a6 h6 a7 h7 a8 h8 a9 h9 a10 h10 a11 h11 a12 h12 a13 h13 a14 h14 x0 x1 x2 x3 x4 x5 x6) := by
  unfold k0_part159
  with_reducible
   exact
    C.l13 fun _ => C.s13 fun _ => C.l14 fun _ => C.l6 fun _ => C.l14 fun _ => C.s14 fun _ => C.l13 fun _ => C.l12 fun _ => .ret _

theorem ok160 {S : sProp 𝕄} (C : Ctx c S a3 a4 a5 a6 a7 a8 a9 a10 a11 a12 a13 a14) {x0 x1 x2 x3 x4 x5 x6 x7 x8 x9 x10 x11 : _} :
    Fine D c S (k0_part160 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part160
  with_reducible
   exact
    (ok141 C).bind fun _ => (ok142 C).bind fun _ => (ok143 C).bind fun _ => (ok144 C).bind fun _ => (ok145 C).bind fun _ => (ok146 C).bind fun _ =>
    (ok147 C).bind fun _ => (ok148 C).bind fun _ => (ok149 C).bind fun _ => (ok150 C).bind fun _ => (ok151 C).bind fun _ => (ok152 C).bind fun _ =>
    (ok153 C).bind fun _ => (ok154 C).bind fun _ => (ok155 C).bind fun _ => (ok156 C).bind fun _ => (ok157 C).bind fun _ => (ok158 C).bind fun _ =>
    (ok159 C).bind fun _ => C.l11 fun _ => C.l13 fun _ => C.s13 fun _ => C.l14 fun _ => C.l6 fun _ => .ret _

theorem ok161 {S : sProp 𝕄} (C : Ctx c S a3 a4 a5 a6 a7 a8 a9 a10 a11 a12 a13 a14) :
    Fine D c S (k0_part161 (F := F) i a3 h3 a4 h4 a5 h5 a6 h6 a7 h7 a8 h8 a9 h9 a10 h10 a11 h11 a12 h12 a13 h13 a14 h14) := by
  unfold k0_part161
  with_reducible
   exact
    C.l4 fun _ => .ret _

theorem ok162 {S : sProp 𝕄} (C : Ctx c S a3 a4 a5 a6 a7 a8 a9 a10 a11 a12 a13 a14) {x0 x1 x2 x3 : _} :
    Fine D c S (k0_part162 (F := F) i a3 h3 a4 h4 a5 h5 a6 h6 a7 h7 a8 h8 a9 h9 a10 h10 a11 h11 a12 h12 a13 h13 a14 h14 x0 x1 x2 x3) := by
  unfold k0_part162
  with_reducible
   exact
    C.l7 fun _ => .ret _

theorem ok163 {S : sProp 𝕄} (C : Ctx c S a3 a4 a5 a6 a7 a8 a9 a10 a11 a12 a13 a14) {x0 x1 x2 x3 x4 x5 x6 x7 x8 : _} :
    Fine D c S (k0_part163 (F := F) i a3 h3 a4 h4 a5 h5 a6 h6 a7 h7 a8 h8 a9 h9 a10 h10 a11 h11 a12 h12 a13 h13 a14 h14 x0 x1 x2 x3 x4 x5 x6 x7 x8) := by
  unfold k0_part163
  with_reducible
   exact
    .ret _

theorem ok164 {S : sProp 𝕄} (C : Ctx c S a3 a4 a5 a6 a7 a8 a9 a10 a11 a12 a13 a14) {x0 x1 x2 x3 : _} :
    Fine D c S (k0_part164 (F := F) i a3 h3 a4 h4 a5 h5 a6 h6 a7 h7 a8 h8 a9 h9 a10 h10 a11 h11 a12 h12 a13 h13 a14 h14 x0 x1 x2 x3) := by
  unfold k0_part164
  with_reducible
   exact
    .ret _

theorem ok165 {S : sProp 𝕄} (C : Ctx c S a3 a4 a5 a6 a7 a8 a9 a10 a11 a12 a13 a14) {x0 x1 x2 x3 x4 : _} :
    Fine D c S (k0_part165 (F := F) i a3 h3 a4 h4 a5 h5 a6 h6 a7 h7 a8 h8 a9 h9 a10 h10 a11 h11 a12 h12 a13 h13 a14 h14 x0 x1 x2 x3 x4) := by
  unfold k0_part165
  exact
    C.w3 fun _ => C.l11 fun _ => C.s11 fun _ => .ret _

theorem ok166 {S : sProp 𝕄} (C : Ctx c S a3 a4 a5 a6 a7 a8 a9 a10 a11 a12 a13 a14) {x0 x1 x2 x3 x4 x5 x6 : _} :
    Fine D c S (k0_part166 (F := F) i a3 h3 a4 h4 a5 h5 a6 h6 a7 h7 a8 h8 a9 h9 a10 h10 a11 h11 a12 h12 a13 h13 a14 h14 x0 x1 x2 x3 x4 x5 x6) := by
  unfold k0_part166
  exact
    C.w3 fun _ => C.l11 fun _ => C.s11 fun _ => .ret _

theorem ok167 {S : sProp 𝕄} (C : Ctx c S a3 a4 a5 a6 a7 a8 a9 a10 a11 a12 a13 a14) {x0 x1 x2 x3 x4 x5 : _} :
    Fine D c S (k0_part167 (F := F) i a3 h3 a4 h4 a5 h5 a6 h6 a7 h7 a8 h8 a9 h9 a10 h10 a11 h11 a12 h12 a13 h13 a14 h14 x0 x1 x2 x3 x4 x5) := by
  unfold k0_part167
  exact
    C.w3 fun _ => .ret _

theorem ok168 {S : sProp 𝕄} (C : Ctx c S a3 a4 a5 a6 a7 a8 a9 a10 a11 a12 a13 a14) {x0 x1 x2 x3 x4 : _} :
    Fine D c S (k0_part168 (F := F) i a3 h3 a4 h4 a5 h5 a6 h6 a7 h7 a8 h8 a9 h9 a10 h10 a11 h11 a12 h12 a13 h13 a14 h14 x0 x1 x2 x3 x4) := by
  unfold k0_part168
  with_reducible
   exact
    C.l11 fun _ => C.s11 fun _ => .ret _

theorem ok169 {S : sProp 𝕄} (C : Ctx c S a3 a4 a5 a6 a7 a8 a9 a10 a11 a12 a13 a14) {x0 x1 x2 x3 x4 x5 : _} :
    Fine D c S (k0_part169 (F := F) i a3 h3 a4 h4 a5 h5 a6 h6 a7 h7 a8 h8 a9 h9 a10 h10 a11 h11 a12 h12 a13 h13 a14 h14 x0 x1 x2 x3 x4 x5) := by
  unfold k0_part169
  exact
    C.w3 fun _ => C.l11 fun _ => C.s11 fun _ => C.l4 fun _ => .ret _

theorem ok170 {S : sProp 𝕄} (C : Ctx c S a3 a4 a5 a6 a7 a8 a9 a10 a11 a12 a13 a14) {x0 x1 x2 x3 x4 : _} :
    Fine D c S (k0_part170 (F := F) i a3 h3 a4 h4 a5 h5 a6 h6 a7 h7 a8 h8 a9 h9 a10 h10 a11 h11 a12 h12 a13 h13 a14 h14 x0 x1 x2 x3 x4) := by
  unfold k0_part170
  with_reducible
   exact
    C.l7 fun _ => .ret _

theorem ok171 {S : sProp 𝕄} (C : Ctx c S a3 a4 a5 a6 a7 a8 a9 a10 a11 a12 a13 a14) {x0 x1 x2 x3 x4 x5 x6 x7 x8 x9 : _} :
    Fine D c S (k0_part171 (F := F) i a3 h3 a4 h4 a5 h5 a6 h6 a7 h7 a8 h8 a9 h9 a10 h10 a11 h11 a12 h12 a13 h13 a14 h14 x0 x1 x2 x3 x4 x5 x6 x7 x8 x9) := by
  unfold k0_part171
  with_reducible
   exact
    .ret _

theorem ok172 {S : sProp 𝕄} (C : Ctx c S a3 a4 a5 a6 a7 a8 a9 a10 a11 a12 a13 a14) {x0 x1 x2 x3 x4 x5 : _} :
    Fine D c S (k0_part172 (F := F) i a3 h3 a4 h4 a5 h5 a6 h6 a7 h7 a8 h8 a9 h9 a10 h10 a11 h11 a12 h12 a13 h13 a14 h14 x0 x1 x2 x3 x4 x5) := by
  unfold k0_part172
  with_reducible
   exact
    .ret _

theorem ok173 {S : sProp 𝕄} (C : Ctx c S a3 a4 a5 a6 a7 a8 a9 a10 a11 a12 a13 a14) {x0 x1 x2 x3 x4 : _} :
    Fine D c S (k0_part173 (F := F) i a3 h3 a4 h4 a5 h5 a6 h6 a7 h7 a8 h8 a9 h9 a10 h10 a11 h11 a12 h12 a13 h13 a14 h14 x0 x1 x2 x3 x4) := by
  unfold k0_part173
  exact
    C.w3 fun _ => C.l11 fun _ => C.s11 fun _ => .ret _

theorem ok174 {S : sProp 𝕄} (C : Ctx c S a3 a4 a5 a6 a7 a8 a9 a10 a11 a12 a13 a14) {x0 x1 x2 x3 x4 x5 x6 x7 : _} :
    Fine D c S (k0_part174 (F := F) i a3 h3 a4 h4 a5 h5 a6 h6 a7 h7 a8 h8 a9 h9 a10 h10 a11 h11 a12 h12 a13 h13 a14 h14 x0 x1 x2 x3 x4 x5 x6 x7) := by
  unfold k0_part174
  exact
    C.w3 fun _ => C.l11 fun _ => C.s11 fun _ => .ret _

theorem ok175 {S : sProp 𝕄} (C : Ctx c S a3 a4 a5 a6 a7 a8 a9 a10 a11 a12 a13 a14) {x0 x1 x2 x3 x4 x5 : _} :
    Fine D c S (k0_part175 (F := F) i a3 h3 a4 h4 a5 h5 a6 h6 a7 h7 a8 h8 a9 h9 a10 h10 a11 h11 a12 h12 a13 h13 a14 h14 x0 x1 x2 x3 x4 x5) := by
  unfold k0_part175
  exact
    C.w3 fun _ => C.l11 fun _ => .ret _

theorem ok176 {S : sProp 𝕄} (C : Ctx c S a3 a4 a5 a6 a7 a8 a9 a10 a11 a12 a13 a14) {x0 x1 x2 x3 x4 : _} :
    Fine D c S (k0_part176 (F := F) i a3 h3 a4 h4 a5 h5 a6 h6 a7 h7 a8 h8 a9 h9 a10 h10 a11 h11 a12 h12 a13 h13 a14 h14 x0 x1 x2 x3 x4) := by
  unfold k0_part176
  with_reducible
   exact
    C.s11 fun _ => .ret _

theorem ok177 {S : sProp 𝕄} (C : Ctx c S a3 a4 a5 a6 a7 a8 a9 a10 a11 a12 a13 a14) {x0 x1 x2 x3 x4 x5 : _} :
    Fine D c S (k0_part177 (F := F) i a3 h3 a4 h4 a5 h5 a6 h6 a7 h7 a8 h8 a9 h9 a10 h10 a11 h11 a12 h12 a13 h13 a14 h14 x0 x1 x2 x3 x4 x5) := by
  unfold k0_part177
  exact
    C.w3 fun _ => C.l11 fun _ => C.s11 fun _ => C.l13 fun _ => C.s13 fun _ => C.l14 fun _ => C.s14 fun _ => C.l5 fun _ => .ret _

theorem ok178 {S : sProp 𝕄} (C : Ctx c S a3 a4 a5 a6 a7 a8 a9 a10 a11 a12 a13 a14) {x0 x1 x2 x3 x4 : _} :
    Fine D c S (k0_part178 (F := F) i a3 h3 a4 h4 a5 h5 a6 h6 a7 h7 a8 h8 a9 h9 a10 h10 a11 h11 a12 h12 a13 h13 a14 h14 x0 x1 x2 x3 x4) := by
  unfold k0_part178
  with_reducible
   exact
    C.l8 fun _ => C.l12 fun _ => C.s12 fun _ => C.l8 fun _ => C.l12 fun _ => C.s12 fun _ => C.l8 fun _ => C.l12 fun _ => C.s12 fun _ => C.l8 fun _ =>
    .ret _

theorem ok179 {S : sProp 𝕄} (C : Ctx c S a3 a4 a5 a6 a7 a8 a9 a10 a11 a12 a13 a14) {x0 x1 x2 x3 x4 : _} :
    Fine D c S (k0_part179 (F := F) i a3 h3 a4 h4 a5 h5 a6 h6 a7 h7 a8 h8 a9 h9 a10 h10 a11 h11 a12 h12 a13 h13 a14 h14 x0 x1 x2 x3 x4) := by
  unfold k0_part179
  with_reducible
   exact
    C.l12 fun _ => C.s12 fun _ => C.l5 fun _ => C.l8 fun _ => C.l12 fun _ => C.s12 fun _ => C.l8 fun _ => C.l12 fun _ => C.s12 fun _ => C.l8 fun _ =>
    C.l12 fun _ => C.s12 fun _ => .ret _

theorem ok180 {S : sProp 𝕄} (C : Ctx c S a3 a4 a5 a6 a7 a8 a9 a10 a11 a12 a13 a14) {x0 x1 x2 x3 x4 : _} :
    Fine D c S (k0_part180 (F := F) i a3 h3 a4 h4 a5 h5 a6 h6 a7 h7 a8 h8 a9 h9 a10 h10 a11 h11 a12 h12 a13 h13 a14 h14 x0 x1 x2 x3 x4) := by
  unfold k0_part180
  with_reducible
   exact
    C.l8 fun _ => C.l12 fun _ => C.s12 fun _ => C.l5 fun _ => C.l5 fun _ => C.l9 fun _ => C.l12 fun _ => C.s12 fun _ => C.l9 fun _ => .ret _

theorem ok181 {S : sProp 𝕄} (C : Ctx c S a3 a4 a5 a6 a7 a8 a9 a10 a11 a12 a13 a14) {x0 x1 x2 x3 x4 : _} :
    Fine D c S (k0_part181 (F := F) i a3 h3 a4 h4 a5 h5 a6 h6 a7 h7 a8 h8 a9 h9 a10 h10 a11 h11 a12 h12 a13 h13 a14 h14 x0 x1 x2 x3 x4) := by
  unfold k0_part181
  with_reducible
   exact
    C.l12 fun _ => C.s12 fun _ => C.l9 fun _ => C.l12 fun _ => C.s12 fun _ => C.l13 fun _ => C.l12 fun _ => C.l13 fun _ => C.s13 fun _ => C.l14 fun _ =>
    .ret _

theorem ok182 {S : sProp 𝕄} (C : Ctx c S a3 a4 a5 a6 a7 a8 a9 a10 a11 a12 a13 a14) {x0 x1 x2 x3 x4 x5 : _} :
    Fine D c S (k0_part182 (F := F) i a3 h3 a4 h4 a5 h5 a6 h6 a7 h7 a8 h8 a9 h9 a10 h10 a11 h11 a12 h12 a13 h13 a14 h14 x0 x1 x2 x3 x4 x5) := by
  unfold k0_part182
  with_reducible
   exact
    C.l6 fun _ => C.l14 fun _ => C.s14 fun _ => C.l9 fun _ => C.l12 fun _ => C.s12 fun _ => C.l13 fun _ => C.l12 fun _ => C.l13 fun _ => C.s13 fun _ =>
    .ret _

theorem ok183 {S : sProp 𝕄} (C : Ctx c S a3 a4 a5 a6 a7 a8 a9 a10 a11 a12 a13 a14) {x0 x1 x2 x3 x4 x5 : _} :
    Fine D c S (k0_part183 (F := F) i a3 h3 a4 h4 a5 h5 a6 h6 a7 h7 a8 h8 a9 h9 a10 h10 a11 h11 a12 h12 a13 h13 a14 h14 x0 x1 x2 x3 x4 x5) := by
  unfold k0_part183
  with_reducible
   exact
    C.l14 fun _ => C.l6 fun _ => C.l14 fun _ => C.s14 fun _ => C.l9 fun _ => C.l12 fun _ => C.s12 fun _ => C.l13 fun _ => C.l12 fun _ => .ret _

theorem ok184 {S : sProp 𝕄} (C : Ctx c S a3 a4 a5 a6 a7 a8 a9 a10 a11 a12 a13 a14) {x0 x1 x2 x3 x4 x5 x6 : _} :
    Fine D c S (k0_part184 (F := F) i a3 h3 a4 h4 a5 h5 a6 h6 a7 h7 a8 h8 a9 h9 a10 h10 a11 h11 a12 h12 a13 h13 a14 h14 x0 x1 x2 x3 x4 x5 x6) := by
  unfold k0_part184
  with_reducible
   exact
    C.l13 fun _ => C.s13 fun _ => C.l14 fun _ => C.l6 fun _ => C.l14 fun _ => C.s14 fun _ => C.l9 fun _ => C.l12 fun _ => C.s12 fun _ => C.l13 fun _ =>
    .ret _

theorem ok185 {S : sProp 𝕄} (C : Ctx c S a3 a4 a5 a6 a7 a8 a9 a10 a11 a12 a13 a14) {x0 x1 x2 x3 x4 : _} :
    Fine D c S (k0_part185 (F := F) i a3 h3 a4 h4 a5 h5 a6 h6 a7 h7 a8 h8 a9 h9 a10 h10 a11 h11 a12 h12 a13 h13 a14 h14 x0 x1 x2 x3 x4) := by
  unfold k0_part185
  with_reducible
   exact
    C.l12 fun _ => C.l13 fun _ => C.s13 fun _ => C.l14 fun _ => C.l6 fun _ => C.l14 fun _ => C.s14 fun _ => C.l9 fun _ => .ret _

theorem ok186 {S : sProp 𝕄} (C : Ctx c S a3 a4 a5 a6 a7 a8 a9 a10 a11 a12 a13 a14) {x0 x1 x2 : _} :
    Fine D c S (k0_part186 (F := F) i a3 h3 a4 h4 a5 h5 a6 h6 a7 h7 a8 h8 a9 h9 a10 h10 a11 h11 a12 h12 a13 h13 a14 h14 x0 x1 x2) := by
  unfold k0_part186
  with_reducible
   exact
    C.l12 fun _ => C.s12 fun _ => C.l13 fun _ => C.l12 fun _ => C.l13 fun _ => C.s13 fun _ => C.l14 fun _ => C.l6 fun _ => C.l14 fun _ => C.s14 fun _ =>
    .ret _

theorem ok187 {S : sProp 𝕄} (C : Ctx c S a3 a4 a5 a6 a7 a8 a9 a10 a11 a12 a13 a14) {x0 x1 x2 x3 x4 : _} :
    Fine D c S (k0_part187 (F := F) i a3 h3 a4 h4 a5 h5 a6 h6 a7 h7 a8 h8 a9 h9 a10 h10 a11 h11 a12 h12 a13 h13 a14 h14 x0 x1 x2 x3 x4) := by
  unfold k0_part187
  with_reducible
   exact
    C.l9 fun _ => C.l12 fun _ => C.s12 fun _ => C.l13 fun _ => C.l12 fun _ => C.l13 fun _ => C.s13 fun _ => C.l14 fun _ => C.l6 fun _ => .ret _

theorem ok188 {S : sProp 𝕄} (C : Ctx c S a3 a4 a5 a6 a7 a8 a9 a10 a11 a12 a13 a14) {x0 x1 x2 x3 x4 : _} :
    Fine D c S (k0_part188 (F := F) i a3 h3 a4 h4 a5 h5 a6 h6 a7 h7 a8 h8 a9 h9 a10 h10 a11 h11 a12 h12 a13 h13 a14 h14 x0 x1 x2 x3 x4) := by
  unfold k0_part188
  with_reducible
   exact
    C.l14 fun _ => C.s14 fun _ => C.l13 fun _ => C.l12 fun _ => C.l13 fun _ => C.s13 fun _ => C.l14 fun _ => C.l6 fun _ => .ret _

theorem ok189 {S : sProp 𝕄} (C : Ctx c S a3 a4 a5 a6 a7 a8 a9 a10 a11 a12 a13 a14) {x0 x1 x2 : _} :
    Fine D c S (k0_part189 (F := F) i a3 h3 a4 h4 a5 h5 a6 h6 a7 h7 a8 h8 a9 h9 a10 h10 a11 h11 a12 h12 a13 h13 a14 h14 x0 x1 x2) := by
  unfold k0_part189
  with_reducible
   exact
    C.l14 fun _ => C.s14 fun _ => C.l13 fun _ => C.l12 fun _ => C.l13 fun _ => C.s13 fun _ => C.l14 fun _ => C.l6 fun _ => C.l14 fun _ => C.s14 fun _ =>
    .ret _

theorem ok190 {S : sProp 𝕄} (C : Ctx c S a3 a4 a5 a6 a7 a8 a9 a10 a11 a12 a13 a14) {x0 x1 x2 x3 : _} :
    Fine D c S (k0_part190 (F := F) i a3 h3 a4 h4 a5 h5 a6 h6 a7 h7 a8 h8 a9 h9 a10 h10 a11 h11 a12 h12 a13 h13 a14 h14 x0 x1 x2 x3) := by
  unfold k0_part190
  with_reducible
   exact
    C.l5 fun _ => C.l5 fun _ => C.l12 fun _ => C.s12 fun _ => C.l12 fun _ => C.s12 fun _ => C.l12 fun _ => C.s12 fun _ => C.l13 fun _ => C.l12 fun _ =>
    C.l11 fun _ => .ret _

theorem ok191 {S : sProp 𝕄} (C : Ctx c S a3 a4 a5 a6 a7 a8 a9 a10 a11 a12 a13 a14) {x0 x1 x2 x3 x4 x5 : _} :
    Fine D c S (k0_part191 (F := F) i a3 h3 a4 h4 a5 h5 a6 h6 a7 h7 a8 h8 a9 h9 a10 h10 a11 h11 a12 h12 a13 h13 a14 h14 x0 x1 x2 x3 x4 x5) := by
  unfold k0_part191
  with_reducible
   exact
    C.l13 fun _ => C.s13 fun _ => C.l14 fun _ => C.l6 fun _ => C.l14 fun _ => C.s14 fun _ => C.l12 fun _ => .ret _

theorem ok192 {S : sProp 𝕄} (C : Ctx c S a3 a4 a5 a6 a7 a8 a9 a10 a11 a12 a13 a14) {x0 x1 : _} :
    Fine D c S (k0_part192 (F := F) i a3 h3 a4 h4 a5 h5 a6 h6 a7 h7 a8 h8 a9 h9 a10 h10 a11 h11 a12 h12 a13 h13 a14 h14 x0 x1) := by
  unfold k0_part192
  with_reducible
   exact
    C.s12 fun _ => C.l13 fun _ => C.l12 fun _ => C.l11 fun _ => C.l13 fun _ => C.s13 fun _ => C.l14 fun _ => C.l6 fun _ => .ret _

theorem ok193 {S : sProp 𝕄} (C : Ctx c S a3 a4 a5 a6 a7 a8 a9 a10 a11 a12 a13 a14) {x0 x1 x2 x3 x4 x5 : _} :
    Fine D c S (k0_part193 (F := F) i a3 h3 a4 h4 a5 h5 a6 h6 a7 h7 a8 h8 a9 h9 a10 h10 a11 h11 a12 h12 a13 h13 a14 h14 x0 x1 x2 x3 x4 x5) := by
  unfold k0_part193
  with_reducible
   exact
    C.l14 fun _ => C.s14 fun _ => C.l12 fun _ => C.s12 fun _ => C.l13 fun _ => C.l12 fun _ => C.l11 fun _ => C.l13 fun _ => C.s13 fun _ => .ret _

theorem ok194 {S : sProp 𝕄} (C : Ctx c S a3 a4 a5 a6 a7 a8 a9 a10 a11 a12 a13 a14) {x0 x1 x2 x3 x4 x5 : _} :
    Fine D c S (k0_part194 (F := F) i a3 h3 a4 h4 a5 h5 a6 h6 a7 h7 a8 h8 a9 h9 a10 h10 a11 h11 a12 h12 a13 h13 a14 h14 x0 x1 x2 x3 x4 x5) := by
  unfold k0_part194
  with_reducible
   exact
    C.l14 fun _ => C.l6 fun _ => C.l14 fun _ => C.s14 fun _ => C.l12 fun _ => C.s12 fun _ => C.l13 fun _ => C.l12 fun _ => C.l11 fun _ => .ret _

theorem ok195 {S : sProp 𝕄} (C : Ctx c S a3 a4 a5 a6 a7 a8 a9 a10 a11 a12 a13 a14) {x0 x1 x2 x3 x4 x5 x6 x7 : _} :
    Fine D c S (k0_part195 (F := F) i a3 h3 a4 h4 a5 h5 a6 h6 a7 h7 a8 h8 a9 h9 a10 h10 a11 h11 a12 h12 a13 h13 a14 h14 x0 x1 x2 x3 x4 x5 x6 x7) := by
  unfold k0_part195
  with_reducible
   exact
    C.l13 fun _ => C.s13 fun _ => C.l14 fun _ => C.l6 fun _ => C.l14 fun _ => C.s14 fun _ => C.l12 fun _ => C.s12 fun _ => C.l13 fun _ => .ret _

theorem ok196 {S : sProp 𝕄} (C : Ctx c S a3 a4 a5 a6 a7 a8 a9 a10 a11 a12 a13 a14) {x0 x1 : _} :
    Fine D c S (k0_part196 (F := F) i a3 h3 a4 h4 a5 h5 a6 h6 a7 h7 a8 h8 a9 h9 a10 h10 a11 h11 a12 h12 a13 h13 a14 h14 x0 x1) := by
  unfold k0_part196
  with_reducible
   exact
    C.l12 fun _ => C.l11 fun _ => C.l13 fun _ => C.s13 fun _ => C.l14 fun _ => C.l6 fun _ => .ret _

theorem ok197 {S : sProp 𝕄} (C : Ctx c S a3 a4 a5 a6 a7 a8 a9 a10 a11 a12 a13 a14) {x0 x1 x2 x3 : _} :
    Fine D c S (k0_part197 (F := F) i a3 h3 a4 h4 a5 h5 a6 h6 a7 h7 a8 h8 a9 h9 a10 h10 a11 h11 a12 h12 a13 h13 a14 h14 x0 x1 x2 x3) := by
  unfold k0_part197
  with_reducible
   exact
    C.l14 fun _ => C.s14 fun _ => C.l12 fun _ => C.s12 fun _ => C.l13 fun _ => C.l12 fun _ => C.l11 fun _ => C.l13 fun _ => C.s13 fun _ => .ret _

theorem ok198 {S : sProp 𝕄} (C : Ctx c S a3 a4 a5 a6 a7 a8 a9 a10 a11 a12 a13 a14) {x0 x1 x2 : _} :
    Fine D c S (k0_part198 (F := F) i a3 h3 a4 h4 a5 h5 a6 h6 a7 h7 a8 h8 a9 h9 a10 h10 a11 h11 a12 h12 a13 h13 a14 h14 x0 x1 x2) := by
  unfold k0_part198
  with_reducible
   exact
    C.l14 fun _ => C.l6 fun _ => C.l14 fun _ => C.s14 fun _ => C.l13 fun _ => C.l12 fun _ => C.l11 fun _ => C.l13 fun _ => C.s13 fun _ => .ret _

theorem ok199 {S : sProp 𝕄} (C : Ctx c S a3 a4 a5 a6 a7 a8 a9 a10 a11 a12 a13 a14) {x0 x1 x2 x3 x4 : _} :
    Fine D c S (k0_part199 (F := F) i a3 h3 a4 h4 a5 h5 a6 h6 a7 h7 a8 h8 a9 h9 a10 h10 a11 h11 a12 h12 a13 h13 a14 h14 x0 x1 x2 x3 x4) := by
  unfold k0_part199
  with_reducible
   exact
    C.l14 fun _ => C.l6 fun _ => C.l14 fun _ => C.s14 fun _ => C.l13 fun _ => C.l12 fun _ => C.l11 fun _ => .ret _

theorem ok200 {S : sProp 𝕄} (C : Ctx c S a3 a4 a5 a6 a7 a8 a9 a10 a11 a12 a13 a14) {x0 x1 x2 x3 x4 : _} :
    Fine D c S (k0_part200 (F := F) i a3 h3 a4 h4 a5 h5 a6 h6 a7 h7 a8 h8 a9 h9 a10 h10 a11 h11 a12 h12 a13 h13 a14 h14 x0 x1 x2 x3 x4) := by
  unfold k0_part200
  with_reducible
   exact
    C.l13 fun _ => C.s13 fun _ => C.l14 fun _ => C.l6 fun _ => C.l14 fun _ => C.s14 fun _ => .ret _

end Cert.Kernel2Ideal.Attn

end
-- ==== Proof.Attn.PartsB.lean ====
/- The other parts of the attention kernel, and its body. -/
module

public import proofs.«01_k».proof.Proof.Attn.PartsA

@[expose] public section

noncomputable section

namespace Cert.Kernel2Ideal.Attn

open Cert.Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

local notation "𝕄" => MT nD τ sig Unit (Elt F) ℕ (UR sig nD τ) ℕ

variable {D : Defs nD τ sig (Elt F) Λ₀} {c : Dev nD} {i : grid0.Coords}
    {a3 : Memref sig .tc .smem S8 .f32} {a4 : Memref sig .tc .vmem S1x512x1024 .bf16} {a5 : Memref sig .tc .vmem S1x4096x512 .bf16}
    {a6 : Memref sig .tc .vmem S1x640x4096 .bf16} {a7 : Memref sig .tc .vmem S1x16x512 .f32} {a8 : Memref sig .tc .vmem S8x256x256 .f32}
    {a9 : Memref sig .tc .vmem S8x256x256 .f32} {a10 : Memref sig .tc .vmem S1x1024x512 .bf16} {a11 : Memref sig .tc .vmem S8x16x256 .f32}
    {a12 : Memref sig .tc .vmem S2x8x256x256 .f32} {a13 : Memref sig .tc .vmem S8x1x256 .f32} {a14 : Memref sig .tc .vmem S8x80x256 .f32}
    {h3 : a3.IsWhole} {h4 : a4.IsWhole} {h5 : a5.IsWhole} {h6 : a6.IsWhole} {h7 : a7.IsWhole} {h8 : a8.IsWhole} {h9 : a9.IsWhole}
    {h10 : a10.IsWhole} {h11 : a11.IsWhole} {h12 : a12.IsWhole} {h13 : a13.IsWhole} {h14 : a14.IsWhole}

theorem ok201 {S : sProp 𝕄} (C : Ctx c S a3 a4 a5 a6 a7 a8 a9 a10 a11 a12 a13 a14) {x0 x1 x2 x3 x4 x5 x6 x7 x8 x9 x10 x11 : _} :
    Fine D c S (k0_part201 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part201
  with_reducible
   exact
    Ok.bind (Ok.turns fun _ _ => (ok20 C).bind fun _ => C.l14 fun _ => C.s14 fun _ => .ret _) fun _ =>
    Ok.bind (Ok.turns fun _ _ => (ok40 C).bind fun _ => C.l14 fun _ => C.s14 fun _ => .ret _) fun _ => C.l14 fun _ => C.l14 fun _ => C.l14 fun _ =>
    C.l14 fun _ => C.l14 fun _ => C.l14 fun _ => .ret _

theorem ok202 {S : sProp 𝕄} (C : Ctx c S a3 a4 a5 a6 a7 a8 a9 a10 a11 a12 a13 a14) {x0 x1 : _} :
    Fine D c S (k0_part202 (F := F) i a3 h3 a4 h4 a5 h5 a6 h6 a7 h7 a8 h8 a9 h9 a10 h10 a11 h11 a12 h12 a13 h13 a14 h14 x0 x1) := by
  unfold k0_part202
  with_reducible
   exact
    C.l14 fun _ => C.l14 fun _ => C.l14 fun _ => C.l14 fun _ => C.l14 fun _ => C.l14 fun _ => C.l14 fun _ => C.l14 fun _ => .ret _

theorem ok203 {S : sProp 𝕄} (C : Ctx c S a3 a4 a5 a6 a7 a8 a9 a10 a11 a12 a13 a14) {x0 x1 x2 x3 x4 x5 x6 x7 x8 : _} :
    Fine D c S (k0_part203 (F := F) i a3 h3 a4 h4 a5 h5 a6 h6 a7 h7 a8 h8 a9 h9 a10 h10 a11 h11 a12 h12 a13 h13 a14 h14 x0 x1 x2 x3 x4 x5 x6 x7 x8) := by
  unfold k0_part203
  with_reducible
   exact
    C.l14 fun _ => C.l14 fun _ => C.l10 fun _ => C.s10 fun _ => .ret _

theorem ok204 {S : sProp 𝕄} (C : Ctx c S a3 a4 a5 a6 a7 a8 a9 a10 a11 a12 a13 a14) {x0 x1 x2 x3 x4 : _} :
    Fine D c S (k0_part204 (F := F) i a3 h3 a4 h4 a5 h5 a6 h6 a7 h7 a8 h8 a9 h9 a10 h10 a11 h11 a12 h12 a13 h13 a14 h14 x0 x1 x2 x3 x4) := by
  unfold k0_part204
  with_reducible
   exact
    C.l4 fun _ => C.l7 fun _ => .ret _

theorem ok205 {S : sProp 𝕄} (C : Ctx c S a3 a4 a5 a6 a7 a8 a9 a10 a11 a12 a13 a14) {x0 x1 x2 : _} :
    Fine D c S (k0_part205 (F := F) i a3 h3 a4 h4 a5 h5 a6 h6 a7 h7 a8 h8 a9 h9 a10 h10 a11 h11 a12 h12 a13 h13 a14 h14 x0 x1 x2) := by
  unfold k0_part205
  with_reducible
   exact
    .ret _

theorem ok206 {S : sProp 𝕄} (C : Ctx c S a3 a4 a5 a6 a7 a8 a9 a10 a11 a12 a13 a14) {x0 x1 x2 x3 x4 x5 x6 x7 x8 x9 x10 x11 x12 x13 x14 : _} :
    Fine D c S (k0_part206 (F := F) i a3 h3 a4 h4 a5 h5 a6 h6 a7 h7 a8 h8 a9 h9 a10 h10 a11 h11 a12 h12 a13 h13 a14 h14 x0 x1 x2 x3 x4 x5 x6 x7 x8 x9 x10 x11 x12 x13 x14) := by
  unfold k0_part206
  with_reducible
   exact
    .ret _

theorem ok207 {S : sProp 𝕄} (C : Ctx c S a3 a4 a5 a6 a7 a8 a9 a10 a11 a12 a13 a14) {x0 x1 x2 x3 x4 x5 x6 : _} :
    Fine D c S (k0_part207 (F := F) i a3 h3 a4 h4 a5 h5 a6 h6 a7 h7 a8 h8 a9 h9 a10 h10 a11 h11 a12 h12 a13 h13 a14 h14 x0 x1 x2 x3 x4 x5 x6) := by
  unfold k0_part207
  exact
    C.w3 fun _ => C.l11 fun _ => C.s11 fun _ => .ret _

theorem ok208 {S : sProp 𝕄} (C : Ctx c S a3 a4 a5 a6 a7 a8 a9 a10 a11 a12 a13 a14) {x0 x1 x2 x3 x4 x5 x6 : _} :
    Fine D c S (k0_part208 (F := F) i a3 h3 a4 h4 a5 h5 a6 h6 a7 h7 a8 h8 a9 h9 a10 h10 a11 h11 a12 h12 a13 h13 a14 h14 x0 x1 x2 x3 x4 x5 x6) := by
  unfold k0_part208
  exact
    C.w3 fun _ => .ret _

theorem ok209 {S : sProp 𝕄} (C : Ctx c S a3 a4 a5 a6 a7 a8 a9 a10 a11 a12 a13 a14) {x0 x1 x2 x3 x4 x5 : _} :
    Fine D c S (k0_part209 (F := F) i a3 h3 a4 h4 a5 h5 a6 h6 a7 h7 a8 h8 a9 h9 a10 h10 a11 h11 a12 h12 a13 h13 a14 h14 x0 x1 x2 x3 x4 x5) := by
  unfold k0_part209
  with_reducible
   exact
    C.l11 fun _ => C.s11 fun _ => .ret _

theorem ok210 {S : sProp 𝕄} (C : Ctx c S a3 a4 a5 a6 a7 a8 a9 a10 a11 a12 a13 a14) {x0 x1 x2 x3 x4 x5 x6 : _} :
    Fine D c S (k0_part210 (F := F) i a3 h3 a4 h4 a5 h5 a6 h6 a7 h7 a8 h8 a9 h9 a10 h10 a11 h11 a12 h12 a13 h13 a14 h14 x0 x1 x2 x3 x4 x5 x6) := by
  unfold k0_part210
  exact
    C.w3 fun _ => C.l11 fun _ => C.s11 fun _ => .ret _

theorem ok211 {S : sProp 𝕄} (C : Ctx c S a3 a4 a5 a6 a7 a8 a9 a10 a11 a12 a13 a14) {x0 x1 x2 x3 x4 x5 : _} :
    Fine D c S (k0_part211 (F := F) i a3 h3 a4 h4 a5 h5 a6 h6 a7 h7 a8 h8 a9 h9 a10 h10 a11 h11 a12 h12 a13 h13 a14 h14 x0 x1 x2 x3 x4 x5) := by
  unfold k0_part211
  exact
    C.w3 fun _ => C.l11 fun _ => C.s11 fun _ => .ret _

theorem ok212 {S : sProp 𝕄} (C : Ctx c S a3 a4 a5 a6 a7 a8 a9 a10 a11 a12 a13 a14) {x0 x1 : _} :
    Fine D c S (k0_part212 (F := F) i a3 h3 a4 h4 a5 h5 a6 h6 a7 h7 a8 h8 a9 h9 a10 h10 a11 h11 a12 h12 a13 h13 a14 h14 x0 x1) := by
  unfold k0_part212
  with_reducible
   exact
    C.l4 fun _ => C.l7 fun _ => .ret _

theorem ok213 {S : sProp 𝕄} (C : Ctx c S a3 a4 a5 a6 a7 a8 a9 a10 a11 a12 a13 a14) {x0 x1 x2 x3 x4 x5 : _} :
    Fine D c S (k0_part213 (F := F) i a3 h3 a4 h4 a5 h5 a6 h6 a7 h7 a8 h8 a9 h9 a10 h10 a11 h11 a12 h12 a13 h13 a14 h14 x0 x1 x2 x3 x4 x5) := by
  unfold k0_part213
  with_reducible
   exact
    .ret _

theorem ok214 {S : sProp 𝕄} (C : Ctx c S a3 a4 a5 a6 a7 a8 a9 a10 a11 a12 a13 a14) {x0 x1 x2 x3 x4 x5 x6 x7 x8 x9 x10 x11 x12 x13 x14 x15 x16 : _} :
    Fine D c S (k0_part214 (F := F) i a3 h3 a4 h4 a5 h5 a6 h6 a7 h7 a8 h8 a9 h9 a10 h10 a11 h11 a12 h12 a13 h13 a14 h14 x0 x1 x2 x3 x4 x5 x6 x7 x8 x9 x10 x11 x12 x13 x14 x15 x16) := by
  unfold k0_part214
  with_reducible
   exact
    .ret _

theorem ok215 {S : sProp 𝕄} (C : Ctx c S a3 a4 a5 a6 a7 a8 a9 a10 a11 a12 a13 a14) {x0 x1 x2 x3 x4 x5 : _} :
    Fine D c S (k0_part215 (F := F) i a3 h3 a4 h4 a5 h5 a6 h6 a7 h7 a8 h8 a9 h9 a10 h10 a11 h11 a12 h12 a13 h13 a14 h14 x0 x1 x2 x3 x4 x5) := by
  unfold k0_part215
  exact
    C.w3 fun _ => C.l11 fun _ => C.s11 fun _ => .ret _

theorem ok216 {S : sProp 𝕄} (C : Ctx c S a3 a4 a5 a6 a7 a8 a9 a10 a11 a12 a13 a14) {x0 x1 x2 x3 x4 x5 x6 : _} :
    Fine D c S (k0_part216 (F := F) i a3 h3 a4 h4 a5 h5 a6 h6 a7 h7 a8 h8 a9 h9 a10 h10 a11 h11 a12 h12 a13 h13 a14 h14 x0 x1 x2 x3 x4 x5 x6) := by
  unfold k0_part216
  exact
    C.w3 fun _ => C.l11 fun _ => .ret _

theorem ok217 {S : sProp 𝕄} (C : Ctx c S a3 a4 a5 a6 a7 a8 a9 a10 a11 a12 a13 a14) {x0 x1 x2 x3 : _} :
    Fine D c S (k0_part217 (F := F) i a3 h3 a4 h4 a5 h5 a6 h6 a7 h7 a8 h8 a9 h9 a10 h10 a11 h11 a12 h12 a13 h13 a14 h14 x0 x1 x2 x3) := by
  unfold k0_part217
  with_reducible
   exact
    C.s11 fun _ => .ret _

theorem ok218 {S : sProp 𝕄} (C : Ctx c S a3 a4 a5 a6 a7 a8 a9 a10 a11 a12 a13 a14) {x0 x1 x2 x3 x4 x5 : _} :
    Fine D c S (k0_part218 (F := F) i a3 h3 a4 h4 a5 h5 a6 h6 a7 h7 a8 h8 a9 h9 a10 h10 a11 h11 a12 h12 a13 h13 a14 h14 x0 x1 x2 x3 x4 x5) := by
  unfold k0_part218
  exact
    C.w3 fun _ => C.l11 fun _ => C.s11 fun _ => .ret _

theorem ok219 {S : sProp 𝕄} (C : Ctx c S a3 a4 a5 a6 a7 a8 a9 a10 a11 a12 a13 a14) {x0 x1 x2 x3 x4 x5 x6 : _} :
    Fine D c S (k0_part219 (F := F) i a3 h3 a4 h4 a5 h5 a6 h6 a7 h7 a8 h8 a9 h9 a10 h10 a11 h11 a12 h12 a13 h13 a14 h14 x0 x1 x2 x3 x4 x5 x6) := by
  unfold k0_part219
  exact
    C.w3 fun _ => C.l11 fun _ => C.s11 fun _ => .ret _

theorem ok220 {S : sProp 𝕄} (C : Ctx c S a3 a4 a5 a6 a7 a8 a9 a10 a11 a12 a13 a14) {x0 x1 x2 x3 x4 : _} :
    Fine D c S (k0_part220 (F := F) i a3 h3 a4 h4 a5 h5 a6 h6 a7 h7 a8 h8 a9 h9 a10 h10 a11 h11 a12 h12 a13 h13 a14 h14 x0 x1 x2 x3 x4) := by
  unfold k0_part220
  with_reducible
   exact
    C.l13 fun _ => C.s13 fun _ => C.l14 fun _ => C.s14 fun _ => C.l5 fun _ => C.l8 fun _ => C.l12 fun _ => C.s12 fun _ => C.l8 fun _ => C.l12 fun _ =>
    C.s12 fun _ => .ret _

theorem ok221 {S : sProp 𝕄} (C : Ctx c S a3 a4 a5 a6 a7 a8 a9 a10 a11 a12 a13 a14) {x0 x1 x2 x3 x4 x5 : _} :
    Fine D c S (k0_part221 (F := F) i a3 h3 a4 h4 a5 h5 a6 h6 a7 h7 a8 h8 a9 h9 a10 h10 a11 h11 a12 h12 a13 h13 a14 h14 x0 x1 x2 x3 x4 x5) := by
  unfold k0_part221
  with_reducible
   exact
    C.l8 fun _ => C.l12 fun _ => C.s12 fun _ => C.l8 fun _ => C.l12 fun _ => C.s12 fun _ => C.l5 fun _ => C.l8 fun _ => C.l12 fun _ => C.s12 fun _ =>
    C.l8 fun _ => .ret _

theorem ok222 {S : sProp 𝕄} (C : Ctx c S a3 a4 a5 a6 a7 a8 a9 a10 a11 a12 a13 a14) {x0 x1 x2 x3 x4 x5 : _} :
    Fine D c S (k0_part222 (F := F) i a3 h3 a4 h4 a5 h5 a6 h6 a7 h7 a8 h8 a9 h9 a10 h10 a11 h11 a12 h12 a13 h13 a14 h14 x0 x1 x2 x3 x4 x5) := by
  unfold k0_part222
  with_reducible
   exact
    C.l12 fun _ => C.s12 fun _ => C.l8 fun _ => C.l12 fun _ => C.s12 fun _ => C.l8 fun _ => C.l12 fun _ => C.s12 fun _ => C.l5 fun _ => C.l5 fun _ =>
    .ret _

theorem ok223 {S : sProp 𝕄} (C : Ctx c S a3 a4 a5 a6 a7 a8 a9 a10 a11 a12 a13 a14) {x0 x1 x2 x3 x4 : _} :
    Fine D c S (k0_part223 (F := F) i a3 h3 a4 h4 a5 h5 a6 h6 a7 h7 a8 h8 a9 h9 a10 h10 a11 h11 a12 h12 a13 h13 a14 h14 x0 x1 x2 x3 x4) := by
  unfold k0_part223
  with_reducible
   exact
    C.l9 fun _ => C.l12 fun _ => C.s12 fun _ => C.l9 fun _ => C.l12 fun _ => C.s12 fun _ => C.l9 fun _ => C.l12 fun _ => C.s12 fun _ => C.l13 fun _ =>
    C.l12 fun _ => .ret _

theorem ok224 {S : sProp 𝕄} (C : Ctx c S a3 a4 a5 a6 a7 a8 a9 a10 a11 a12 a13 a14) {x0 x1 x2 x3 x4 x5 x6 : _} :
    Fine D c S (k0_part224 (F := F) i a3 h3 a4 h4 a5 h5 a6 h6 a7 h7 a8 h8 a9 h9 a10 h10 a11 h11 a12 h12 a13 h13 a14 h14 x0 x1 x2 x3 x4 x5 x6) := by
  unfold k0_part224
  with_reducible
   exact
    C.l13 fun _ => C.s13 fun _ => C.l14 fun _ => C.l6 fun _ => C.l14 fun _ => C.s14 fun _ => C.l9 fun _ => C.l12 fun _ => C.s12 fun _ => C.l13 fun _ =>
    .ret _

theorem ok225 {S : sProp 𝕄} (C : Ctx c S a3 a4 a5 a6 a7 a8 a9 a10 a11 a12 a13 a14) {x0 x1 x2 x3 x4 : _} :
    Fine D c S (k0_part225 (F := F) i a3 h3 a4 h4 a5 h5 a6 h6 a7 h7 a8 h8 a9 h9 a10 h10 a11 h11 a12 h12 a13 h13 a14 h14 x0 x1 x2 x3 x4) := by
  unfold k0_part225
  with_reducible
   exact
    C.l12 fun _ => C.l13 fun _ => C.s13 fun _ => C.l14 fun _ => C.l6 fun _ => C.l14 fun _ => C.s14 fun _ => C.l9 fun _ => .ret _

theorem ok226 {S : sProp 𝕄} (C : Ctx c S a3 a4 a5 a6 a7 a8 a9 a10 a11 a12 a13 a14) {x0 x1 x2 : _} :
    Fine D c S (k0_part226 (F := F) i a3 h3 a4 h4 a5 h5 a6 h6 a7 h7 a8 h8 a9 h9 a10 h10 a11 h11 a12 h12 a13 h13 a14 h14 x0 x1 x2) := by
  unfold k0_part226
  with_reducible
   exact
    C.l12 fun _ => C.s12 fun _ => C.l13 fun _ => C.l12 fun _ => C.l13 fun _ => C.s13 fun _ => C.l14 fun _ => C.l6 fun _ => C.l14 fun _ => C.s14 fun _ =>
    .ret _

theorem ok227 {S : sProp 𝕄} (C : Ctx c S a3 a4 a5 a6 a7 a8 a9 a10 a11 a12 a13 a14) {x0 x1 x2 x3 : _} :
    Fine D c S (k0_part227 (F := F) i a3 h3 a4 h4 a5 h5 a6 h6 a7 h7 a8 h8 a9 h9 a10 h10 a11 h11 a12 h12 a13 h13 a14 h14 x0 x1 x2 x3) := by
  unfold k0_part227
  with_reducible
   exact
    C.l9 fun _ => C.l12 fun _ => C.s12 fun _ => C.l13 fun _ => C.l12 fun _ => C.l13 fun _ => C.s13 fun _ => C.l14 fun _ => C.l6 fun _ => .ret _

theorem ok228 {S : sProp 𝕄} (C : Ctx c S a3 a4 a5 a6 a7 a8 a9 a10 a11 a12 a13 a14) {x0 x1 x2 x3 x4 x5 : _} :
    Fine D c S (k0_part228 (F := F) i a3 h3 a4 h4 a5 h5 a6 h6 a7 h7 a8 h8 a9 h9 a10 h10 a11 h11 a12 h12 a13 h13 a14 h14 x0 x1 x2 x3 x4 x5) := by
  unfold k0_part228
  with_reducible
   exact
    C.l14 fun _ => C.s14 fun _ => C.l9 fun _ => C.l12 fun _ => C.s12 fun _ => C.l13 fun _ => C.l12 fun _ => C.l13 fun _ => C.s13 fun _ => .ret _

theorem ok229 {S : sProp 𝕄} (C : Ctx c S a3 a4 a5 a6 a7 a8 a9 a10 a11 a12 a13 a14) {x0 x1 x2 x3 x4 x5 : _} :
    Fine D c S (k0_part229 (F := F) i a3 h3 a4 h4 a5 h5 a6 h6 a7 h7 a8 h8 a9 h9 a10 h10 a11 h11 a12 h12 a13 h13 a14 h14 x0 x1 x2 x3 x4 x5) := by
  unfold k0_part229
  with_reducible
   exact
    C.l14 fun _ => C.l6 fun _ => C.l14 fun _ => C.s14 fun _ => C.l9 fun _ => C.l12 fun _ => C.s12 fun _ => C.l13 fun _ => C.l12 fun _ => C.l13 fun _ =>
    .ret _

theorem ok230 {S : sProp 𝕄} (C : Ctx c S a3 a4 a5 a6 a7 a8 a9 a10 a11 a12 a13 a14) {x0 x1 x2 x3 x4 x5 : _} :
    Fine D c S (k0_part230 (F := F) i a3 h3 a4 h4 a5 h5 a6 h6 a7 h7 a8 h8 a9 h9 a10 h10 a11 h11 a12 h12 a13 h13 a14 h14 x0 x1 x2 x3 x4 x5) := by
  unfold k0_part230
  with_reducible
   exact
    C.s13 fun _ => C.l14 fun _ => C.l6 fun _ => C.l14 fun _ => C.s14 fun _ => C.l13 fun _ => C.l12 fun _ => C.l13 fun _ => C.s13 fun _ => .ret _

theorem ok231 {S : sProp 𝕄} (C : Ctx c S a3 a4 a5 a6 a7 a8 a9 a10 a11 a12 a13 a14) {x0 x1 x2 x3 x4 : _} :
    Fine D c S (k0_part231 (F := F) i a3 h3 a4 h4 a5 h5 a6 h6 a7 h7 a8 h8 a9 h9 a10 h10 a11 h11 a12 h12 a13 h13 a14 h14 x0 x1 x2 x3 x4) := by
  unfold k0_part231
  with_reducible
   exact
    C.l14 fun _ => C.l6 fun _ => C.l14 fun _ => C.s14 fun _ => C.l13 fun _ => C.l12 fun _ => C.l13 fun _ => C.s13 fun _ => .ret _

theorem ok232 {S : sProp 𝕄} (C : Ctx c S a3 a4 a5 a6 a7 a8 a9 a10 a11 a12 a13 a14) {x0 x1 x2 x3 x4 x5 : _} :
    Fine D c S (k0_part232 (F := F) i a3 h3 a4 h4 a5 h5 a6 h6 a7 h7 a8 h8 a9 h9 a10 h10 a11 h11 a12 h12 a13 h13 a14 h14 x0 x1 x2 x3 x4 x5) := by
  unfold k0_part232
  with_reducible
   exact
    C.l14 fun _ => C.l6 fun _ => C.l14 fun _ => C.s14 fun _ => C.l5 fun _ => C.l5 fun _ => C.l12 fun _ => C.s12 fun _ => C.l12 fun _ => C.s12 fun _ =>
    .ret _

theorem ok233 {S : sProp 𝕄} (C : Ctx c S a3 a4 a5 a6 a7 a8 a9 a10 a11 a12 a13 a14) {x0 x1 : _} :
    Fine D c S (k0_part233 (F := F) i a3 h3 a4 h4 a5 h5 a6 h6 a7 h7 a8 h8 a9 h9 a10 h10 a11 h11 a12 h12 a13 h13 a14 h14 x0 x1) := by
  unfold k0_part233
  with_reducible
   exact
    C.l12 fun _ => C.s12 fun _ => C.l13 fun _ => C.l12 fun _ => C.l11 fun _ => C.l13 fun _ => C.s13 fun _ => C.l14 fun _ => .ret _

theorem ok234 {S : sProp 𝕄} (C : Ctx c S a3 a4 a5 a6 a7 a8 a9 a10 a11 a12 a13 a14) {x0 x1 x2 x3 x4 x5 : _} :
    Fine D c S (k0_part234 (F := F) i a3 h3 a4 h4 a5 h5 a6 h6 a7 h7 a8 h8 a9 h9 a10 h10 a11 h11 a12 h12 a13 h13 a14 h14 x0 x1 x2 x3 x4 x5) := by
  unfold k0_part234
  with_reducible
   exact
    C.l6 fun _ => C.l14 fun _ => C.s14 fun _ => C.l12 fun _ => C.s12 fun _ => C.l13 fun _ => C.l12 fun _ => C.l11 fun _ => C.l13 fun _ => .ret _

theorem ok235 {S : sProp 𝕄} (C : Ctx c S a3 a4 a5 a6 a7 a8 a9 a10 a11 a12 a13 a14) {x0 x1 x2 x3 x4 x5 x6 x7 : _} :
    Fine D c S (k0_part235 (F := F) i a3 h3 a4 h4 a5 h5 a6 h6 a7 h7 a8 h8 a9 h9 a10 h10 a11 h11 a12 h12 a13 h13 a14 h14 x0 x1 x2 x3 x4 x5 x6 x7) := by
  unfold k0_part235
  with_reducible
   exact
    C.s13 fun _ => C.l14 fun _ => C.l6 fun _ => C.l14 fun _ => C.s14 fun _ => C.l12 fun _ => C.s12 fun _ => C.l13 fun _ => C.l12 fun _ => C.l11 fun _ =>
    .ret _

theorem ok236 {S : sProp 𝕄} (C : Ctx c S a3 a4 a5 a6 a7 a8 a9 a10 a11 a12 a13 a14) {x0 x1 x2 x3 x4 x5 x6 : _} :
    Fine D c S (k0_part236 (F := F) i a3 h3 a4 h4 a5 h5 a6 h6 a7 h7 a8 h8 a9 h9 a10 h10 a11 h11 a12 h12 a13 h13 a14 h14 x0 x1 x2 x3 x4 x5 x6) := by
  unfold k0_part236
  with_reducible
   exact
    C.l13 fun _ => C.s13 fun _ => C.l14 fun _ => C.l6 fun _ => C.l14 fun _ => C.s14 fun _ => C.l12 fun _ => .ret _

theorem ok237 {S : sProp 𝕄} (C : Ctx c S a3 a4 a5 a6 a7 a8 a9 a10 a11 a12 a13 a14) {x0 x1 : _} :
    Fine D c S (k0_part237 (F := F) i a3 h3 a4 h4 a5 h5 a6 h6 a7 h7 a8 h8 a9 h9 a10 h10 a11 h11 a12 h12 a13 h13 a14 h14 x0 x1) := by
  unfold k0_part237
  with_reducible
   exact
    C.s12 fun _ => C.l13 fun _ => C.l12 fun _ => C.l11 fun _ => C.l13 fun _ => C.s13 fun _ => C.l14 fun _ => C.l6 fun _ => .ret _

theorem ok238 {S : sProp 𝕄} (C : Ctx c S a3 a4 a5 a6 a7 a8 a9 a10 a11 a12 a13 a14) {x0 x1 x2 x3 x4 x5 x6 : _} :
    Fine D c S (k0_part238 (F := F) i a3 h3 a4 h4 a5 h5 a6 h6 a7 h7 a8 h8 a9 h9 a10 h10 a11 h11 a12 h12 a13 h13 a14 h14 x0 x1 x2 x3 x4 x5 x6) := by
  unfold k0_part238
  with_reducible
   exact
    C.l14 fun _ => C.s14 fun _ => C.l12 fun _ => C.s12 fun _ => C.l13 fun _ => C.l12 fun _ => C.l11 fun _ => C.l13 fun _ => C.s13 fun _ => .ret _

theorem ok239 {S : sProp 𝕄} (C : Ctx c S a3 a4 a5 a6 a7 a8 a9 a10 a11 a12 a13 a14) {x0 x1 x2 x3 x4 : _} :
    Fine D c S (k0_part239 (F := F) i a3 h3 a4 h4 a5 h5 a6 h6 a7 h7 a8 h8 a9 h9 a10 h10 a11 h11 a12 h12 a13 h13 a14 h14 x0 x1 x2 x3 x4) := by
  unfold k0_part239
  with_reducible
   exact
    C.l14 fun _ => C.l6 fun _ => C.l14 fun _ => C.s14 fun _ => C.l12 fun _ => C.s12 fun _ => C.l13 fun _ => C.l12 fun _ => C.l11 fun _ => .ret _

theorem ok240 {S : sProp 𝕄} (C : Ctx c S a3 a4 a5 a6 a7 a8 a9 a10 a11 a12 a13 a14) {x0 x1 x2 x3 x4 x5 : _} :
    Fine D c S (k0_part240 (F := F) i a3 h3 a4 h4 a5 h5 a6 h6 a7 h7 a8 h8 a9 h9 a10 h10 a11 h11 a12 h12 a13 h13 a14 h14 x0 x1 x2 x3 x4 x5) := by
  unfold k0_part240
  with_reducible
   exact
    C.l13 fun _ => C.s13 fun _ => C.l14 fun _ => C.l6 fun _ => C.l14 fun _ => C.s14 fun _ => C.l13 fun _ => C.l12 fun _ => C.l11 fun _ => .ret _

theorem ok241 {S : sProp 𝕄} (C : Ctx c S a3 a4 a5 a6 a7 a8 a9 a10 a11 a12 a13 a14) {x0 x1 x2 x3 : _} :
    Fine D c S (k0_part241 (F := F) i a3 h3 a4 h4 a5 h5 a6 h6 a7 h7 a8 h8 a9 h9 a10 h10 a11 h11 a12 h12 a13 h13 a14 h14 x0 x1 x2 x3) := by
  unfold k0_part241
  with_reducible
   exact
    C.l13 fun _ => C.s13 fun _ => C.l14 fun _ => C.l6 fun _ => C.l14 fun _ => C.s14 fun _ => C.l13 fun _ => .ret _

theorem ok242 {S : sProp 𝕄} (C : Ctx c S a3 a4 a5 a6 a7 a8 a9 a10 a11 a12 a13 a14) {x0 x1 : _} :
    Fine D c S (k0_part242 (F := F) i a3 h3 a4 h4 a5 h5 a6 h6 a7 h7 a8 h8 a9 h9 a10 h10 a11 h11 a12 h12 a13 h13 a14 h14 x0 x1) := by
  unfold k0_part242
  with_reducible
   exact
    C.l12 fun _ => C.l11 fun _ => C.l13 fun _ => C.s13 fun _ => C.l14 fun _ => C.l6 fun _ => C.l14 fun _ => .ret _

theorem ok243 {S : sProp 𝕄} (C : Ctx c S a3 a4 a5 a6 a7 a8 a9 a10 a11 a12 a13 a14) {x0 x1 x2 x3 x4 x5 x6 x7 x8 x9 : _} :
    Fine D c S (k0_part243 (F := F) i a3 h3 a4 h4 a5 h5 a6 h6 a7 h7 a8 h8 a9 h9 a10 h10 a11 h11 a12 h12 a13 h13 a14 h14 x0 x1 x2 x3 x4 x5 x6 x7 x8 x9) := by
  unfold k0_part243
  with_reducible
   exact
    C.s14 fun _ => Ok.bind (Ok.turns fun _ _ => (ok60 C).bind fun _ => C.l14 fun _ => C.s14 fun _ => .ret _) fun _ =>
    Ok.bind (Ok.turns fun _ _ => (ok80 C).bind fun _ => C.l14 fun _ => C.s14 fun _ => .ret _) fun _ => C.l14 fun _ => C.l14 fun _ => C.l14 fun _ => .ret _

theorem ok244 {S : sProp 𝕄} (C : Ctx c S a3 a4 a5 a6 a7 a8 a9 a10 a11 a12 a13 a14) {x0 : _} :
    Fine D c S (k0_part244 (F := F) i a3 h3 a4 h4 a5 h5 a6 h6 a7 h7 a8 h8 a9 h9 a10 h10 a11 h11 a12 h12 a13 h13 a14 h14 x0) := by
  unfold k0_part244
  with_reducible
   exact
    C.l14 fun _ => C.l14 fun _ => C.l14 fun _ => C.l14 fun _ => C.l14 fun _ => C.l14 fun _ => C.l14 fun _ => C.l14 fun _ => .ret _

theorem ok245 {S : sProp 𝕄} (C : Ctx c S a3 a4 a5 a6 a7 a8 a9 a10 a11 a12 a13 a14) {x0 x1 x2 x3 x4 x5 x6 : _} :
    Fine D c S (k0_part245 (F := F) i a3 h3 a4 h4 a5 h5 a6 h6 a7 h7 a8 h8 a9 h9 a10 h10 a11 h11 a12 h12 a13 h13 a14 h14 x0 x1 x2 x3 x4 x5 x6) := by
  unfold k0_part245
  with_reducible
   exact
    C.l14 fun _ => C.l14 fun _ => C.l14 fun _ => C.l14 fun _ => C.l14 fun _ => C.l10 fun _ => C.s10 fun _ => .ret _

theorem ok246 {S : sProp 𝕄} (C : Ctx c S a3 a4 a5 a6 a7 a8 a9 a10 a11 a12 a13 a14) {x0 x1 x2 x3 x4 x5 x6 : _} :
    Fine D c S (k0_part246 (F := F) i a3 h3 a4 h4 a5 h5 a6 h6 a7 h7 a8 h8 a9 h9 a10 h10 a11 h11 a12 h12 a13 h13 a14 h14 x0 x1 x2 x3 x4 x5 x6) := by
  unfold k0_part246
  with_reducible
   exact
    C.l4 fun _ => .ret _

theorem ok247 {S : sProp 𝕄} (C : Ctx c S a3 a4 a5 a6 a7 a8 a9 a10 a11 a12 a13 a14) {x0 x1 x2 x3 x4 : _} :
    Fine D c S (k0_part247 (F := F) i a3 h3 a4 h4 a5 h5 a6 h6 a7 h7 a8 h8 a9 h9 a10 h10 a11 h11 a12 h12 a13 h13 a14 h14 x0 x1 x2 x3 x4) := by
  unfold k0_part247
  with_reducible
   exact
    C.l7 fun _ => .ret _

theorem ok248 {S : sProp 𝕄} (C : Ctx c S a3 a4 a5 a6 a7 a8 a9 a10 a11 a12 a13 a14) {x0 x1 x2 x3 x4 x5 x6 x7 x8 x9 x10 x11 : _} :
    Fine D c S (k0_part248 (F := F) i a3 h3 a4 h4 a5 h5 a6 h6 a7 h7 a8 h8 a9 h9 a10 h10 a11 h11 a12 h12 a13 h13 a14 h14 x0 x1 x2 x3 x4 x5 x6 x7 x8 x9 x10 x11) := by
  unfold k0_part248
  with_reducible
   exact
    .ret _

theorem ok249 {S : sProp 𝕄} (C : Ctx c S a3 a4 a5 a6 a7 a8 a9 a10 a11 a12 a13 a14) {x0 x1 x2 x3 x4 x5 : _} :
    Fine D c S (k0_part249 (F := F) i a3 h3 a4 h4 a5 h5 a6 h6 a7 h7 a8 h8 a9 h9 a10 h10 a11 h11 a12 h12 a13 h13 a14 h14 x0 x1 x2 x3 x4 x5) := by
  unfold k0_part249
  exact
    C.w3 fun _ => .ret _

theorem ok250 {S : sProp 𝕄} (C : Ctx c S a3 a4 a5 a6 a7 a8 a9 a10 a11 a12 a13 a14) {x0 x1 x2 x3 : _} :
    Fine D c S (k0_part250 (F := F) i a3 h3 a4 h4 a5 h5 a6 h6 a7 h7 a8 h8 a9 h9 a10 h10 a11 h11 a12 h12 a13 h13 a14 h14 x0 x1 x2 x3) := by
  unfold k0_part250
  with_reducible
   exact
    C.l11 fun _ => C.s11 fun _ => .ret _

theorem ok251 {S : sProp 𝕄} (C : Ctx c S a3 a4 a5 a6 a7 a8 a9 a10 a11 a12 a13 a14) {x0 x1 x2 x3 x4 x5 : _} :
    Fine D c S (k0_part251 (F := F) i a3 h3 a4 h4 a5 h5 a6 h6 a7 h7 a8 h8 a9 h9 a10 h10 a11 h11 a12 h12 a13 h13 a14 h14 x0 x1 x2 x3 x4 x5) := by
  unfold k0_part251
  exact
    C.w3 fun _ => C.l11 fun _ => C.s11 fun _ => .ret _

theorem ok252 {S : sProp 𝕄} (C : Ctx c S a3 a4 a5 a6 a7 a8 a9 a10 a11 a12 a13 a14) {x0 x1 x2 x3 x4 x5 x6 x7 : _} :
    Fine D c S (k0_part252 (F := F) i a3 h3 a4 h4 a5 h5 a6 h6 a7 h7 a8 h8 a9 h9 a10 h10 a11 h11 a12 h12 a13 h13 a14 h14 x0 x1 x2 x3 x4 x5 x6 x7) := by
  unfold k0_part252
  exact
    C.w3 fun _ => C.l11 fun _ => C.s11 fun _ => .ret _

theorem ok253 {S : sProp 𝕄} (C : Ctx c S a3 a4 a5 a6 a7 a8 a9 a10 a11 a12 a13 a14) {x0 x1 x2 x3 : _} :
    Fine D c S (k0_part253 (F := F) i a3 h3 a4 h4 a5 h5 a6 h6 a7 h7 a8 h8 a9 h9 a10 h10 a11 h11 a12 h12 a13 h13 a14 h14 x0 x1 x2 x3) := by
  unfold k0_part253
  with_reducible
   exact
    .ret _

theorem ok254 {S : sProp 𝕄} (C : Ctx c S a3 a4 a5 a6 a7 a8 a9 a10 a11 a12 a13 a14) {x0 x1 x2 x3 x4 x5 : _} :
    Fine D c S (k0_part254 (F := F) i a3 h3 a4 h4 a5 h5 a6 h6 a7 h7 a8 h8 a9 h9 a10 h10 a11 h11 a12 h12 a13 h13 a14 h14 x0 x1 x2 x3 x4 x5) := by
  unfold k0_part254
  exact
    C.w3 fun _ => C.l11 fun _ => C.s11 fun _ => C.l4 fun _ => .ret _

theorem ok255 {S : sProp 𝕄} (C : Ctx c S a3 a4 a5 a6 a7 a8 a9 a10 a11 a12 a13 a14) {x0 x1 x2 x3 : _} :
    Fine D c S (k0_part255 (F := F) i a3 h3 a4 h4 a5 h5 a6 h6 a7 h7 a8 h8 a9 h9 a10 h10 a11 h11 a12 h12 a13 h13 a14 h14 x0 x1 x2 x3) := by
  unfold k0_part255
  with_reducible
   exact
    C.l7 fun _ => .ret _

theorem ok256 {S : sProp 𝕄} (C : Ctx c S a3 a4 a5 a6 a7 a8 a9 a10 a11 a12 a13 a14) {x0 x1 x2 x3 x4 x5 x6 x7 x8 x9 x10 x11 x12 x13 : _} :
    Fine D c S (k0_part256 (F := F) i a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part256
  with_reducible
   exact
    .ret _

theorem ok257 {S : sProp 𝕄} (C : Ctx c S a3 a4 a5 a6 a7 a8 a9 a10 a11 a12 a13 a14) {x0 x1 x2 x3 x4 x5 x6 : _} :
    Fine D c S (k0_part257 (F := F) i a3 h3 a4 h4 a5 h5 a6 h6 a7 h7 a8 h8 a9 h9 a10 h10 a11 h11 a12 h12 a13 h13 a14 h14 x0 x1 x2 x3 x4 x5 x6) := by
  unfold k0_part257
  exact
    C.w3 fun _ => C.l11 fun _ => C.s11 fun _ => .ret _

theorem ok258 {S : sProp 𝕄} (C : Ctx c S a3 a4 a5 a6 a7 a8 a9 a10 a11 a12 a13 a14) {x0 x1 x2 x3 : _} :
    Fine D c S (k0_part258 (F := F) i a3 h3 a4 h4 a5 h5 a6 h6 a7 h7 a8 h8 a9 h9 a10 h10 a11 h11 a12 h12 a13 h13 a14 h14 x0 x1 x2 x3) := by
  unfold k0_part258
  with_reducible
   exact
    .ret _

theorem ok259 {S : sProp 𝕄} (C : Ctx c S a3 a4 a5 a6 a7 a8 a9 a10 a11 a12 a13 a14) {x0 x1 x2 x3 x4 x5 : _} :
    Fine D c S (k0_part259 (F := F) i a3 h3 a4 h4 a5 h5 a6 h6 a7 h7 a8 h8 a9 h9 a10 h10 a11 h11 a12 h12 a13 h13 a14 h14 x0 x1 x2 x3 x4 x5) := by
  unfold k0_part259
  exact
    C.w3 fun _ => C.l11 fun _ => C.s11 fun _ => .ret _

theorem ok260 {S : sProp 𝕄} (C : Ctx c S a3 a4 a5 a6 a7 a8 a9 a10 a11 a12 a13 a14) {x0 x1 x2 x3 x4 x5 x6 x7 : _} :
    Fine D c S (k0_part260 (F := F) i a3 h3 a4 h4 a5 h5 a6 h6 a7 h7 a8 h8 a9 h9 a10 h10 a11 h11 a12 h12 a13 h13 a14 h14 x0 x1 x2 x3 x4 x5 x6 x7) := by
  unfold k0_part260
  exact
    C.w3 fun _ => C.l11 fun _ => C.s11 fun _ => .ret _

theorem ok261 {S : sProp 𝕄} (C : Ctx c S a3 a4 a5 a6 a7 a8 a9 a10 a11 a12 a13 a14) {x0 x1 x2 x3 x4 : _} :
    Fine D c S (k0_part261 (F := F) i a3 h3 a4 h4 a5 h5 a6 h6 a7 h7 a8 h8 a9 h9 a10 h10 a11 h11 a12 h12 a13 h13 a14 h14 x0 x1 x2 x3 x4) := by
  unfold k0_part261
  with_reducible
   exact
    .ret _

theorem ok262 {S : sProp 𝕄} (C : Ctx c S a3 a4 a5 a6 a7 a8 a9 a10 a11 a12 a13 a14) {x0 x1 x2 x3 x4 : _} :
    Fine D c S (k0_part262 (F := F) i a3 h3 a4 h4 a5 h5 a6 h6 a7 h7 a8 h8 a9 h9 a10 h10 a11 h11 a12 h12 a13 h13 a14 h14 x0 x1 x2 x3 x4) := by
  unfold k0_part262
  exact
    C.w3 fun _ => C.l11 fun _ => C.s11 fun _ => C.l13 fun _ => C.s13 fun _ => C.l14 fun _ => C.s14 fun _ => C.l5 fun _ => C.l8 fun _ => C.l12 fun _ =>
    .ret _

theorem ok263 {S : sProp 𝕄} (C : Ctx c S a3 a4 a5 a6 a7 a8 a9 a10 a11 a12 a13 a14) {x0 x1 x2 x3 x4 x5 x6 : _} :
    Fine D c S (k0_part263 (F := F) i a3 h3 a4 h4 a5 h5 a6 h6 a7 h7 a8 h8 a9 h9 a10 h10 a11 h11 a12 h12 a13 h13 a14 h14 x0 x1 x2 x3 x4 x5 x6) := by
  unfold k0_part263
  with_reducible
   exact
    C.s12 fun _ => C.l8 fun _ => C.l12 fun _ => C.s12 fun _ => C.l8 fun _ => C.l12 fun _ => C.s12 fun _ => C.l8 fun _ => C.l12 fun _ => C.s12 fun _ =>
    C.l5 fun _ => .ret _

theorem ok264 {S : sProp 𝕄} (C : Ctx c S a3 a4 a5 a6 a7 a8 a9 a10 a11 a12 a13 a14) {x0 x1 x2 x3 x4 : _} :
    Fine D c S (k0_part264 (F := F) i a3 h3 a4 h4 a5 h5 a6 h6 a7 h7 a8 h8 a9 h9 a10 h10 a11 h11 a12 h12 a13 h13 a14 h14 x0 x1 x2 x3 x4) := by
  unfold k0_part264
  with_reducible
   exact
    C.l8 fun _ => C.l12 fun _ => C.s12 fun _ => C.l8 fun _ => C.l12 fun _ => C.s12 fun _ => C.l8 fun _ => C.l12 fun _ => C.s12 fun _ => C.l8 fun _ =>
    C.l12 fun _ => .ret _

theorem ok265 {S : sProp 𝕄} (C : Ctx c S a3 a4 a5 a6 a7 a8 a9 a10 a11 a12 a13 a14) {x0 x1 x2 x3 x4 : _} :
    Fine D c S (k0_part265 (F := F) i a3 h3 a4 h4 a5 h5 a6 h6 a7 h7 a8 h8 a9 h9 a10 h10 a11 h11 a12 h12 a13 h13 a14 h14 x0 x1 x2 x3 x4) := by
  unfold k0_part265
  with_reducible
   exact
    C.s12 fun _ => C.l5 fun _ => C.l5 fun _ => C.l9 fun _ => C.l12 fun _ => C.s12 fun _ => C.l9 fun _ => C.l12 fun _ => C.s12 fun _ => C.l9 fun _ =>
    .ret _

theorem ok266 {S : sProp 𝕄} (C : Ctx c S a3 a4 a5 a6 a7 a8 a9 a10 a11 a12 a13 a14) {x0 x1 x2 : _} :
    Fine D c S (k0_part266 (F := F) i a3 h3 a4 h4 a5 h5 a6 h6 a7 h7 a8 h8 a9 h9 a10 h10 a11 h11 a12 h12 a13 h13 a14 h14 x0 x1 x2) := by
  unfold k0_part266
  with_reducible
   exact
    C.l12 fun _ => C.s12 fun _ => C.l13 fun _ => C.l12 fun _ => C.l13 fun _ => C.s13 fun _ => C.l14 fun _ => C.l6 fun _ => C.l14 fun _ => .ret _

theorem ok267 {S : sProp 𝕄} (C : Ctx c S a3 a4 a5 a6 a7 a8 a9 a10 a11 a12 a13 a14) {x0 x1 x2 x3 x4 : _} :
    Fine D c S (k0_part267 (F := F) i a3 h3 a4 h4 a5 h5 a6 h6 a7 h7 a8 h8 a9 h9 a10 h10 a11 h11 a12 h12 a13 h13 a14 h14 x0 x1 x2 x3 x4) := by
  unfold k0_part267
  with_reducible
   exact
    C.s14 fun _ => C.l9 fun _ => C.l12 fun _ => C.s12 fun _ => C.l13 fun _ => C.l12 fun _ => C.l13 fun _ => C.s13 fun _ => C.l14 fun _ => .ret _

theorem ok268 {S : sProp 𝕄} (C : Ctx c S a3 a4 a5 a6 a7 a8 a9 a10 a11 a12 a13 a14) {x0 x1 x2 x3 x4 : _} :
    Fine D c S (k0_part268 (F := F) i a3 h3 a4 h4 a5 h5 a6 h6 a7 h7 a8 h8 a9 h9 a10 h10 a11 h11 a12 h12 a13 h13 a14 h14 x0 x1 x2 x3 x4) := by
  unfold k0_part268
  with_reducible
   exact
    C.l6 fun _ => C.l14 fun _ => C.s14 fun _ => C.l9 fun _ => C.l12 fun _ => C.s12 fun _ => C.l13 fun _ => C.l12 fun _ => C.l13 fun _ => C.s13 fun _ =>
    .ret _

theorem ok269 {S : sProp 𝕄} (C : Ctx c S a3 a4 a5 a6 a7 a8 a9 a10 a11 a12 a13 a14) {x0 x1 x2 x3 x4 x5 : _} :
    Fine D c S (k0_part269 (F := F) i a3 h3 a4 h4 a5 h5 a6 h6 a7 h7 a8 h8 a9 h9 a10 h10 a11 h11 a12 h12 a13 h13 a14 h14 x0 x1 x2 x3 x4 x5) := by
  unfold k0_part269
  with_reducible
   exact
    C.l14 fun _ => C.l6 fun _ => C.l14 fun _ => C.s14 fun _ => C.l9 fun _ => C.l12 fun _ => C.s12 fun _ => C.l13 fun _ => C.l12 fun _ => C.l13 fun _ =>
    .ret _

theorem ok270 {S : sProp 𝕄} (C : Ctx c S a3 a4 a5 a6 a7 a8 a9 a10 a11 a12 a13 a14) {x0 x1 x2 x3 x4 x5 x6 : _} :
    Fine D c S (k0_part270 (F := F) i a3 h3 a4 h4 a5 h5 a6 h6 a7 h7 a8 h8 a9 h9 a10 h10 a11 h11 a12 h12 a13 h13 a14 h14 x0 x1 x2 x3 x4 x5 x6) := by
  unfold k0_part270
  with_reducible
   exact
    C.s13 fun _ => C.l14 fun _ => C.l6 fun _ => C.l14 fun _ => C.s14 fun _ => C.l9 fun _ => C.l12 fun _ => C.s12 fun _ => C.l13 fun _ => C.l12 fun _ =>
    .ret _

theorem ok271 {S : sProp 𝕄} (C : Ctx c S a3 a4 a5 a6 a7 a8 a9 a10 a11 a12 a13 a14) {x0 x1 x2 x3 x4 x5 : _} :
    Fine D c S (k0_part271 (F := F) i a3 h3 a4 h4 a5 h5 a6 h6 a7 h7 a8 h8 a9 h9 a10 h10 a11 h11 a12 h12 a13 h13 a14 h14 x0 x1 x2 x3 x4 x5) := by
  unfold k0_part271
  with_reducible
   exact
    C.l13 fun _ => C.s13 fun _ => C.l14 fun _ => C.l6 fun _ => C.l14 fun _ => C.s14 fun _ => C.l9 fun _ => C.l12 fun _ => .ret _

theorem ok272 {S : sProp 𝕄} (C : Ctx c S a3 a4 a5 a6 a7 a8 a9 a10 a11 a12 a13 a14) {x0 x1 x2 : _} :
    Fine D c S (k0_part272 (F := F) i a3 h3 a4 h4 a5 h5 a6 h6 a7 h7 a8 h8 a9 h9 a10 h10 a11 h11 a12 h12 a13 h13 a14 h14 x0 x1 x2) := by
  unfold k0_part272
  with_reducible
   exact
    C.s12 fun _ => C.l13 fun _ => C.l12 fun _ => C.l13 fun _ => C.s13 fun _ => C.l14 fun _ => C.l6 fun _ => C.l14 fun _ => C.s14 fun _ => C.l13 fun _ =>
    .ret _

theorem ok273 {S : sProp 𝕄} (C : Ctx c S a3 a4 a5 a6 a7 a8 a9 a10 a11 a12 a13 a14) {x0 x1 x2 : _} :
    Fine D c S (k0_part273 (F := F) i a3 h3 a4 h4 a5 h5 a6 h6 a7 h7 a8 h8 a9 h9 a10 h10 a11 h11 a12 h12 a13 h13 a14 h14 x0 x1 x2) := by
  unfold k0_part273
  with_reducible
   exact
    C.l12 fun _ => C.l13 fun _ => C.s13 fun _ => C.l14 fun _ => C.l6 fun _ => C.l14 fun _ => C.s14 fun _ => C.l13 fun _ => .ret _

theorem ok274 {S : sProp 𝕄} (C : Ctx c S a3 a4 a5 a6 a7 a8 a9 a10 a11 a12 a13 a14) {x0 x1 x2 : _} :
    Fine D c S (k0_part274 (F := F) i a3 h3 a4 h4 a5 h5 a6 h6 a7 h7 a8 h8 a9 h9 a10 h10 a11 h11 a12 h12 a13 h13 a14 h14 x0 x1 x2) := by
  unfold k0_part274
  with_reducible
   exact
    C.l12 fun _ => C.l13 fun _ => C.s13 fun _ => C.l14 fun _ => C.l6 fun _ => C.l14 fun _ => C.s14 fun _ => C.l5 fun _ => C.l5 fun _ => .ret _

theorem ok275 {S : sProp 𝕄} (C : Ctx c S a3 a4 a5 a6 a7 a8 a9 a10 a11 a12 a13 a14) {x0 x1 x2 x3 x4 : _} :
    Fine D c S (k0_part275 (F := F) i a3 h3 a4 h4 a5 h5 a6 h6 a7 h7 a8 h8 a9 h9 a10 h10 a11 h11 a12 h12 a13 h13 a14 h14 x0 x1 x2 x3 x4) := by
  unfold k0_part275
  with_reducible
   exact
    C.l12 fun _ => C.s12 fun _ => C.l12 fun _ => C.s12 fun _ => C.l12 fun _ => C.s12 fun _ => C.l13 fun _ => C.l12 fun _ => C.l11 fun _ => .ret _

theorem ok276 {S : sProp 𝕄} (C : Ctx c S a3 a4 a5 a6 a7 a8 a9 a10 a11 a12 a13 a14) {x0 x1 x2 x3 x4 x5 x6 : _} :
    Fine D c S (k0_part276 (F := F) i a3 h3 a4 h4 a5 h5 a6 h6 a7 h7 a8 h8 a9 h9 a10 h10 a11 h11 a12 h12 a13 h13 a14 h14 x0 x1 x2 x3 x4 x5 x6) := by
  unfold k0_part276
  with_reducible
   exact
    C.l13 fun _ => C.s13 fun _ => C.l14 fun _ => C.l6 fun _ => C.l14 fun _ => C.s14 fun _ => C.l12 fun _ => C.s12 fun _ => C.l13 fun _ => C.l12 fun _ =>
    .ret _

theorem ok277 {S : sProp 𝕄} (C : Ctx c S a3 a4 a5 a6 a7 a8 a9 a10 a11 a12 a13 a14) {x0 x1 x2 x3 x4 : _} :
    Fine D c S (k0_part277 (F := F) i a3 h3 a4 h4 a5 h5 a6 h6 a7 h7 a8 h8 a9 h9 a10 h10 a11 h11 a12 h12 a13 h13 a14 h14 x0 x1 x2 x3 x4) := by
  unfold k0_part277
  with_reducible
   exact
    C.l11 fun _ => C.l13 fun _ => C.s13 fun _ => C.l14 fun _ => C.l6 fun _ => C.l14 fun _ => C.s14 fun _ => .ret _

theorem ok278 {S : sProp 𝕄} (C : Ctx c S a3 a4 a5 a6 a7 a8 a9 a10 a11 a12 a13 a14) {x0 x1 : _} :
    Fine D c S (k0_part278 (F := F) i a3 h3 a4 h4 a5 h5 a6 h6 a7 h7 a8 h8 a9 h9 a10 h10 a11 h11 a12 h12 a13 h13 a14 h14 x0 x1) := by
  unfold k0_part278
  with_reducible
   exact
    C.l12 fun _ => C.s12 fun _ => C.l13 fun _ => C.l12 fun _ => C.l11 fun _ => C.l13 fun _ => C.s13 fun _ => C.l14 fun _ => .ret _

theorem ok279 {S : sProp 𝕄} (C : Ctx c S a3 a4 a5 a6 a7 a8 a9 a10 a11 a12 a13 a14) {x0 x1 x2 x3 x4 x5 : _} :
    Fine D c S (k0_part279 (F := F) i a3 h3 a4 h4 a5 h5 a6 h6 a7 h7 a8 h8 a9 h9 a10 h10 a11 h11 a12 h12 a13 h13 a14 h14 x0 x1 x2 x3 x4 x5) := by
  unfold k0_part279
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok280 {S : sProp 𝕄} (C : Ctx c S a3 a4 a5 a6 a7 a8 a9 a10 a11 a12 a13 a14) {x0 x1 x2 x3 x4 x5 x6 : _} :
    Fine D c S (k0_part280 (F := F) i a3 h3 a4 h4 a5 h5 a6 h6 a7 h7 a8 h8 a9 h9 a10 h10 a11 h11 a12 h12 a13 h13 a14 h14 x0 x1 x2 x3 x4 x5 x6) := by
  unfold k0_part280
  with_reducible
   exact
    C.l14 fun _ => C.l6 fun _ => C.l14 fun _ => C.s14 fun _ => C.l12 fun _ => C.s12 fun _ => C.l13 fun _ => C.l12 fun _ => C.l11 fun _ => .ret _

theorem ok281 {S : sProp 𝕄} (C : Ctx c S a3 a4 a5 a6 a7 a8 a9 a10 a11 a12 a13 a14) {x0 x1 x2 x3 x4 x5 x6 : _} :
    Fine D c S (k0_part281 (F := F) i a3 h3 a4 h4 a5 h5 a6 h6 a7 h7 a8 h8 a9 h9 a10 h10 a11 h11 a12 h12 a13 h13 a14 h14 x0 x1 x2 x3 x4 x5 x6) := by
  unfold k0_part281
  with_reducible
   exact
    C.l13 fun _ => C.s13 fun _ => C.l14 fun _ => C.l6 fun _ => C.l14 fun _ => C.s14 fun _ => C.l12 fun _ => C.s12 fun _ => .ret _

theorem ok282 {S : sProp 𝕄} (C : Ctx c S a3 a4 a5 a6 a7 a8 a9 a10 a11 a12 a13 a14) {x0 : _} :
    Fine D c S (k0_part282 (F := F) i a3 h3 a4 h4 a5 h5 a6 h6 a7 h7 a8 h8 a9 h9 a10 h10 a11 h11 a12 h12 a13 h13 a14 h14 x0) := by
  unfold k0_part282
  with_reducible
   exact
    C.l13 fun _ => C.l12 fun _ => C.l11 fun _ => C.l13 fun _ => C.s13 fun _ => C.l14 fun _ => C.l6 fun _ => .ret _

theorem ok283 {S : sProp 𝕄} (C : Ctx c S a3 a4 a5 a6 a7 a8 a9 a10 a11 a12 a13 a14) {x0 x1 x2 : _} :
    Fine D c S (k0_part283 (F := F) i a3 h3 a4 h4 a5 h5 a6 h6 a7 h7 a8 h8 a9 h9 a10 h10 a11 h11 a12 h12 a13 h13 a14 h14 x0 x1 x2) := by
  unfold k0_part283
  with_reducible
   exact
    C.l14 fun _ => C.s14 fun _ => C.l13 fun _ => C.l12 fun _ => C.l11 fun _ => C.l13 fun _ => C.s13 fun _ => C.l14 fun _ => .ret _

theorem ok284 {S : sProp 𝕄} (C : Ctx c S a3 a4 a5 a6 a7 a8 a9 a10 a11 a12 a13 a14) {x0 x1 x2 x3 : _} :
    Fine D c S (k0_part284 (F := F) i a3 h3 a4 h4 a5 h5 a6 h6 a7 h7 a8 h8 a9 h9 a10 h10 a11 h11 a12 h12 a13 h13 a14 h14 x0 x1 x2 x3) := by
  unfold k0_part284
  with_reducible
   exact
    C.l6 fun _ => C.l14 fun _ => C.s14 fun _ => C.l13 fun _ => C.l12 fun _ => C.l11 fun _ => C.l13 fun _ => C.s13 fun _ => .ret _

theorem ok285 {S : sProp 𝕄} (C : Ctx c S a3 a4 a5 a6 a7 a8 a9 a10 a11 a12 a13 a14) {x0 x1 x2 x3 x4 x5 x6 x7 x8 x9 x10 : _} :
    Fine D c S (k0_part285 (F := F) i a3 h3 a4 h4 a5 h5 a6 h6 a7 h7 a8 h8 a9 h9 a10 h10 a11 h11 a12 h12 a13 h13 a14 h14 x0 x1 x2 x3 x4 x5 x6 x7 x8 x9 x10) := by
  unfold k0_part285
  with_reducible
   exact
    C.l14 fun _ => C.l6 fun _ => C.l14 fun _ => C.s14 fun _ =>
    Ok.bind (Ok.turns fun _ _ => (ok100 C).bind fun _ => C.l14 fun _ => C.s14 fun _ => .ret _) fun _ => .ret _

theorem ok286 {S : sProp 𝕄} (C : Ctx c S a3 a4 a5 a6 a7 a8 a9 a10 a11 a12 a13 a14) {x0 x1 x2 x3 x4 x5 x6 x7 x8 x9 : _} :
    Fine D c S (k0_part286 (F := F) i a3 h3 a4 h4 a5 h5 a6 h6 a7 h7 a8 h8 a9 h9 a10 h10 a11 h11 a12 h12 a13 h13 a14 h14 x0 x1 x2 x3 x4 x5 x6 x7 x8 x9) := by
  unfold k0_part286
  with_reducible
   exact
    Ok.bind (Ok.turns fun _ _ => (ok120 C).bind fun _ => C.l14 fun _ => C.s14 fun _ => .ret _) fun _ => C.l14 fun _ => C.l14 fun _ => C.l14 fun _ =>
    C.l14 fun _ => C.l14 fun _ => C.l14 fun _ => C.l14 fun _ => C.l14 fun _ => .ret _

theorem ok287 {S : sProp 𝕄} (C : Ctx c S a3 a4 a5 a6 a7 a8 a9 a10 a11 a12 a13 a14) {x0 x1 : _} :
    Fine D c S (k0_part287 (F := F) i a3 h3 a4 h4 a5 h5 a6 h6 a7 h7 a8 h8 a9 h9 a10 h10 a11 h11 a12 h12 a13 h13 a14 h14 x0 x1) := by
  unfold k0_part287
  with_reducible
   exact
    C.l14 fun _ => C.l14 fun _ => C.l14 fun _ => C.l14 fun _ => C.l14 fun _ => C.l14 fun _ => C.l14 fun _ => C.l14 fun _ => .ret _

theorem ok288 {S : sProp 𝕄} (C : Ctx c S a3 a4 a5 a6 a7 a8 a9 a10 a11 a12 a13 a14) {x0 x1 x2 x3 x4 x5 x6 x7 x8 x9 : _} :
    Fine D c S (k0_part288 (F := F) i a3 h3 a4 h4 a5 h5 a6 h6 a7 h7 a8 h8 a9 h9 a10 h10 a11 h11 a12 h12 a13 h13 a14 h14 x0 x1 x2 x3 x4 x5 x6 x7 x8 x9) := by
  unfold k0_part288
  with_reducible
   exact
    C.l10 fun _ => C.s10 fun _ => C.l4 fun _ => .ret _

theorem ok289 {S : sProp 𝕄} (C : Ctx c S a3 a4 a5 a6 a7 a8 a9 a10 a11 a12 a13 a14) {x0 x1 x2 x3 : _} :
    Fine D c S (k0_part289 (F := F) i a3 h3 a4 h4 a5 h5 a6 h6 a7 h7 a8 h8 a9 h9 a10 h10 a11 h11 a12 h12 a13 h13 a14 h14 x0 x1 x2 x3) := by
  unfold k0_part289
  with_reducible
   exact
    C.l7 fun _ => .ret _

theorem ok290 {S : sProp 𝕄} (C : Ctx c S a3 a4 a5 a6 a7 a8 a9 a10 a11 a12 a13 a14) {x0 x1 x2 x3 x4 x5 : _} :
    Fine D c S (k0_part290 (F := F) i a3 h3 a4 h4 a5 h5 a6 h6 a7 h7 a8 h8 a9 h9 a10 h10 a11 h11 a12 h12 a13 h13 a14 h14 x0 x1 x2 x3 x4 x5) := by
  unfold k0_part290
  with_reducible
   exact
    .ret _

theorem ok291 {S : sProp 𝕄} (C : Ctx c S a3 a4 a5 a6 a7 a8 a9 a10 a11 a12 a13 a14) {x0 x1 x2 x3 x4 x5 x6 x7 x8 x9 x10 x11 x12 x13 x14 x15 x16 : _} :
    Fine D c S (k0_part291 (F := F) i a3 h3 a4 h4 a5 h5 a6 h6 a7 h7 a8 h8 a9 h9 a10 h10 a11 h11 a12 h12 a13 h13 a14 h14 x0 x1 x2 x3 x4 x5 x6 x7 x8 x9 x10 x11 x12 x13 x14 x15 x16) := by
  unfold k0_part291
  with_reducible
   exact
    .ret _

theorem ok292 {S : sProp 𝕄} (C : Ctx c S a3 a4 a5 a6 a7 a8 a9 a10 a11 a12 a13 a14) {x0 x1 x2 x3 x4 x5 x6 : _} :
    Fine D c S (k0_part292 (F := F) i a3 h3 a4 h4 a5 h5 a6 h6 a7 h7 a8 h8 a9 h9 a10 h10 a11 h11 a12 h12 a13 h13 a14 h14 x0 x1 x2 x3 x4 x5 x6) := by
  unfold k0_part292
  exact
    C.w3 fun _ => C.l11 fun _ => C.s11 fun _ => .ret _

theorem ok293 {S : sProp 𝕄} (C : Ctx c S a3 a4 a5 a6 a7 a8 a9 a10 a11 a12 a13 a14) {x0 x1 x2 x3 x4 x5 : _} :
    Fine D c S (k0_part293 (F := F) i a3 h3 a4 h4 a5 h5 a6 h6 a7 h7 a8 h8 a9 h9 a10 h10 a11 h11 a12 h12 a13 h13 a14 h14 x0 x1 x2 x3 x4 x5) := by
  unfold k0_part293
  exact
    C.w3 fun _ => C.l11 fun _ => C.s11 fun _ => .ret _

theorem ok294 {S : sProp 𝕄} (C : Ctx c S a3 a4 a5 a6 a7 a8 a9 a10 a11 a12 a13 a14) {x0 x1 x2 : _} :
    Fine D c S (k0_part294 (F := F) i a3 h3 a4 h4 a5 h5 a6 h6 a7 h7 a8 h8 a9 h9 a10 h10 a11 h11 a12 h12 a13 h13 a14 h14 x0 x1 x2) := by
  unfold k0_part294
  with_reducible
   exact
    .ret _

theorem ok295 {S : sProp 𝕄} (C : Ctx c S a3 a4 a5 a6 a7 a8 a9 a10 a11 a12 a13 a14) {x0 x1 x2 x3 x4 x5 : _} :
    Fine D c S (k0_part295 (F := F) i a3 h3 a4 h4 a5 h5 a6 h6 a7 h7 a8 h8 a9 h9 a10 h10 a11 h11 a12 h12 a13 h13 a14 h14 x0 x1 x2 x3 x4 x5) := by
  unfold k0_part295
  exact
    C.w3 fun _ => C.l11 fun _ => C.s11 fun _ => .ret _

theorem ok296 {S : sProp 𝕄} (C : Ctx c S a3 a4 a5 a6 a7 a8 a9 a10 a11 a12 a13 a14) {x0 x1 x2 x3 x4 x5 x6 : _} :
    Fine D c S (k0_part296 (F := F) i a3 h3 a4 h4 a5 h5 a6 h6 a7 h7 a8 h8 a9 h9 a10 h10 a11 h11 a12 h12 a13 h13 a14 h14 x0 x1 x2 x3 x4 x5 x6) := by
  unfold k0_part296
  exact
    C.w3 fun _ => C.l11 fun _ => C.s11 fun _ => C.l4 fun _ => .ret _

theorem ok297 {S : sProp 𝕄} (C : Ctx c S a3 a4 a5 a6 a7 a8 a9 a10 a11 a12 a13 a14) {x0 x1 x2 : _} :
    Fine D c S (k0_part297 (F := F) i a3 h3 a4 h4 a5 h5 a6 h6 a7 h7 a8 h8 a9 h9 a10 h10 a11 h11 a12 h12 a13 h13 a14 h14 x0 x1 x2) := by
  unfold k0_part297
  with_reducible
   exact
    C.l7 fun _ => .ret _

theorem ok298 {S : sProp 𝕄} (C : Ctx c S a3 a4 a5 a6 a7 a8 a9 a10 a11 a12 a13 a14) {x0 x1 x2 x3 x4 x5 x6 x7 : _} :
    Fine D c S (k0_part298 (F := F) i a3 h3 a4 h4 a5 h5 a6 h6 a7 h7 a8 h8 a9 h9 a10 h10 a11 h11 a12 h12 a13 h13 a14 h14 x0 x1 x2 x3 x4 x5 x6 x7) := by
  unfold k0_part298
  with_reducible
   exact
    .ret _

theorem ok299 {S : sProp 𝕄} (C : Ctx c S a3 a4 a5 a6 a7 a8 a9 a10 a11 a12 a13 a14) {x0 x1 x2 x3 : _} :
    Fine D c S (k0_part299 (F := F) i a3 h3 a4 h4 a5 h5 a6 h6 a7 h7 a8 h8 a9 h9 a10 h10 a11 h11 a12 h12 a13 h13 a14 h14 x0 x1 x2 x3) := by
  unfold k0_part299
  with_reducible
   exact
    .ret _

theorem ok300 {S : sProp 𝕄} (C : Ctx c S a3 a4 a5 a6 a7 a8 a9 a10 a11 a12 a13 a14) {x0 x1 x2 x3 x4 x5 x6 : _} :
    Fine D c S (k0_part300 (F := F) i a3 h3 a4 h4 a5 h5 a6 h6 a7 h7 a8 h8 a9 h9 a10 h10 a11 h11 a12 h12 a13 h13 a14 h14 x0 x1 x2 x3 x4 x5 x6) := by
  unfold k0_part300
  exact
    C.w3 fun _ => C.l11 fun _ => C.s11 fun _ => .ret _

theorem ok301 {S : sProp 𝕄} (C : Ctx c S a3 a4 a5 a6 a7 a8 a9 a10 a11 a12 a13 a14) {x0 x1 x2 x3 x4 x5 x6 : _} :
    Fine D c S (k0_part301 (F := F) i a3 h3 a4 h4 a5 h5 a6 h6 a7 h7 a8 h8 a9 h9 a10 h10 a11 h11 a12 h12 a13 h13 a14 h14 x0 x1 x2 x3 x4 x5 x6) := by
  unfold k0_part301
  exact
    C.w3 fun _ => C.l11 fun _ => C.s11 fun _ => .ret _

theorem ok302 {S : sProp 𝕄} (C : Ctx c S a3 a4 a5 a6 a7 a8 a9 a10 a11 a12 a13 a14) {x0 x1 x2 x3 x4 x5 : _} :
    Fine D c S (k0_part302 (F := F) i a3 h3 a4 h4 a5 h5 a6 h6 a7 h7 a8 h8 a9 h9 a10 h10 a11 h11 a12 h12 a13 h13 a14 h14 x0 x1 x2 x3 x4 x5) := by
  unfold k0_part302
  with_reducible
   exact
    .ret _

theorem ok303 {S : sProp 𝕄} (C : Ctx c S a3 a4 a5 a6 a7 a8 a9 a10 a11 a12 a13 a14) {x0 x1 x2 x3 : _} :
    Fine D c S (k0_part303 (F := F) i a3 h3 a4 h4 a5 h5 a6 h6 a7 h7 a8 h8 a9 h9 a10 h10 a11 h11 a12 h12 a13 h13 a14 h14 x0 x1 x2 x3) := by
  unfold k0_part303
  exact
    C.w3 fun _ => C.l11 fun _ => C.s11 fun _ => .ret _

theorem ok304 {S : sProp 𝕄} (C : Ctx c S a3 a4 a5 a6 a7 a8 a9 a10 a11 a12 a13 a14) {x0 x1 x2 x3 x4 x5 : _} :
    Fine D c S (k0_part304 (F := F) i a3 h3 a4 h4 a5 h5 a6 h6 a7 h7 a8 h8 a9 h9 a10 h10 a11 h11 a12 h12 a13 h13 a14 h14 x0 x1 x2 x3 x4 x5) := by
  unfold k0_part304
  exact
    C.w3 fun _ => C.l11 fun _ => C.s11 fun _ => C.l13 fun _ => C.s13 fun _ => C.l14 fun _ => C.s14 fun _ => .ret _

theorem ok305 {S : sProp 𝕄} (C : Ctx c S a3 a4 a5 a6 a7 a8 a9 a10 a11 a12 a13 a14) {x0 x1 x2 x3 x4 x5 : _} :
    Fine D c S (k0_part305 (F := F) i a3 h3 a4 h4 a5 h5 a6 h6 a7 h7 a8 h8 a9 h9 a10 h10 a11 h11 a12 h12 a13 h13 a14 h14 x0 x1 x2 x3 x4 x5) := by
  unfold k0_part305
  with_reducible
   exact
    C.l5 fun _ => C.l8 fun _ => C.l12 fun _ => C.s12 fun _ => C.l8 fun _ => C.l12 fun _ => C.s12 fun _ => C.l8 fun _ => C.l12 fun _ => C.s12 fun _ =>
    .ret _

theorem ok306 {S : sProp 𝕄} (C : Ctx c S a3 a4 a5 a6 a7 a8 a9 a10 a11 a12 a13 a14) {x0 x1 x2 x3 x4 : _} :
    Fine D c S (k0_part306 (F := F) i a3 h3 a4 h4 a5 h5 a6 h6 a7 h7 a8 h8 a9 h9 a10 h10 a11 h11 a12 h12 a13 h13 a14 h14 x0 x1 x2 x3 x4) := by
  unfold k0_part306
  with_reducible
   exact
    C.l8 fun _ => C.l12 fun _ => C.s12 fun _ => C.l5 fun _ => C.l8 fun _ => C.l12 fun _ => C.s12 fun _ => C.l8 fun _ => C.l12 fun _ => C.s12 fun _ =>
    C.l8 fun _ => .ret _

theorem ok307 {S : sProp 𝕄} (C : Ctx c S a3 a4 a5 a6 a7 a8 a9 a10 a11 a12 a13 a14) {x0 x1 x2 x3 x4 x5 x6 : _} :
    Fine D c S (k0_part307 (F := F) i a3 h3 a4 h4 a5 h5 a6 h6 a7 h7 a8 h8 a9 h9 a10 h10 a11 h11 a12 h12 a13 h13 a14 h14 x0 x1 x2 x3 x4 x5 x6) := by
  unfold k0_part307
  with_reducible
   exact
    C.l12 fun _ => C.s12 fun _ => C.l8 fun _ => C.l12 fun _ => C.s12 fun _ => C.l5 fun _ => C.l5 fun _ => C.l9 fun _ => C.l12 fun _ => C.s12 fun _ =>
    .ret _

theorem ok308 {S : sProp 𝕄} (C : Ctx c S a3 a4 a5 a6 a7 a8 a9 a10 a11 a12 a13 a14) {x0 x1 x2 x3 : _} :
    Fine D c S (k0_part308 (F := F) i a3 h3 a4 h4 a5 h5 a6 h6 a7 h7 a8 h8 a9 h9 a10 h10 a11 h11 a12 h12 a13 h13 a14 h14 x0 x1 x2 x3) := by
  unfold k0_part308
  with_reducible
   exact
    C.l9 fun _ => C.l12 fun _ => C.s12 fun _ => C.l9 fun _ => C.l12 fun _ => C.s12 fun _ => C.l13 fun _ => C.l12 fun _ => C.l13 fun _ => C.s13 fun _ =>
    .ret _

theorem ok309 {S : sProp 𝕄} (C : Ctx c S a3 a4 a5 a6 a7 a8 a9 a10 a11 a12 a13 a14) {x0 x1 x2 x3 x4 x5 : _} :
    Fine D c S (k0_part309 (F := F) i a3 h3 a4 h4 a5 h5 a6 h6 a7 h7 a8 h8 a9 h9 a10 h10 a11 h11 a12 h12 a13 h13 a14 h14 x0 x1 x2 x3 x4 x5) := by
  unfold k0_part309
  with_reducible
   exact
    C.l14 fun _ => C.l6 fun _ => C.l14 fun _ => C.s14 fun _ => C.l9 fun _ => C.l12 fun _ => C.s12 fun _ => C.l13 fun _ => C.l12 fun _ => C.l13 fun _ =>
    .ret _

theorem ok310 {S : sProp 𝕄} (C : Ctx c S a3 a4 a5 a6 a7 a8 a9 a10 a11 a12 a13 a14) {x0 x1 x2 x3 x4 x5 x6 x7 : _} :
    Fine D c S (k0_part310 (F := F) i a3 h3 a4 h4 a5 h5 a6 h6 a7 h7 a8 h8 a9 h9 a10 h10 a11 h11 a12 h12 a13 h13 a14 h14 x0 x1 x2 x3 x4 x5 x6 x7) := by
  unfold k0_part310
  with_reducible
   exact
    C.s13 fun _ => C.l14 fun _ => C.l6 fun _ => C.l14 fun _ => C.s14 fun _ => C.l9 fun _ => C.l12 fun _ => C.s12 fun _ => C.l13 fun _ => .ret _

theorem ok311 {S : sProp 𝕄} (C : Ctx c S a3 a4 a5 a6 a7 a8 a9 a10 a11 a12 a13 a14) {x0 x1 x2 x3 x4 : _} :
    Fine D c S (k0_part311 (F := F) i a3 h3 a4 h4 a5 h5 a6 h6 a7 h7 a8 h8 a9 h9 a10 h10 a11 h11 a12 h12 a13 h13 a14 h14 x0 x1 x2 x3 x4) := by
  unfold k0_part311
  with_reducible
   exact
    C.l12 fun _ => C.l13 fun _ => C.s13 fun _ => C.l14 fun _ => C.l6 fun _ => C.l14 fun _ => C.s14 fun _ => C.l9 fun _ => C.l12 fun _ => .ret _

theorem ok312 {S : sProp 𝕄} (C : Ctx c S a3 a4 a5 a6 a7 a8 a9 a10 a11 a12 a13 a14) {x0 x1 x2 x3 x4 : _} :
    Fine D c S (k0_part312 (F := F) i a3 h3 a4 h4 a5 h5 a6 h6 a7 h7 a8 h8 a9 h9 a10 h10 a11 h11 a12 h12 a13 h13 a14 h14 x0 x1 x2 x3 x4) := by
  unfold k0_part312
  with_reducible
   exact
    C.s12 fun _ => C.l13 fun _ => C.l12 fun _ => C.l13 fun _ => C.s13 fun _ => C.l14 fun _ => C.l6 fun _ => C.l14 fun _ => C.s14 fun _ => .ret _

theorem ok313 {S : sProp 𝕄} (C : Ctx c S a3 a4 a5 a6 a7 a8 a9 a10 a11 a12 a13 a14) {x0 x1 x2 : _} :
    Fine D c S (k0_part313 (F := F) i a3 h3 a4 h4 a5 h5 a6 h6 a7 h7 a8 h8 a9 h9 a10 h10 a11 h11 a12 h12 a13 h13 a14 h14 x0 x1 x2) := by
  unfold k0_part313
  with_reducible
   exact
    C.l9 fun _ => C.l12 fun _ => C.s12 fun _ => C.l13 fun _ => C.l12 fun _ => C.l13 fun _ => C.s13 fun _ => C.l14 fun _ => C.l6 fun _ => .ret _

theorem ok314 {S : sProp 𝕄} (C : Ctx c S a3 a4 a5 a6 a7 a8 a9 a10 a11 a12 a13 a14) {x0 x1 x2 x3 x4 : _} :
    Fine D c S (k0_part314 (F := F) i a3 h3 a4 h4 a5 h5 a6 h6 a7 h7 a8 h8 a9 h9 a10 h10 a11 h11 a12 h12 a13 h13 a14 h14 x0 x1 x2 x3 x4) := by
  unfold k0_part314
  with_reducible
   exact
    C.l14 fun _ => C.s14 fun _ => C.l9 fun _ => C.l12 fun _ => C.s12 fun _ => C.l13 fun _ => C.l12 fun _ => C.l13 fun _ => C.s13 fun _ => C.l14 fun _ =>
    .ret _

theorem ok315 {S : sProp 𝕄} (C : Ctx c S a3 a4 a5 a6 a7 a8 a9 a10 a11 a12 a13 a14) {x0 x1 x2 x3 x4 : _} :
    Fine D c S (k0_part315 (F := F) i a3 h3 a4 h4 a5 h5 a6 h6 a7 h7 a8 h8 a9 h9 a10 h10 a11 h11 a12 h12 a13 h13 a14 h14 x0 x1 x2 x3 x4) := by
  unfold k0_part315
  with_reducible
   exact
    C.l6 fun _ => C.l14 fun _ => C.s14 fun _ => C.l13 fun _ => C.l12 fun _ => C.l13 fun _ => C.s13 fun _ => C.l14 fun _ => .ret _

theorem ok316 {S : sProp 𝕄} (C : Ctx c S a3 a4 a5 a6 a7 a8 a9 a10 a11 a12 a13 a14) {x0 x1 x2 x3 x4 : _} :
    Fine D c S (k0_part316 (F := F) i a3 h3 a4 h4 a5 h5 a6 h6 a7 h7 a8 h8 a9 h9 a10 h10 a11 h11 a12 h12 a13 h13 a14 h14 x0 x1 x2 x3 x4) := by
  unfold k0_part316
  with_reducible
   exact
    C.l6 fun _ => C.l14 fun _ => C.s14 fun _ => C.l13 fun _ => C.l12 fun _ => C.l13 fun _ => C.s13 fun _ => C.l14 fun _ => C.l6 fun _ => .ret _

theorem ok317 {S : sProp 𝕄} (C : Ctx c S a3 a4 a5 a6 a7 a8 a9 a10 a11 a12 a13 a14) {x0 x1 x2 x3 x4 x5 x6 : _} :
    Fine D c S (k0_part317 (F := F) i a3 h3 a4 h4 a5 h5 a6 h6 a7 h7 a8 h8 a9 h9 a10 h10 a11 h11 a12 h12 a13 h13 a14 h14 x0 x1 x2 x3 x4 x5 x6) := by
  unfold k0_part317
  with_reducible
   exact
    C.l14 fun _ => C.s14 fun _ => C.l5 fun _ => C.l5 fun _ => C.l12 fun _ => C.s12 fun _ => C.l12 fun _ => C.s12 fun _ => C.l12 fun _ => C.s12 fun _ =>
    C.l13 fun _ => .ret _

theorem ok318 {S : sProp 𝕄} (C : Ctx c S a3 a4 a5 a6 a7 a8 a9 a10 a11 a12 a13 a14) {x0 x1 : _} :
    Fine D c S (k0_part318 (F := F) i a3 h3 a4 h4 a5 h5 a6 h6 a7 h7 a8 h8 a9 h9 a10 h10 a11 h11 a12 h12 a13 h13 a14 h14 x0 x1) := by
  unfold k0_part318
  with_reducible
   exact
    C.l12 fun _ => C.l11 fun _ => C.l13 fun _ => C.s13 fun _ => C.l14 fun _ => C.l6 fun _ => C.l14 fun _ => .ret _

theorem ok319 {S : sProp 𝕄} (C : Ctx c S a3 a4 a5 a6 a7 a8 a9 a10 a11 a12 a13 a14) {x0 x1 x2 x3 : _} :
    Fine D c S (k0_part319 (F := F) i a3 h3 a4 h4 a5 h5 a6 h6 a7 h7 a8 h8 a9 h9 a10 h10 a11 h11 a12 h12 a13 h13 a14 h14 x0 x1 x2 x3) := by
  unfold k0_part319
  with_reducible
   exact
    C.s14 fun _ => C.l12 fun _ => C.s12 fun _ => C.l13 fun _ => C.l12 fun _ => C.l11 fun _ => C.l13 fun _ => C.s13 fun _ => C.l14 fun _ => .ret _

theorem ok320 {S : sProp 𝕄} (C : Ctx c S a3 a4 a5 a6 a7 a8 a9 a10 a11 a12 a13 a14) {x0 x1 x2 x3 x4 x5 : _} :
    Fine D c S (k0_part320 (F := F) i a3 h3 a4 h4 a5 h5 a6 h6 a7 h7 a8 h8 a9 h9 a10 h10 a11 h11 a12 h12 a13 h13 a14 h14 x0 x1 x2 x3 x4 x5) := by
  unfold k0_part320
  with_reducible
   exact
    C.l6 fun _ => C.l14 fun _ => C.s14 fun _ => C.l12 fun _ => C.s12 fun _ => C.l13 fun _ => C.l12 fun _ => C.l11 fun _ => .ret _

theorem ok321 {S : sProp 𝕄} (C : Ctx c S a3 a4 a5 a6 a7 a8 a9 a10 a11 a12 a13 a14) {x0 x1 x2 x3 x4 x5 x6 : _} :
    Fine D c S (k0_part321 (F := F) i a3 h3 a4 h4 a5 h5 a6 h6 a7 h7 a8 h8 a9 h9 a10 h10 a11 h11 a12 h12 a13 h13 a14 h14 x0 x1 x2 x3 x4 x5 x6) := by
  unfold k0_part321
  with_reducible
   exact
    C.l13 fun _ => C.s13 fun _ => C.l14 fun _ => C.l6 fun _ => C.l14 fun _ => C.s14 fun _ => C.l12 fun _ => C.s12 fun _ => C.l13 fun _ => C.l12 fun _ =>
    .ret _

theorem ok322 {S : sProp 𝕄} (C : Ctx c S a3 a4 a5 a6 a7 a8 a9 a10 a11 a12 a13 a14) {x0 x1 x2 x3 x4 : _} :
    Fine D c S (k0_part322 (F := F) i a3 h3 a4 h4 a5 h5 a6 h6 a7 h7 a8 h8 a9 h9 a10 h10 a11 h11 a12 h12 a13 h13 a14 h14 x0 x1 x2 x3 x4) := by
  unfold k0_part322
  with_reducible
   exact
    C.l11 fun _ => C.l13 fun _ => C.s13 fun _ => C.l14 fun _ => C.l6 fun _ => C.l14 fun _ => C.s14 fun _ => .ret _

theorem ok323 {S : sProp 𝕄} (C : Ctx c S a3 a4 a5 a6 a7 a8 a9 a10 a11 a12 a13 a14) {x0 x1 : _} :
    Fine D c S (k0_part323 (F := F) i a3 h3 a4 h4 a5 h5 a6 h6 a7 h7 a8 h8 a9 h9 a10 h10 a11 h11 a12 h12 a13 h13 a14 h14 x0 x1) := by
  unfold k0_part323
  with_reducible
   exact
    C.l12 fun _ => C.s12 fun _ => C.l13 fun _ => C.l12 fun _ => C.l11 fun _ => C.l13 fun _ => C.s13 fun _ => C.l14 fun _ => .ret _

theorem ok324 {S : sProp 𝕄} (C : Ctx c S a3 a4 a5 a6 a7 a8 a9 a10 a11 a12 a13 a14) {x0 x1 x2 x3 x4 x5 : _} :
    Fine D c S (k0_part324 (F := F) i a3 h3 a4 h4 a5 h5 a6 h6 a7 h7 a8 h8 a9 h9 a10 h10 a11 h11 a12 h12 a13 h13 a14 h14 x0 x1 x2 x3 x4 x5) := by
  unfold k0_part324
  with_reducible
   exact
    C.l6 fun _ => C.l14 fun _ => C.s14 fun _ => C.l12 fun _ => C.s12 fun _ => C.l13 fun _ => C.l12 fun _ => C.l11 fun _ => C.l13 fun _ => C.s13 fun _ =>
    .ret _

theorem ok325 {S : sProp 𝕄} (C : Ctx c S a3 a4 a5 a6 a7 a8 a9 a10 a11 a12 a13 a14) {x0 x1 x2 x3 x4 : _} :
    Fine D c S (k0_part325 (F := F) i a3 h3 a4 h4 a5 h5 a6 h6 a7 h7 a8 h8 a9 h9 a10 h10 a11 h11 a12 h12 a13 h13 a14 h14 x0 x1 x2 x3 x4) := by
  unfold k0_part325
  with_reducible
   exact
    C.l14 fun _ => C.l6 fun _ => C.l14 fun _ => C.s14 fun _ => C.l13 fun _ => C.l12 fun _ => C.l11 fun _ => .ret _

theorem ok326 {S : sProp 𝕄} (C : Ctx c S a3 a4 a5 a6 a7 a8 a9 a10 a11 a12 a13 a14) {x0 x1 x2 x3 x4 : _} :
    Fine D c S (k0_part326 (F := F) i a3 h3 a4 h4 a5 h5 a6 h6 a7 h7 a8 h8 a9 h9 a10 h10 a11 h11 a12 h12 a13 h13 a14 h14 x0 x1 x2 x3 x4) := by
  unfold k0_part326
  with_reducible
   exact
    C.l13 fun _ => C.s13 fun _ => C.l14 fun _ => C.l6 fun _ => C.l14 fun _ => C.s14 fun _ => C.l13 fun _ => C.l12 fun _ => C.l11 fun _ => .ret _

theorem ok327 {S : sProp 𝕄} (C : Ctx c S a3 a4 a5 a6 a7 a8 a9 a10 a11 a12 a13 a14) {x0 x1 x2 x3 x4 x5 : _} :
    Fine D c S (k0_part327 (F := F) i a3 h3 a4 h4 a5 h5 a6 h6 a7 h7 a8 h8 a9 h9 a10 h10 a11 h11 a12 h12 a13 h13 a14 h14 x0 x1 x2 x3 x4 x5) := by
  unfold k0_part327
  with_reducible
   exact
    C.l13 fun _ => C.s13 fun _ => C.l14 fun _ => C.l6 fun _ => C.l14 fun _ => C.s14 fun _ => .ret _

theorem ok328 {S : sProp 𝕄} (C : Ctx c S a3 a4 a5 a6 a7 a8 a9 a10 a11 a12 a13 a14) {x0 x1 x2 x3 x4 x5 x6 x7 x8 x9 x10 x11 x12 x13 : _} :
    Fine D c S (k0_part328 (F := F) i a3 h3 a4 h4 a5 h5 a6 h6 a7 h7 a8 h8 a9 h9 a10 h10 a11 h11 a12 h12 a13 h13 a14 h14 x0 x1 x2 x3 x4 x5 x6 x7 x8 x9 x10 x11 x12 x13) := by
  unfold k0_part328
  with_reducible
   exact
    Ok.bind (Ok.turns fun _ _ => (ok140 C).bind fun _ => C.l14 fun _ => C.s14 fun _ => .ret _) fun _ =>
    Ok.bind (Ok.turns fun _ _ => (ok160 C).bind fun _ => C.l14 fun _ => C.s14 fun _ => .ret _) fun _ => C.l14 fun _ => C.l14 fun _ => C.l14 fun _ =>
    C.l14 fun _ => C.l14 fun _ => .ret _

theorem ok329 {S : sProp 𝕄} (C : Ctx c S a3 a4 a5 a6 a7 a8 a9 a10 a11 a12 a13 a14) {x0 : _} :
    Fine D c S (k0_part329 (F := F) i a3 h3 a4 h4 a5 h5 a6 h6 a7 h7 a8 h8 a9 h9 a10 h10 a11 h11 a12 h12 a13 h13 a14 h14 x0) := by
  unfold k0_part329
  with_reducible
   exact
    C.l14 fun _ => C.l14 fun _ => C.l14 fun _ => C.l14 fun _ => C.l14 fun _ => C.l14 fun _ => C.l14 fun _ => C.l14 fun _ => .ret _

theorem ok330 {S : sProp 𝕄} (C : Ctx c S a3 a4 a5 a6 a7 a8 a9 a10 a11 a12 a13 a14) :
    Fine D c S (k0_part330 (F := F) i a3 h3 a4 h4 a5 h5 a6 h6 a7 h7 a8 h8 a9 h9 a10 h10 a11 h11 a12 h12 a13 h13 a14 h14) := by
  unfold k0_part330
  with_reducible
   exact
    (ok161 C).bind fun _ => (ok162 C).bind fun _ => (ok163 C).bind fun _ => (ok164 C).bind fun _ => (ok165 C).bind fun _ => (ok166 C).bind fun _ =>
    (ok167 C).bind fun _ => (ok168 C).bind fun _ => (ok169 C).bind fun _ => (ok170 C).bind fun _ => (ok171 C).bind fun _ => (ok172 C).bind fun _ =>
    (ok173 C).bind fun _ => (ok174 C).bind fun _ => (ok175 C).bind fun _ => (ok176 C).bind fun _ => (ok177 C).bind fun _ => (ok178 C).bind fun _ =>
    (ok179 C).bind fun _ => (ok180 C).bind fun _ => (ok181 C).bind fun _ => (ok182 C).bind fun _ => (ok183 C).bind fun _ => (ok184 C).bind fun _ =>
    (ok185 C).bind fun _ => (ok186 C).bind fun _ => (ok187 C).bind fun _ => (ok188 C).bind fun _ => (ok189 C).bind fun _ => (ok190 C).bind fun _ =>
    (ok191 C).bind fun _ => (ok192 C).bind fun _ => (ok193 C).bind fun _ => (ok194 C).bind fun _ => (ok195 C).bind fun _ => (ok196 C).bind fun _ =>
    (ok197 C).bind fun _ => (ok198 C).bind fun _ => (ok199 C).bind fun _ => (ok200 C).bind fun _ => (ok201 C).bind fun _ => (ok202 C).bind fun _ =>
    (ok203 C).bind fun _ => (ok204 C).bind fun _ => (ok205 C).bind fun _ => (ok206 C).bind fun _ => (ok207 C).bind fun _ => (ok208 C).bind fun _ =>
    (ok209 C).bind fun _ => (ok210 C).bind fun _ => (ok211 C).bind fun _ => (ok212 C).bind fun _ => (ok213 C).bind fun _ => (ok214 C).bind fun _ =>
    (ok215 C).bind fun _ => (ok216 C).bind fun _ => (ok217 C).bind fun _ => (ok218 C).bind fun _ => (ok219 C).bind fun _ => (ok220 C).bind fun _ => .ret _

theorem ok331 {S : sProp 𝕄} (C : Ctx c S a3 a4 a5 a6 a7 a8 a9 a10 a11 a12 a13 a14) {x0 x1 x2 x3 x4 x5 x6 x7 x8 x9 x10 x11 x12 x13 x14 : _} :
    Fine D c S (k0_part331 (F := F) i a3 h3 a4 h4 a5 h5 a6 h6 a7 h7 a8 h8 a9 h9 a10 h10 a11 h11 a12 h12 a13 h13 a14 h14 x0 x1 x2 x3 x4 x5 x6 x7 x8 x9 x10 x11 x12 x13 x14) := by
  unfold k0_part331
  with_reducible
   exact
    (ok221 C).bind fun _ => (ok222 C).bind fun _ => (ok223 C).bind fun _ => (ok224 C).bind fun _ => (ok225 C).bind fun _ => (ok226 C).bind fun _ =>
    (ok227 C).bind fun _ => (ok228 C).bind fun _ => (ok229 C).bind fun _ => (ok230 C).bind fun _ => (ok231 C).bind fun _ => (ok232 C).bind fun _ =>
    (ok233 C).bind fun _ => (ok234 C).bind fun _ => (ok235 C).bind fun _ => (ok236 C).bind fun _ => (ok237 C).bind fun _ => (ok238 C).bind fun _ =>
    (ok239 C).bind fun _ => (ok240 C).bind fun _ => (ok241 C).bind fun _ => (ok242 C).bind fun _ => (ok243 C).bind fun _ => (ok244 C).bind fun _ =>
    (ok245 C).bind fun _ => (ok246 C).bind fun _ => (ok247 C).bind fun _ => (ok248 C).bind fun _ => (ok249 C).bind fun _ => (ok250 C).bind fun _ =>
    (ok251 C).bind fun _ => (ok252 C).bind fun _ => (ok253 C).bind fun _ => (ok254 C).bind fun _ => (ok255 C).bind fun _ => (ok256 C).bind fun _ =>
    (ok257 C).bind fun _ => (ok258 C).bind fun _ => (ok259 C).bind fun _ => (ok260 C).bind fun _ => (ok261 C).bind fun _ => (ok262 C).bind fun _ =>
    (ok263 C).bind fun _ => (ok264 C).bind fun _ => (ok265 C).bind fun _ => (ok266 C).bind fun _ => (ok267 C).bind fun _ => (ok268 C).bind fun _ =>
    (ok269 C).bind fun _ => (ok270 C).bind fun _ => (ok271 C).bind fun _ => (ok272 C).bind fun _ => (ok273 C).bind fun _ => (ok274 C).bind fun _ =>
    (ok275 C).bind fun _ => (ok276 C).bind fun _ => (ok277 C).bind fun _ => (ok278 C).bind fun _ => (ok279 C).bind fun _ => (ok280 C).bind fun _ => .ret _

theorem ok332 {S : sProp 𝕄} (C : Ctx c S a3 a4 a5 a6 a7 a8 a9 a10 a11 a12 a13 a14) {x0 x1 x2 x3 x4 x5 x6 x7 x8 x9 x10 x11 x12 x13 x14 x15 : _} :
    Fine D c S (k0_part332 (F := F) i a3 h3 a4 h4 a5 h5 a6 h6 a7 h7 a8 h8 a9 h9 a10 h10 a11 h11 a12 h12 a13 h13 a14 h14 x0 x1 x2 x3 x4 x5 x6 x7 x8 x9 x10 x11 x12 x13 x14 x15) := by
  unfold k0_part332
  with_reducible
   exact
    (ok281 C).bind fun _ => (ok282 C).bind fun _ => (ok283 C).bind fun _ => (ok284 C).bind fun _ => (ok285 C).bind fun _ => (ok286 C).bind fun _ =>
    (ok287 C).bind fun _ => (ok288 C).bind fun _ => (ok289 C).bind fun _ => (ok290 C).bind fun _ => (ok291 C).bind fun _ => (ok292 C).bind fun _ =>
    (ok293 C).bind fun _ => (ok294 C).bind fun _ => (ok295 C).bind fun _ => (ok296 C).bind fun _ => (ok297 C).bind fun _ => (ok298 C).bind fun _ =>
    (ok299 C).bind fun _ => (ok300 C).bind fun _ => (ok301 C).bind fun _ => (ok302 C).bind fun _ => (ok303 C).bind fun _ => (ok304 C).bind fun _ =>
    (ok305 C).bind fun _ => (ok306 C).bind fun _ => (ok307 C).bind fun _ => (ok308 C).bind fun _ => (ok309 C).bind fun _ => (ok310 C).bind fun _ =>
    (ok311 C).bind fun _ => (ok312 C).bind fun _ => (ok313 C).bind fun _ => (ok314 C).bind fun _ => (ok315 C).bind fun _ => (ok316 C).bind fun _ =>
    (ok317 C).bind fun _ => (ok318 C).bind fun _ => (ok319 C).bind fun _ => (ok320 C).bind fun _ => (ok321 C).bind fun _ => (ok322 C).bind fun _ =>
    (ok323 C).bind fun _ => (ok324 C).bind fun _ => (ok325 C).bind fun _ => (ok326 C).bind fun _ => (ok327 C).bind fun _ => (ok328 C).bind fun _ =>
    (ok329 C).bind fun _ => C.l14 fun _ => .ret _

theorem okBody {S : sProp 𝕄} (C : Ctx c S a3 a4 a5 a6 a7 a8 a9 a10 a11 a12 a13 a14) :
    Fine D c S (cc0_moba_attn (F := F) i a3 h3 a4 h4 a5 h5 a6 h6 a7 h7 a8 h8 a9 h9 a10 h10 a11 h11 a12 h12 a13 h13 a14 h14) := by
  unfold cc0_moba_attn
  with_reducible
   exact
    (ok330 C).bind fun _ => (ok331 C).bind fun _ => (ok332 C).bind fun _ => C.l14 fun _ => C.l14 fun _ => C.l10 fun _ => C.s10 fun _ => .ret _

end Cert.Kernel2Ideal.Attn

end
-- ==== Proof.Attn.Frame.lean ====
/- The frame of the attention kernel: it runs, its arguments end unchanged and every counter ends at zero. Of its output
   nothing is stated here, so the body is run by `okBody` beside the arrays it is called with. -/
module

public import proofs.«01_k».proof.Proof.Gen.Kernel2Ideal.Frame
public import proofs.«01_k».proof.Proof.Attn.PartsB

@[expose] public section

set_option maxRecDepth 16384

noncomputable section

namespace Cert.Kernel2Ideal.Attn

open Cert.Attn
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window of which nothing is said: the output's. -/
def unsaid : Fin 8 → Bool := fun w => w.val == 7

/-- The proof data: every input's block as the region finds it, nothing of the output, and of the scratch that it is there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body runs beside at a point: the seven blocks, the output block at anything, the scratch at anything. -/
def held (c : Dev nD) (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ X, owns (c : Thread nD τ) (st0_7 t) fullShare X)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem held_ctx (c : Dev nD) (t : Fin cfg0.N) :
    Ctx c (held m c t) (win0_0.stage (cfg0.slots t 0)) (win0_1.stage (cfg0.slots t 1)) (win0_2.stage (cfg0.slots t 2)) (win0_3.stage (cfg0.slots t 3))
      (win0_4.stage (cfg0.slots t 4)) (win0_5.stage (cfg0.slots t 5)) (win0_6.stage (cfg0.slots t 6)) (win0_7.stage (cfg0.slots t 7))
      (Memref.whole cc0_scratch0) (Memref.whole cc0_scratch1) (Memref.whole cc0_scratch2) (Memref.whole cc0_scratch3) where
  r3 := .here .owned
  r4 := .there <| .here .owned
  r5 := .there <| .there <| .here .owned
  r6 := .there <| .there <| .there <| .here .owned
  r7 := .there <| .there <| .there <| .there <| .here .owned
  r8 := .there <| .there <| .there <| .there <| .there <| .here .owned
  r9 := .there <| .there <| .there <| .there <| .there <| .there <| .here .owned
  w10 := .there <| .there <| .there <| .there <| .there <| .there <| .there <| .here .owned
  w11 := .there <| .there <| .there <| .there <| .there <| .there <| .there <| .there <| .here .held
  w12 := .there <| .there <| .there <| .there <| .there <| .there <| .there <| .there <| .there <| .here .held
  w13 := .there <| .there <| .there <| .there <| .there <| .there <| .there <| .there <| .there <| .there <| .here .held
  w14 := .there <| .there <| .there <| .there <| .there <| .there <| .there <| .there <| .there <| .there <| .there .held

/-- The body at a point. -/
theorem held_body (c : Dev nD) (t : Fin cfg0.N) :
    held m c t ⊢ wp frame (wpE (defs₀ (F := F)) Variants.none c none) Set.univ (bodyAt0 t) (fun _ => held m c t) :=
  okBody (held_ctx m c t)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

theorem owes_next (c : Dev nD) (t : Fin cfg0.N) : (dats m 0 c).owesAt () t.castSucc ⊢ ((dats m 0 c).owesAt () t.succ : sProp 𝕄) := by
  unfold Dat.owesAt Pipeline.owesWithin
  rw [show (dats m 0 c).owed t.castSucc = 0 from rfl, show (dats m 0 c).owed t.succ = 0 from rfl]
  iintro ⟨%W, -, HW⟩
  iexists W
  isplitr; · ipureintro; exact fun _ _ => Or.inl trivial
  iexact HW

/-- The body is called with what it runs beside and with what it does not touch. -/
theorem pre_held (c : Dev nD) (t : Fin cfg0.N) :
    bodyPre m c t ⊢ iprop(held m c t ∗ (∃ r, prngReg c r) ∗ (dats m 0 c).owesAt () t.castSucc) := by
  unfold bodyPre held
  simp only [before_0, before_1, before_2, before_3, before_4, before_5, before_6]
  rw [show (dats m 0 c).Φ t.castSucc = Pipeline.ΦA spec0 c from rfl]
  unfold Pipeline.ΦA
  rw [scopedRest0_eq]
  iintro ⟨⟨⟨HS0, HS1, HS2, HS3⟩, Hg⟩, HW, ⟨%d0, H0⟩, ⟨%d1, H1⟩, ⟨%d2, H2⟩, ⟨%d3, H3⟩, ⟨%d4, H4⟩, ⟨%d5, H5⟩, ⟨%d6, H6⟩, H7⟩
  isplitr [Hg HW]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  isplitl [Hg]; · iexact Hg
  iexact HW

theorem held_post (c : Dev nD) (t : Fin cfg0.N) :
    iprop(held m c t ∗ (∃ r, prngReg c r) ∗ (dats m 0 c).owesAt () t.castSucc) ⊢ bodyPost m c t := by
  refine (sep_mono .rfl (sep_mono .rfl (owes_next m c t))).trans ?_
  unfold bodyPost held
  rw [after_0, after_1, after_2, after_3, after_4, after_5, after_6]
  rw [show (dats m 0 c).Φ t.succ = Pipeline.ΦA spec0 c from rfl]
  unfold Pipeline.ΦA
  rw [scopedRest0_eq]
  iintro ⟨⟨H0, H1, H2, H3, H4, H5, H6, H7, HS0, HS1, HS2, HS3⟩, Hg, HW⟩
  isplitl [HS0 HS1 HS2 HS3 Hg]
  · isplitr [Hg]
    · isplitl [HS0]; · iexact HS0
      isplitl [HS1]; · iexact HS1
      isplitl [HS2]; · iexact HS2
      iexact HS3
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) :=
  (pre_held m c t).trans <| (sep_mono (held_body m c t) .rfl).trans <| (wp_frame_r _ _ _).trans (wp_mono _ _ _ fun _ => held_post m c t)

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
/-- The launch: every input array as the region found it at the end, and every counter at zero. -/
theorem run_main : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged_of (rdats : (c : Dev nD) → Pipeline.RDat τ (Elt F) Unit ℕ (UR sig nD τ) ℕ (cfgs 0) c)
    (hA : ∀ c w, (rdats c).A w = V m c (Pipeline.arrRef spec0 w)) {r : PUnit × MemSt nD τ sig (Elt F)}
    (h : Pipeline.RDat.FramePost (cfgs 0) rdats (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 1 rfl).trans ((hA c 1).trans (V_main_arg0 m c)),
    (Pipeline.RDat.FramePost.arr_in h c 2 rfl).trans ((hA c 2).trans (V_main_arg1 m c)),
    (Pipeline.RDat.FramePost.arr_in h c 3 rfl).trans ((hA c 3).trans (V_main_arg2 m c)),
    (Pipeline.RDat.FramePost.arr_in h c 4 rfl).trans ((hA c 4).trans (V_main_arg3 m c)),
    ((h c).2 main_arg4 (Pipeline.mem_restRefs_of main_arg4 (by decide) (by decide))).trans (V_main_arg4 m c)⟩

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged_of m (fun c => (dats m 0 c).toRForget unsaid) (A_eq m) h.1, h.2⟩) (run_main m ρ)

end Cert.Kernel2Ideal.Attn

end
-- ==== Proof.Common.lean ====
/- What the hand proof of the idealized kernel shares: the launch at the resource algebra whose threads
   may copy by DMA themselves, the blocks of the input windows, the branch condition in closed form,
   and the invariant's parts one by one. -/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The main function is the region alone. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The input windows hold their blocks at every point -/

theorem beforeD_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeD_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeD_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeD_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeD_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The branch and the memrefs -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- Each window's staging memref at a point, and that it is whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x4096 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2
abbrev scM0_3 : Memref sig .tc .vmem S2x512x1024 .f32 := Memref.whole cc0_scratch3
/-- The operands left in HBM that the body copies into scratch itself, whole. -/
abbrev hbM0_0 : Memref sig .tc .hbm S512x1024 .f32 := Memref.whole main_arg5
abbrev hbM0_1 : Memref sig .tc .hbm S1024x1024 .f32 := Memref.whole main_arg6
abbrev hbM0_2 : Memref sig .tc .hbm S1024x1024 .f32 := Memref.whole main_arg7
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 16, SemLoc.dma 17] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl
/-- The HBM operands the body moves, as references: unscoped, no window's array (`Pipeline.restRefs`). -/
def H0 : Finset (Ref sig .tc) := {main_arg5, main_arg6, main_arg7}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg6) ∗ hbPt0 c hbM0_2 (V m c main_arg7)) := by
  rw [BI.bigSep_eq_bigSepL_of_eq [main_arg5, main_arg6, main_arg7] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg5) ∗ hbPt0 c hbM0_1 (V m c main_arg6) ∗ hbPt0 c hbM0_2 (V m c main_arg7))) := by
  rw [Pipeline.ΦD_eq, scopedRest0_eq, ownSems00_eq, hbmPts0_eq]; simp only [scM0_0, scM0_1, scM0_2, scM0_3, owns_whole]; try rfl

end Cert.KernelIdeal.Hand

end
-- ==== Proof.Vals.lean ====
/- What one grid point of the merge and feed-forward kernel computes, as a function of its blocks and of the three staged projections. -/
module

public import proofs.«01_k».proof.Proof.Common
public import Idealize.ShloMosaic.Lib.Pipeline.ValueKit
public import Idealize.ShloMosaic.Lib.ViewIndex

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The residual stream after the merge: the block of `x` plus the gated sum of the two projections, projected. -/
def mid (x0 : Vec F S512x1024 .f32) (x1 : Vec F S512x512 .bf16) (x2 x3 x4 : Vec F S512x1024 .bf16) (x5 : Vec F S2x1024 .f32)
    (pa : Vec F S512x1024 .bf16) (pr wo : Vec F S1024x1024 .bf16) : FVec F S512x1024 .f32 :=
  k0_pay7 x1 pa x2 pr x3 (View.ld x5 (Rect.unit (s := S2x1024) ![0, 0] S1x1024.size inb_S2x1024_S1x1024_0_0)) x4
    (View.ld x5 (Rect.unit (s := S2x1024) ![1, 0] S1x1024.size inb_S2x1024_S1x1024_1_0)) x0 wo

/-- Its rows' sums of squares. -/
def ssq (x0 : Vec F S512x1024 .f32) (x1 : Vec F S512x512 .bf16) (x2 x3 x4 : Vec F S512x1024 .bf16) (x5 : Vec F S2x1024 .f32)
    (pa : Vec F S512x1024 .bf16) (pr wo : Vec F S1024x1024 .bf16) : FVec F S512x1 .f32 :=
  k0_pay8 x1 pa x2 pr x3 (View.ld x5 (Rect.unit (s := S2x1024) ![0, 0] S1x1024.size inb_S2x1024_S1x1024_0_0)) x4
    (View.ld x5 (Rect.unit (s := S2x1024) ![1, 0] S1x1024.size inb_S2x1024_S1x1024_1_0)) x0 wo

/-- The feed-forward half of a point, from the residual stream and its rows' sums of squares. -/
def ffn (v28 : FVec F S512x1024 .f32) (v31 : FVec F S512x1 .f32) (x6 : Vec F S1x1024 .f32) (x7 : Vec F S1024x4096 .bf16)
    (x8 : Vec F S4096x1024 .bf16) : FVec F S512x1024 .f32 :=
  k0_pay1 (k0_pay9 v28 v31 x6)
    (k0_pay10 v28 v31 x6
      (View.ld x7 (Rect.unit (s := S1024x4096) ![0, 0] S1024x1024.size inb_S1024x4096_S1024x1024_0_0))
      (View.ld x8 (Rect.unit (s := S4096x1024) ![0, 0] S1024x1024.size inb_S4096x1024_S1024x1024_0_0))
      (View.ld x7 (Rect.unit (s := S1024x4096) ![0, 1024] S1024x1024.size inb_S1024x4096_S1024x1024_0_1024))
      (View.ld x8 (Rect.unit (s := S4096x1024) ![1024, 0] S1024x1024.size inb_S4096x1024_S1024x1024_1024_0)))
    (k0_pay11 v28 v31 x6 (View.ld x7 (Rect.unit (s := S1024x4096) ![0, 2048] S1024x1024.size inb_S1024x4096_S1024x1024_0_2048)))
    (View.ld x8 (Rect.unit (s := S4096x1024) ![2048, 0] S1024x1024.size inb_S4096x1024_S1024x1024_2048_0))
    (View.ld x7 (Rect.unit (s := S1024x4096) ![0, 3072] S1024x1024.size inb_S1024x4096_S1024x1024_0_3072))
    (View.ld x8 (Rect.unit (s := S4096x1024) ![3072, 0] S1024x1024.size inb_S4096x1024_S1024x1024_3072_0))

/-- What a point leaves in the output block. -/
def outV (x0 : Vec F S512x1024 .f32) (x1 : Vec F S512x512 .bf16) (x2 x3 x4 : Vec F S512x1024 .bf16) (x5 : Vec F S2x1024 .f32)
    (x6 : Vec F S1x1024 .f32) (x7 : Vec F S1024x4096 .bf16) (x8 : Vec F S4096x1024 .bf16)
    (pa : Vec F S512x1024 .bf16) (pr wo : Vec F S1024x1024 .bf16) : FVec F S512x1024 .f32 :=
  ffn (mid x0 x1 x2 x3 x4 x5 pa pr wo) (ssq x0 x1 x2 x3 x4 x5 pa pr wo) x6 x7 x8

theorem outV_of {y : FVec F S512x1024 .f32} {x0 : Vec F S512x1024 .f32} {x1 : Vec F S512x512 .bf16} {x2 x3 x4 : Vec F S512x1024 .bf16}
    {x5 : Vec F S2x1024 .f32} {x6 : Vec F S1x1024 .f32} {x7 : Vec F S1024x4096 .bf16} {x8 : Vec F S4096x1024 .bf16}
    {pa pa' : Vec F S512x1024 .bf16} {pr pr' wo wo' : Vec F S1024x1024 .bf16} (hy : y = outV x0 x1 x2 x3 x4 x5 x6 x7 x8 pa pr wo)
    (h0 : pa = pa') (h1 : pr = pr') (h2 : wo = wo') : y = outV x0 x1 x2 x3 x4 x5 x6 x7 x8 pa' pr' wo' := by
  subst h0 h1 h2; exact hy

/-- A staged projection: the array as launched, narrowed. -/
def narrow {s : Shape} (f : FVec F s .f32) : FVec F s .bf16 := truncf .bf16 f bitsLt_bf16_f32

/-- A load off a memref whose contents read `X` is a read of `X`. -/
theorem readAt_of {sp : Space} {s : Shape} {e : EltTy} {b : Memref sig .tc sp s e} (h : b.IsWhole) (X : s.Idx → Elt F e) (r : Rect s) :
    b.view.readAt (Elt F) r.toLoadRect (h.unread X) = View.ld X r := by
  show View.ld (b.view.read (Elt F) (h.unread X)) r = _
  rw [h.read_unread]

end Cert.KernelIdeal.Hand

end
-- ==== Proof.Row.lean ====
/- One token of the merge and feed-forward, over the extended reals, as a function of that token's rows and of the weights. -/
module

public import Idealize.ShloMosaic.Lib.Pointwise
public import Idealize.ShloMosaic.Lib.IdealHost

@[expose] public section

set_option maxRecDepth 16384

noncomputable section

namespace Cert.Row

open Idealize.ShloMosaic
open scoped BigOperators

/-- A row of real-valued numbers of length `n`. -/
abbrev Vc (n : Nat) : Type := Fin n → EReal
/-- A matrix of them. -/
abbrev Mx (n k : Nat) : Type := Fin n → Fin k → EReal

/-- Row `r` of a two-axis array. -/
def rw2 {a b : Nat} (x : (⟨2, ![a, b]⟩ : Shape).Idx → EReal) (r : Fin a) : Vc b := fun j => x (ix2 r j)

/-- An index by its two coordinates. -/
theorem ix2_of {a b : Nat} (i : (⟨2, ![a, b]⟩ : Shape).Idx) (r : Fin a) (j : Fin b) (h0 : (i 0).val = r.val) (h1 : (i 1).val = j.val) : i = ix2 r j := by
  funext d
  match d with
  | ⟨0, _⟩ => exact Fin.ext h0
  | ⟨1, _⟩ => exact Fin.ext h1

/-- The first and the second half of the gates' columns. -/
def lo (j : Fin 1024) : Fin 2048 := ⟨j.val, by omega⟩
def hi (j : Fin 1024) : Fin 2048 := ⟨1024 + j.val, by omega⟩

/-- A projected row under its sigmoid gate. -/
def gated {n : Nat} (g b : Vc 1024) (o : Vc n) (p : Mx n 1024) (k : Fin 1024) : EReal :=
  Ideal.logistic (g k + b k) * ∑ i, o i * p i k

/-- The residual stream after the merge. -/
def mid (x : Vc 1024) (oa : Vc 512) (orr g0 g1 b0 b1 : Vc 1024) (pa : Mx 512 1024) (pr wo : Mx 1024 1024) (j : Fin 1024) : EReal :=
  x j + ∑ k, (gated g0 b0 oa pa k + gated g1 b1 orr pr k) * wo k j

/-- Its root-mean-square norm, scaled by the weight. -/
def normed (s w : Vc 1024) (k : Fin 1024) : EReal :=
  s k * Ideal.rsqrt (Ideal.div (∑ i, s i * s i) (Ideal.ofBits .f32 0x44800000#32) + Ideal.ofBits .f32 0x358637BD#32) * w k

/-- The squared rectified hidden unit `q`. -/
def hid {n : Nat} (h : Vc 1024) (w1 : Mx 1024 n) (q : Fin n) : EReal :=
  max (∑ k, h k * w1 k q) 0 * max (∑ k, h k * w1 k q) 0

/-- The layer's output row. -/
def out (s w : Vc 1024) (w1 : Mx 1024 4096) (w2 : Mx 4096 1024) (j : Fin 1024) : EReal :=
  s j + ∑ q, hid (normed s w) w1 q * w2 q j

/-- Position `i` of the chunk of 1024 that begins at `o`. -/
def at' (o : Nat) (ho : o + 1024 ≤ 4096) (i : Fin 1024) : Fin 4096 := ⟨o + i.val, by omega⟩

/-- A sum over the 4096 hidden units, chunk by chunk. -/
theorem sum_chunks (f : Vc 4096) :
    ∑ q, f q = ∑ i, f (at' 0 (by omega) i) + ∑ i, f (at' 1024 (by omega) i) + ∑ i, f (at' 2048 (by omega) i)
      + ∑ i, f (at' 3072 (by omega) i) := by
  have e := Fin.sum_univ_add (a := 3072) (b := 1024) f
  rw [Fin.sum_univ_add (a := 2048) (b := 1024), Fin.sum_univ_add (a := 1024) (b := 1024)] at e
  refine e.trans ?_
  refine congrArg₂ (· + ·) (congrArg₂ (· + ·) (congrArg₂ (· + ·) ?_ ?_) ?_) ?_ <;>
    refine Finset.sum_congr rfl fun i _ => congrArg f (Fin.ext ?_) <;> simp [at', Nat.add_comm]

/-- The output row as the four chunks added one after the other. -/
theorem out_chunks (s w : Vc 1024) (w1 : Mx 1024 4096) (w2 : Mx 4096 1024) (j : Fin 1024) :
    out s w w1 w2 j = s j + ∑ i, hid (normed s w) (fun k i => w1 k (at' 0 (by omega) i)) i * w2 (at' 0 (by omega) i) j
      + ∑ i, hid (normed s w) (fun k i => w1 k (at' 1024 (by omega) i)) i * w2 (at' 1024 (by omega) i) j
      + ∑ i, hid (normed s w) (fun k i => w1 k (at' 2048 (by omega) i)) i * w2 (at' 2048 (by omega) i) j
      + ∑ i, hid (normed s w) (fun k i => w1 k (at' 3072 (by omega) i)) i * w2 (at' 3072 (by omega) i) j := by
  unfold out
  rw [sum_chunks (fun q => hid (normed s w) w1 q * w2 q j)]
  simp only [add_assoc]
  rfl

end Cert.Row

end
-- ==== Proof.Point.lean ====
/- One block of the kernel read at an index, over the extended reals. -/
module

public import proofs.«01_k».proof.Proof.Vals
public import proofs.«01_k».proof.Proof.Row
public import Idealize.ShloMosaic.Lib.Pointwise
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe
open Cert.Row (rw2 ix2_of)
open scoped BigOperators

theorem pay7_apply (v3 : Vec Ideal S512x512 .bf16) (v4 : Vec Ideal S512x1024 .bf16) (v6 : Vec Ideal S512x1024 .bf16) (v7 : Vec Ideal S1024x1024 .bf16)
    (v9 : Vec Ideal S512x1024 .bf16) (v11 : Vec Ideal S1x1024 .f32) (v15 : Vec Ideal S512x1024 .bf16) (v17 : Vec Ideal S1x1024 .f32)
    (v25 : Vec Ideal S512x1024 .f32) (v26 : Vec Ideal S1024x1024 .bf16) (r : Fin 512) (j : Fin 1024) :
    k0_pay7 v3 v4 v6 v7 v9 v11 v15 v17 v25 v26 (ix2 r j)
      = Row.mid (rw2 v25 r) (rw2 v3 r) (rw2 v6 r) (rw2 v9 r) (rw2 v15 r) (rw2 v11 0) (rw2 v17 0) (rw2 v4) (rw2 v7) (rw2 v26) j := by
  unfold k0_pay7
  simp only [pointwise, zero_add]
  rfl

theorem pay8_apply (v3 : Vec Ideal S512x512 .bf16) (v4 : Vec Ideal S512x1024 .bf16) (v6 : Vec Ideal S512x1024 .bf16) (v7 : Vec Ideal S1024x1024 .bf16)
    (v9 : Vec Ideal S512x1024 .bf16) (v11 : Vec Ideal S1x1024 .f32) (v15 : Vec Ideal S512x1024 .bf16) (v17 : Vec Ideal S1x1024 .f32)
    (v25 : Vec Ideal S512x1024 .f32) (v26 : Vec Ideal S1024x1024 .bf16) (r : Fin 512) :
    k0_pay8 v3 v4 v6 v7 v9 v11 v15 v17 v25 v26 (ix2 r 0)
      = ∑ k, rw2 (k0_pay7 v3 v4 v6 v7 v9 v11 v15 v17 v25 v26) r k * rw2 (k0_pay7 v3 v4 v6 v7 v9 v11 v15 v17 v25 v26) r k := by
  unfold k0_pay8
  simp only [pointwise]
  rfl

theorem pay9_apply (v28 : Vec Ideal S512x1024 .f32) (v31 : Vec Ideal S512x1 .f32) (x6 : Vec Ideal S1x1024 .f32) (r : Fin 512)
    (h : v31 (ix2 r 0) = ∑ k, rw2 v28 r k * rw2 v28 r k) : rw2 (k0_pay9 v28 v31 x6) r = Row.normed (rw2 v28 r) (rw2 x6 0) := by
  funext j
  show k0_pay9 v28 v31 x6 (ix2 r j) = _
  have e : k0_pay9 v28 v31 x6 (ix2 r j) = rw2 v28 r j * Ideal.rsqrt (Ideal.div (v31 (ix2 r 0)) (Ideal.ofBits .f32 0x44800000#32)
      + Ideal.ofBits .f32 0x358637BD#32) * rw2 x6 0 j := by
    unfold k0_pay9
    simp only [pointwise]
    rfl
  rw [e, h]
  rfl

theorem pay11_apply (v28 : Vec Ideal S512x1024 .f32) (v31 : Vec Ideal S512x1 .f32) (x6 : Vec Ideal S1x1024 .f32) (w : Vec Ideal S1024x1024 .bf16)
    (r : Fin 512) (j : Fin 1024) : k0_pay11 v28 v31 x6 w (ix2 r j) = Row.hid (rw2 (k0_pay9 v28 v31 x6) r) (rw2 w) j := by
  unfold k0_pay11
  simp only [pointwise, zero_add]
  rfl

theorem pay10_apply (v28 : Vec Ideal S512x1024 .f32) (v31 : Vec Ideal S512x1 .f32) (x6 : Vec Ideal S1x1024 .f32) (w w' u u' : Vec Ideal S1024x1024 .bf16)
    (r : Fin 512) (j : Fin 1024) : k0_pay10 v28 v31 x6 w w' u u' (ix2 r j)
      = rw2 v28 r j + ∑ i, Row.hid (rw2 (k0_pay9 v28 v31 x6) r) (rw2 w) i * rw2 w' i j
        + ∑ i, Row.hid (rw2 (k0_pay9 v28 v31 x6) r) (rw2 u) i * rw2 u' i j := by
  unfold k0_pay10
  simp only [pointwise, zero_add]
  rfl

theorem pay1_apply (h : Vec Ideal S512x1024 .bf16) (acc : Vec Ideal S512x1024 .f32) (a : Vec Ideal S512x1024 .bf16) (w' u u' : Vec Ideal S1024x1024 .bf16)
    (r : Fin 512) (j : Fin 1024) : k0_pay1 h acc a w' u u' (ix2 r j)
      = acc (ix2 r j) + ∑ i, a (ix2 r i) * rw2 w' i j + ∑ i, Row.hid (rw2 h r) (rw2 u) i * rw2 u' i j := by
  unfold k0_pay1
  simp only [pointwise, zero_add]
  rfl

/-- A chunk of the first weight's columns, -/
theorem ld_w1 (x : Vec Ideal S1024x4096 .bf16) (o : Nat) (ho : o + 1024 ≤ 4096) (inb) :
    rw2 (View.ld x (Rect.unit (s := S1024x4096) ![0, o] S1024x1024.size inb)) = fun k i => rw2 x k (Row.at' o ho i) := by
  funext k i
  refine View.ld_unit_apply_of x _ _ _ _ _ fun a => ?_
  match a with
  | ⟨0, _⟩ => exact (Nat.zero_add _).symm
  | ⟨1, _⟩ => rfl

/-- and of the second weight's rows. -/
theorem ld_w2 (x : Vec Ideal S4096x1024 .bf16) (o : Nat) (ho : o + 1024 ≤ 4096) (inb) :
    rw2 (View.ld x (Rect.unit (s := S4096x1024) ![o, 0] S1024x1024.size inb)) = fun i j => rw2 x (Row.at' o ho i) j := by
  funext i j
  refine View.ld_unit_apply_of x _ _ _ _ _ fun a => ?_
  match a with
  | ⟨0, _⟩ => rfl
  | ⟨1, _⟩ => exact (Nat.zero_add _).symm

theorem ld_b0 (x : Vec Ideal S2x1024 .f32) (inb) :
    rw2 (View.ld x (Rect.unit (s := S2x1024) ![0, 0] S1x1024.size inb)) 0 = rw2 x 0 := by
  funext j
  refine View.ld_unit_apply_of x _ _ _ _ _ fun a => ?_
  match a with
  | ⟨0, _⟩ => rfl
  | ⟨1, _⟩ => exact (Nat.zero_add _).symm

theorem ld_b1 (x : Vec Ideal S2x1024 .f32) (inb) :
    rw2 (View.ld x (Rect.unit (s := S2x1024) ![1, 0] S1x1024.size inb)) 0 = rw2 x 1 := by
  funext j
  refine View.ld_unit_apply_of x _ _ _ _ _ fun a => ?_
  match a with
  | ⟨0, _⟩ => rfl
  | ⟨1, _⟩ => exact (Nat.zero_add _).symm

/-- What a point leaves in the output block, row by row. -/
theorem outV_apply (x0 : Vec Ideal S512x1024 .f32) (x1 : Vec Ideal S512x512 .bf16) (x2 x3 x4 : Vec Ideal S512x1024 .bf16) (x5 : Vec Ideal S2x1024 .f32)
    (x6 : Vec Ideal S1x1024 .f32) (x7 : Vec Ideal S1024x4096 .bf16) (x8 : Vec Ideal S4096x1024 .bf16)
    (pa : Vec Ideal S512x1024 .bf16) (pr wo : Vec Ideal S1024x1024 .bf16) (r : Fin 512) (j : Fin 1024) :
    outV x0 x1 x2 x3 x4 x5 x6 x7 x8 pa pr wo (ix2 r j)
      = Row.out (Row.mid (rw2 x0 r) (rw2 x1 r) (rw2 x2 r) (rw2 x3 r) (rw2 x4 r) (rw2 x5 0) (rw2 x5 1) (rw2 pa) (rw2 pr) (rw2 wo))
          (rw2 x6 0) (rw2 x7) (rw2 x8) j := by
  have hm : rw2 (mid x0 x1 x2 x3 x4 x5 pa pr wo) r
      = Row.mid (rw2 x0 r) (rw2 x1 r) (rw2 x2 r) (rw2 x3 r) (rw2 x4 r) (rw2 x5 0) (rw2 x5 1) (rw2 pa) (rw2 pr) (rw2 wo) := by
    funext j
    refine (pay7_apply _ _ _ _ _ _ _ _ _ _ r j).trans ?_
    rw [ld_b0, ld_b1]
  have hs : ssq x0 x1 x2 x3 x4 x5 pa pr wo (ix2 r 0) = ∑ k, rw2 (mid x0 x1 x2 x3 x4 x5 pa pr wo) r k * rw2 (mid x0 x1 x2 x3 x4 x5 pa pr wo) r k :=
    pay8_apply _ _ _ _ _ _ _ _ _ _ r
  rw [Row.out_chunks, ← hm]
  unfold outV
  generalize mid x0 x1 x2 x3 x4 x5 pa pr wo = s at hs ⊢
  generalize ssq x0 x1 x2 x3 x4 x5 pa pr wo = q at hs ⊢
  unfold ffn
  rw [pay1_apply, pay10_apply]
  simp only [pay11_apply]
  rw [pay9_apply s q x6 r hs, ld_w1 x7 0 (by omega), ld_w1 x7 1024 (by omega), ld_w1 x7 2048 (by omega), ld_w1 x7 3072 (by omega),
    ld_w2 x8 0 (by omega), ld_w2 x8 1024 (by omega), ld_w2 x8 2048 (by omega), ld_w2 x8 3072 (by omega)]

end Cert.KernelIdeal.Hand

end
-- ==== Proof.Stage.lean ====
/- The staging buffer: what its two slots read after the copies into them, and the scratch arrays read back whole. -/
module

public import proofs.«01_k».proof.Proof.Vals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A slot read after a copy into it: the payload, re-indexed. -/
theorem stage_same {sp : Space} {s s' : Shape} {e : EltTy} (v : View sig .tc sp s e) (r : Rect s) (h : s'.numel = r.shape.numel)
    (f : v.ty.Contents (Elt F)) (w : s'.Idx → Elt F e) :
    v.readAt (Elt F) r.toLoadRect (((v.slice r).reshape s' h).write (Elt F) f w Finset.univ)
      = fun x => w ((Shape.reshapeEquiv h).symm x) := by
  show (v.slice r).read (Elt F) (((v.slice r).reshape s' h).write (Elt F) f w Finset.univ) = _
  rw [View.write_reshape_univ, View.read_write_univ]

/-- A slot read after a copy into a slot apart from it. -/
theorem stage_other {sp : Space} {s s' : Shape} {e : EltTy} (v : View sig .tc sp s e) (r r' : Rect s) (h : s'.numel = r'.shape.numel)
    (hd : Disjoint r.set r'.set) (f : v.ty.Contents (Elt F)) (w : s'.Idx → Elt F e) :
    v.readAt (Elt F) r.toLoadRect (((v.slice r').reshape s' h).write (Elt F) f w Finset.univ) = v.readAt (Elt F) r.toLoadRect f := by
  show (v.slice r).read (Elt F) (((v.slice r').reshape s' h).write (Elt F) f w Finset.univ) = _
  rw [View.write_reshape_univ]
  exact View.read_slice_write_slice_of_disjoint _ _ _ _ _ (by
    rw [View.setOn_univ, View.set_slice, View.set_slice]; exact (Finset.disjoint_map _).mpr hd)

theorem stage_01 {sp : Space} (v : View sig .tc sp S2x512x1024 .f32) (h) (f : v.ty.Contents (Elt F)) (w : S512x1024.Idx → Elt F .f32) :
    v.readAt (Elt F) (Rect.unit (s := S2x512x1024) ![0, 0, 0] (no_index S1x512x1024.size) inb_S2x512x1024_S1x512x1024_0_0_0).toLoadRect
        (((v.slice (Rect.unit (s := S2x512x1024) ![1, 0, 0] (no_index S1x512x1024.size) inb_S2x512x1024_S1x512x1024_1_0_0)).reshape S512x1024 h).write
          (Elt F) f w Finset.univ)
      = v.readAt (Elt F) (Rect.unit (s := S2x512x1024) ![0, 0, 0] S1x512x1024.size inb_S2x512x1024_S1x512x1024_0_0_0).toLoadRect f :=
  stage_other v _ _ h (Rect.unit_disjoint 0 (by decide)) f w

theorem stage_10 {sp : Space} (v : View sig .tc sp S2x512x1024 .f32) (h) (f : v.ty.Contents (Elt F)) (w : S512x1024.Idx → Elt F .f32) :
    v.readAt (Elt F) (Rect.unit (s := S2x512x1024) ![1, 0, 0] (no_index S1x512x1024.size) inb_S2x512x1024_S1x512x1024_1_0_0).toLoadRect
        (((v.slice (Rect.unit (s := S2x512x1024) ![0, 0, 0] (no_index S1x512x1024.size) inb_S2x512x1024_S1x512x1024_0_0_0)).reshape S512x1024 h).write
          (Elt F) f w Finset.univ)
      = v.readAt (Elt F) (Rect.unit (s := S2x512x1024) ![1, 0, 0] S1x512x1024.size inb_S2x512x1024_S1x512x1024_1_0_0).toLoadRect f :=
  stage_other v _ _ h (Rect.unit_disjoint 0 (by decide)) f w

/-- A slab as a slot holds it: the leading axis of one put back. -/
def slab (w : S512x1024.Idx → Elt F .f32) : Vec F S1x512x1024 .f32 :=
  fun x => w ((Shape.reshapeEquiv squeezes_S1x512x1024_S512x1024.numel_eq).symm x)

theorem stage_00 {sp : Space} (v : View sig .tc sp S2x512x1024 .f32) (h) (f : v.ty.Contents (Elt F)) (w : S512x1024.Idx → Elt F .f32) :
    v.readAt (Elt F) (Rect.unit (s := S2x512x1024) ![0, 0, 0] (no_index S1x512x1024.size) inb_S2x512x1024_S1x512x1024_0_0_0).toLoadRect
        (((v.slice (Rect.unit (s := S2x512x1024) ![0, 0, 0] (no_index S1x512x1024.size) inb_S2x512x1024_S1x512x1024_0_0_0)).reshape S512x1024 h).write
          (Elt F) f w Finset.univ) = slab w :=
  stage_same v _ h f w

theorem stage_11 {sp : Space} (v : View sig .tc sp S2x512x1024 .f32) (h) (f : v.ty.Contents (Elt F)) (w : S512x1024.Idx → Elt F .f32) :
    v.readAt (Elt F) (Rect.unit (s := S2x512x1024) ![1, 0, 0] (no_index S1x512x1024.size) inb_S2x512x1024_S1x512x1024_1_0_0).toLoadRect
        (((v.slice (Rect.unit (s := S2x512x1024) ![1, 0, 0] (no_index S1x512x1024.size) inb_S2x512x1024_S1x512x1024_1_0_0)).reshape S512x1024 h).write
          (Elt F) f w Finset.univ) = slab w :=
  stage_same v _ h f w

theorem pay2_at (w : S512x1024.Idx → Elt F .f32) : k0_pay2 (slab w) = narrow w := by
  unfold k0_pay2 slab
  funext j
  simp only [shapeCast, truncf, narrow, Equiv.symm_apply_apply, Shape.reshapeEquiv_self]

theorem pay3_at (w : S512x1024.Idx → Elt F .f32) : k0_pay3 (slab w) = narrow w := pay2_at w
theorem pay4_at (w : S512x1024.Idx → Elt F .f32) : k0_pay4 (slab w) = narrow w := pay2_at w
theorem pay5_at (w : S512x1024.Idx → Elt F .f32) : k0_pay5 (slab w) = narrow w := pay2_at w
theorem pay6_at (w : S512x1024.Idx → Elt F .f32) : k0_pay6 (slab w) = narrow w := pay2_at w

/-- The two halves of an array, stored one after the other, read back as the array. -/
theorem two_halves {sp : Space} {e : EltTy} (v : View sig .tc sp S1024x1024 e) (f : v.ty.Contents (Elt F)) (X : S1024x1024.Idx → Elt F e)
    (w1 w0 : S512x1024.Idx → Elt F e)
    (h1 : ∀ y, w1 y = X ((Rect.unit (s := S1024x1024) ![512, 0] S512x1024.size inb_S1024x1024_S512x1024_512_0).emb y))
    (h0 : ∀ y, w0 y = X ((Rect.unit (s := S1024x1024) ![0, 0] S512x1024.size inb_S1024x1024_S512x1024_0_0).emb y)) :
    v.read (Elt F) (v.writes (Elt F) f
      [⟨Rect.unit (s := S1024x1024) ![512, 0] S512x1024.size inb_S1024x1024_S512x1024_512_0, w1⟩,
       ⟨Rect.unit (s := S1024x1024) ![0, 0] S512x1024.size inb_S1024x1024_S512x1024_0_0, w0⟩]) = X := by
  funext j
  refine View.read_writes_apply_of_pieces v f X _ ?_ j ?_
  · intro p hp
    rcases List.mem_cons.mp hp with rfl | hp
    · exact h1
    · obtain rfl := List.mem_singleton.mp hp
      exact h0
  · have hj0 : (j 0).val < 1024 := (j 0).isLt
    have hj1 : (j 1).val < 1024 := (j 1).isLt
    by_cases h : (j 0).val < 512
    · refine ⟨_, List.mem_cons_of_mem _ (List.mem_singleton.mpr rfl), ?_⟩
      refine (Rect.mem_set_unit (inb := inb_S1024x1024_S512x1024_0_0)).mpr fun a => ?_
      fin_cases a
      · exact ⟨Nat.zero_le _, by show (j 0).val < 0 + 512; omega⟩
      · exact ⟨Nat.zero_le _, by show (j 1).val < 0 + 1024; omega⟩
    · refine ⟨_, List.mem_cons_self, ?_⟩
      refine (Rect.mem_set_unit (inb := inb_S1024x1024_S512x1024_512_0)).mpr fun a => ?_
      fin_cases a
      · exact ⟨by show 512 ≤ (j 0).val; omega, by show (j 0).val < 512 + 512; omega⟩
      · exact ⟨Nat.zero_le _, by show (j 1).val < 0 + 1024; omega⟩

/-- A staged projection loaded whole after its two halves were stored: the array it was copied from, narrowed. -/
theorem load_halves {sp sp' : Space} (v : View sig .tc sp S1024x1024 .bf16) (M : View sig .tc sp' S1024x1024 .f32)
    (fh : M.ty.Contents (Elt F)) (inb) :
    v.readCov (Val := Elt F)
      [⟨Rect.unit (s := S1024x1024) ![512, 0] (no_index S512x1024.size) inb_S1024x1024_S512x1024_512_0, narrow (ReadAs.same.apply ((M.slice (Rect.unit (s := S1024x1024) ![512, 0] (no_index S512x1024.size) inb_S1024x1024_S512x1024_512_0)).read (Elt F) fh))⟩,
       ⟨Rect.unit (s := S1024x1024) ![0, 0] (no_index S512x1024.size) inb_S1024x1024_S512x1024_0_0, narrow (ReadAs.same.apply ((M.slice (Rect.unit (s := S1024x1024) ![0, 0] (no_index S512x1024.size) inb_S1024x1024_S512x1024_0_0)).read (Elt F) fh))⟩]
      (Rect.unit (s := S1024x1024) ![0, 0] (no_index S1024x1024.size) inb).toLoadRect = narrow (M.read (Elt F) fh) :=
  (View.readAt_full v _ inb).trans (two_halves v _ _ _ _ (fun _ => rfl) fun _ => rfl)

end Cert.KernelIdeal.Hand

end
-- ==== Proof.RunA.lean ====
/- The first point: the three projections are copied in, narrowed and kept, and the body leaves the output block. -/
module

public import proofs.«01_k».proof.Proof.Stage

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
theorem runA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S2x1024 .f32) (harg6 : arg6.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S2x512x1024 .f32) (harg17 : arg17.IsWhole) (hc0 : cond0_0 i)
    (x0 : Vec F S512x1024 .f32) (x1 : Vec F S512x512 .bf16) (x2 : Vec F S512x1024 .bf16) (x3 : Vec F S512x1024 .bf16) (x4 : Vec F S512x1024 .bf16) (x5 : Vec F S2x1024 .f32) (x6 : Vec F S1x1024 .f32) (x7 : Vec F S1024x4096 .bf16) (x8 : Vec F S4096x1024 .bf16) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg10 fullShare x6 ∗ owns (c : Thread nD τ) arg11 fullShare x7 ∗ owns (c : Thread nD τ) arg12 fullShare x8 ∗ owns (c : Thread nD τ) arg13 fullShare (outV x0 x1 x2 x3 x4 x5 x6 x7 x8 (narrow (hbM0_0.view.read (Elt F) fh0)) (narrow (hbM0_1.view.read (Elt F) fh1)) (narrow (hbM0_2.view.read (Elt F) fh2))) ∗ owns (c : Thread nD τ) arg14 fullShare (narrow (hbM0_0.view.read (Elt F) fh0)) ∗ owns (c : Thread nD τ) arg15 fullShare (narrow (hbM0_1.view.read (Elt F) fh1)) ∗ owns (c : Thread nD τ) arg16 fullShare (narrow (hbM0_2.view.read (Elt F) fh2)) ∗ (∃ d, owns (c : Thread nD τ) arg17 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_merge_mlp i arg1 harg1 arg2 harg2 arg3 harg3 arg4 harg4 arg5 harg5 arg6 harg6 (Memref.whole main_arg5) (Memref.isWhole_whole _) (Memref.whole main_arg6) (Memref.isWhole_whole _) (Memref.whole main_arg7) (Memref.isWhole_whole _) arg10 harg10 arg11 harg11 arg12 harg12 arg13 harg13 arg14 harg14 arg15 harg15 arg16 harg16 arg17 harg17 cc0_scratch4) K := by
    intro W K
    simp only [cc0_merge_mlp_eq_skeleton]; unfold cc0_merge_mlp_skel
    simp only [k0_part4_eq_skeleton, k0_part1_eq_skeleton, k0_part2_eq_skeleton, k0_part3_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hq0, Hq1, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf6; obtain rfl := harg11.eq_unread hf7; obtain rfl := harg12.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; swap; · iexact H9
      ipureintro
      refine (View.read_writes_full _ _ _ _ _).trans ?_
      sl_unfold_words
      simp (disch := decide) only [readAt_of, View.ld_unit_lit, stage_00, stage_11, stage_01, stage_10, pay2_at, pay3_at, pay4_at, pay5_at, pay6_at, View.readCov_unit_lit]
      exact outV_of rfl (by exact congrArg narrow (View.readAt_full (s := S512x1024) (View.whole main_arg5) fh0 inb_S512x1024_S512x1024_0_0)) (by exact load_halves _ (View.whole main_arg6) _ _) (by exact load_halves _ (View.whole main_arg7) _ _)
    isplitl [HS0]
    · iexists _; isplitr; swap; · iexact HS0
      ipureintro
      sl_unfold_words
      simp only [stage_00, stage_11, stage_01, stage_10, pay2_at]
      exact (View.read_writes_full (s := S512x1024) _ _ inb_S512x1024_S512x1024_0_0 _ _).trans (congrArg narrow (View.readAt_full (s := S512x1024) (View.whole main_arg5) fh0 inb_S512x1024_S512x1024_0_0))
    isplitl [HS1]
    · iexists _; isplitr; swap; · iexact HS1
      ipureintro
      sl_unfold_words
      simp only [stage_00, stage_11, stage_01, stage_10, pay3_at, pay4_at]
      exact two_halves _ _ _ _ _ (fun _ => rfl) fun _ => rfl
    isplitl [HS2]
    · iexists _; isplitr; swap; · iexact HS2
      ipureintro
      sl_unfold_words
      simp only [stage_00, stage_11, stage_01, stage_10, pay5_at, pay6_at]
      exact two_halves _ _ _ _ _ (fun _ => rfl) fun _ => rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    iexists _; iexact HW

end Cert.KernelIdeal.Hand

end
-- ==== Proof.RunB.lean ====
/- A later point: the three staged projections are in scratch, and the body leaves the output block. -/
module

public import proofs.«01_k».proof.Proof.Vals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
theorem runB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S2x1024 .f32) (harg6 : arg6.IsWhole) (arg10 : Memref sig .tc .vmem S1x1024 .f32) (harg10 : arg10.IsWhole) (arg11 : Memref sig .tc .vmem S1024x4096 .bf16) (harg11 : arg11.IsWhole) (arg12 : Memref sig .tc .vmem S4096x1024 .bf16) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S2x512x1024 .f32) (harg17 : arg17.IsWhole) (hc0 : ¬cond0_0 i)
    (x0 : Vec F S512x1024 .f32) (x1 : Vec F S512x512 .bf16) (x2 : Vec F S512x1024 .bf16) (x3 : Vec F S512x1024 .bf16) (x4 : Vec F S512x1024 .bf16) (x5 : Vec F S2x1024 .f32) (x6 : Vec F S1x1024 .f32) (x7 : Vec F S1024x4096 .bf16) (x8 : Vec F S4096x1024 .bf16) (pa : Vec F S512x1024 .bf16) (pr wo : Vec F S1024x1024 .bf16) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ owns (c : Thread nD τ) arg14 fullShare pa ∗ owns (c : Thread nD τ) arg15 fullShare pr ∗ owns (c : Thread nD τ) arg16 fullShare wo ∗ (∃ d, owns (c : Thread nD τ) arg17 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg10 fullShare x6 ∗ owns (c : Thread nD τ) arg11 fullShare x7 ∗ owns (c : Thread nD τ) arg12 fullShare x8 ∗ owns (c : Thread nD τ) arg13 fullShare (outV x0 x1 x2 x3 x4 x5 x6 x7 x8 pa pr wo) ∗ owns (c : Thread nD τ) arg14 fullShare pa ∗ owns (c : Thread nD τ) arg15 fullShare pr ∗ owns (c : Thread nD τ) arg16 fullShare wo ∗ (∃ d, owns (c : Thread nD τ) arg17 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_merge_mlp i arg1 harg1 arg2 harg2 arg3 harg3 arg4 harg4 arg5 harg5 arg6 harg6 (Memref.whole main_arg5) (Memref.isWhole_whole _) (Memref.whole main_arg6) (Memref.isWhole_whole _) (Memref.whole main_arg7) (Memref.isWhole_whole _) arg10 harg10 arg11 harg11 arg12 harg12 arg13 harg13 arg14 harg14 arg15 harg15 arg16 harg16 arg17 harg17 cc0_scratch4) K := by
    intro W K
    simp only [cc0_merge_mlp_eq_skeleton]; unfold cc0_merge_mlp_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hs0, HS0⟩, ⟨%fs1, %hs1, HS1⟩, ⟨%fs2, %hs2, HS2⟩, ⟨%ds3, %fs3, -, HS3⟩, Hq0, Hq1, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf6; obtain rfl := harg11.eq_unread hf7; obtain rfl := harg12.eq_unread hf8; obtain rfl := harg14.eq_unread hs0; obtain rfl := harg15.eq_unread hs1; obtain rfl := harg16.eq_unread hs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; swap; · iexact H9
      ipureintro
      refine (View.read_writes_full _ _ _ _ _).trans ?_
      sl_unfold_words
      unfold outV ffn mid ssq
      simp (disch := decide) only [readAt_of, View.ld_unit_lit]
    isplitl [HS0]
    · iexists _; isplitr; · ipureintro; exact harg14.read_unread _
      iexact HS0
    isplitl [HS1]
    · iexists _; isplitr; · ipureintro; exact harg15.read_unread _
      iexact HS1
    isplitl [HS2]
    · iexists _; isplitr; · ipureintro; exact harg16.read_unread _
      iexact HS2
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    iexists _; iexact HW

end Cert.KernelIdeal.Hand

end
-- ==== Proof.Frame.lean ====
/- The frame of the merge and feed-forward kernel, its output block and the staged projections named point by point. -/
module

public import proofs.«01_k».proof.Proof.RunA
public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The three staged projections: the arrays as launched, narrowed. -/
def PA (c : Dev nD) : FVec F S512x1024 .bf16 := narrow (hbM0_0.view.read (Elt F) (V m c main_arg5))
def PR (c : Dev nD) : FVec F S1024x1024 .bf16 := narrow (hbM0_1.view.read (Elt F) (V m c main_arg6))
def WO (c : Dev nD) : FVec F S1024x1024 .bf16 := narrow (hbM0_2.view.read (Elt F) (V m c main_arg7))

/-- What point `t` leaves in the output block. -/
def outAt (c : Dev nD) (t : Fin cfg0.N) : FVec F S512x1024 .f32 :=
  outV (iblk m c 0 t) (iblk m c 1 t) (iblk m c 2 t) (iblk m c 3 t) (iblk m c 4 t) (iblk m c 5 t) (iblk m c 6 t) (iblk m c 7 t) (iblk m c 8 t) (PA m c) (PR m c) (WO m c)

/-- After the first point: the three scratch arrays hold the staged projections. -/
def held (c : Dev nD) : sProp 𝕄 :=
  iprop(iprop(owns (c : Thread nD τ) scM0_0 fullShare (PA m c) ∗ owns (c : Thread nD τ) scM0_1 fullShare (PR m c) ∗ owns (c : Thread nD τ) scM0_2 fullShare (WO m c) ∗ (∃ d, owns (c : Thread nD τ) scM0_3 fullShare d))
    ∗ (∃ r, prngReg c r) ∗ iprop(semVal ((c : Thread nD τ), SemLoc.dma 16) 0 ∗ semVal ((c : Thread nD τ), SemLoc.dma 17) 0) ∗ iprop(hbPt0 c hbM0_0 (V m c main_arg5) ∗ hbPt0 c hbM0_1 (V m c main_arg6) ∗ hbPt0 c hbM0_2 (V m c main_arg7)))

theorem held_forget (c : Dev nD) : held m c ⊢ (Pipeline.ΦD osem0 spec0 H0 (V m) c : sProp 𝕄) := by
  rw [PhiD0_eq]; unfold held
  iintro ⟨⟨HS0, HS1, HS2, HS3⟩, HR⟩
  isplitr [HR]
  · isplitl [HS0]; · iexists _; iexact HS0
    isplitl [HS1]; · iexists _; iexact HS1
    isplitl [HS2]; · iexists _; iexact HS2
    iexact HS3
  iexact HR

/-- The invariant: nothing of the scratch before the first point, the staged projections after it. -/
def inv (c : Dev nD) (n : Nat) : sProp 𝕄 := if n = 0 then Pipeline.ΦD osem0 spec0 H0 (V m) c else held m c

theorem inv_zero (c : Dev nD) : inv m c 0 = (Pipeline.ΦD osem0 spec0 H0 (V m) c : sProp 𝕄) := if_pos rfl
theorem inv_pos (c : Dev nD) {n : Nat} (h : n ≠ 0) : inv m c n = held m c := if_neg h

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ n := inv m c n.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]
theorem before_0 (c : Dev nD) (t : Fin cfg0.N) (d) : (dats m 0 c).before 0 t d = iblk m c 0 t :=
  beforeD_0 m (dats m 0 c) (A_eq m c 0) (after_0 m c) t d
theorem before_1 (c : Dev nD) (t : Fin cfg0.N) (d) : (dats m 0 c).before 1 t d = iblk m c 1 t :=
  beforeD_1 m (dats m 0 c) (A_eq m c 1) (after_1 m c) t d
theorem before_2 (c : Dev nD) (t : Fin cfg0.N) (d) : (dats m 0 c).before 2 t d = iblk m c 2 t :=
  beforeD_2 m (dats m 0 c) (A_eq m c 2) (after_2 m c) t d
theorem before_3 (c : Dev nD) (t : Fin cfg0.N) (d) : (dats m 0 c).before 3 t d = iblk m c 3 t :=
  beforeD_3 m (dats m 0 c) (A_eq m c 3) (after_3 m c) t d
theorem before_4 (c : Dev nD) (t : Fin cfg0.N) (d) : (dats m 0 c).before 4 t d = iblk m c 4 t :=
  beforeD_4 m (dats m 0 c) (A_eq m c 4) (after_4 m c) t d
theorem before_5 (c : Dev nD) (t : Fin cfg0.N) (d) : (dats m 0 c).before 5 t d = iblk m c 5 t :=
  beforeD_5 m (dats m 0 c) (A_eq m c 5) (after_5 m c) t d
theorem before_6 (c : Dev nD) (t : Fin cfg0.N) (d) : (dats m 0 c).before 6 t d = iblk m c 6 t :=
  beforeD_6 m (dats m 0 c) (A_eq m c 6) (after_6 m c) t d
theorem before_7 (c : Dev nD) (t : Fin cfg0.N) (d) : (dats m 0 c).before 7 t d = iblk m c 7 t :=
  beforeD_7 m (dats m 0 c) (A_eq m c 7) (after_7 m c) t d
theorem before_8 (c : Dev nD) (t : Fin cfg0.N) (d) : (dats m 0 c).before 8 t d = iblk m c 8 t :=
  beforeD_8 m (dats m 0 c) (A_eq m c 8) (after_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

theorem inv0 (c : Dev nD) (t : Fin cfg0.N) (h : t.val = 0) : (dats m 0 c).Φ t.castSucc = (Pipeline.ΦD osem0 spec0 H0 (V m) c : sProp 𝕄) := by
  show inv m c t.val = _
  rw [h, inv_zero]

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = held m c from inv_pos m c (n := t.val + 1) (Nat.succ_ne_zero _),
    after_0, after_1, after_2, after_3, after_4, after_5, after_6, after_7, after_8, after_9]
  unfold Dat.owesAt Pipeline.owesWithin
  rw [show (dats m 0 c).owed t.castSucc = 0 from rfl, show (dats m 0 c).owed t.succ = 0 from rfl]
  have hN : t.val < 64 := lt_of_lt_of_eq t.isLt (show cfg0.N = 64 from N_0)
  by_cases h0 : t.val % 64 = 0
  · rw [show (dats m 0 c).Φ t.castSucc = Pipeline.ΦD osem0 spec0 H0 (V m) c from inv0 m c t (by omega), PhiD0_eq]
    unfold held
    iintro ⟨⟨⟨HS0, HS1, HS2, HS3⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (V m c main_arg5) (V m c main_arg6) (V m c main_arg7)) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨H0, H1, H2, H3, H4, H5, H6, H7, H8, H9, HS0, HS1, HS2, HS3, Hq0, Hq1, Hh0, Hh1, Hh2, ⟨%W', HW'⟩⟩
    isplitl [HS0 HS1 HS2 HS3 Hg Hq0 Hq1 Hh0 Hh1 Hh2]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1]
      · isplitl [Hq0]; · iexact Hq0
        iexact Hq1
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).Φ t.castSucc = held m c from inv_pos m c (n := t.val) (by omega)]
    unfold held
    iintro ⟨⟨⟨HS0, HS1, HS2, HS3⟩, Hg, ⟨Hq0, Hq1⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (PA m c) (PR m c) (WO m c) (V m c main_arg5) (V m c main_arg6) (V m c main_arg7)) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [Hh2]; · iexact Hh2
    isplitl [HW]; · iexact HW
    iintro ⟨H0, H1, H2, H3, H4, H5, H6, H7, H8, H9, HS0, HS1, HS2, HS3, Hq0, Hq1, Hh0, Hh1, Hh2, ⟨%W', HW'⟩⟩
    isplitl [HS0 HS1 HS2 HS3 Hg Hq0 Hq1 Hh0 Hh1 Hh2]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1]
      · isplitl [Hq0]; · iexact Hq0
        iexact Hq1
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : (Pipeline.ΦD osem0 spec0 H0 (V m) c : sProp 𝕄) ⊢ (dats m 0 c).Φ 0 := by
  show _ ⊢ inv m c 0
  rw [inv_zero]

theorem inv_out (c : Dev nD) : (dats m 0 c).Φ (Fin.last cfg0.N) ⊢ (Pipeline.ΦD osem0 spec0 H0 (V m) c : sProp 𝕄) := by
  show inv m c cfg0.N ⊢ _
  rw [inv_pos m c (show cfg0.N ≠ 0 by rw [show cfg0.N = 64 from N_0]; decide)]
  exact held_forget m c

set_option backward.isDefEq.respectTransparency.types false in
/-- The launch, with every array named at the end and every counter at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmainD m Variants.none) (hA := A_eq m)
    (hin := inv_in m) (hout := inv_out m)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 4).trans (((dats m 0 c).arrAt_in 4 rfl _).trans (A_eq m c 4)),
      ((h.1 c).1 5).trans (((dats m 0 c).arrAt_in 5 rfl _).trans (A_eq m c 5)),
      (h.1 c).2 main_arg5 (Pipeline.mem_restRefs_of main_arg5 (by decide) (by decide)),
      (h.1 c).2 main_arg6 (Pipeline.mem_restRefs_of main_arg6 (by decide) (by decide)),
      (h.1 c).2 main_arg7 (Pipeline.mem_restRefs_of main_arg7 (by decide) (by decide)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8))⟩, h.2⟩) (run_main m ρ)

end Cert.KernelIdeal.Hand

end
-- ==== Proof.Whole.lean ====
/- The kernel's result array, over the extended reals: every row is the layer's row. -/
module

public import proofs.«01_k».proof.Proof.Point
public import proofs.«01_k».proof.Proof.Frame

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Cert.Row (rw2 ix2_of lo hi)
open scoped BigOperators

variable (m : (ℓ : Loc nD τ sig) → Buf (Elt Ideal) ℓ) (ρ : Dev nD → PrngReg)

/-- The layer's result array, of device `c`'s arguments. -/
def G (c : Dev nD) : Buf (Elt Ideal) ((c.tc : Thread nD τ).loc main_v0) := fun i =>
  Row.out (Row.mid (rw2 (V m c main_arg0) (i 0)) (rw2 (V m c main_arg1) (i 0)) (rw2 (V m c main_arg2) (i 0))
      (fun k => (V m c main_arg3 : S32768x2048.Idx → EReal) (ix2 (i 0) (lo k))) (fun k => (V m c main_arg3 : S32768x2048.Idx → EReal) (ix2 (i 0) (hi k)))
      (rw2 (V m c main_arg4) 0) (rw2 (V m c main_arg4) 1) (rw2 (V m c main_arg5)) (rw2 (V m c main_arg6)) (rw2 (V m c main_arg7)))
    (rw2 (V m c main_arg8) 0) (rw2 (V m c main_arg9)) (rw2 (V m c main_arg10)) (i 1)

/-- The blocks' offsets. -/
theorem off_row : ∀ t : Fin grid0.N, (win0_0.index t 0 * win0_0.size 0 = t.val * 512 ∧ win0_0.index t 1 * win0_0.size 1 = 0)
    ∧ (win0_1.index t 0 * win0_1.size 0 = t.val * 512 ∧ win0_1.index t 1 * win0_1.size 1 = 0)
    ∧ (win0_2.index t 0 * win0_2.size 0 = t.val * 512 ∧ win0_2.index t 1 * win0_2.size 1 = 0)
    ∧ (win0_3.index t 0 * win0_3.size 0 = t.val * 512 ∧ win0_3.index t 1 * win0_3.size 1 = 0)
    ∧ (win0_4.index t 0 * win0_4.size 0 = t.val * 512 ∧ win0_4.index t 1 * win0_4.size 1 = 1024)
    ∧ (win0_9.index t 0 * win0_9.size 0 = t.val * 512 ∧ win0_9.index t 1 * win0_9.size 1 = 0) := by decide +kernel

theorem off_whole : ∀ t : Fin grid0.N, (win0_5.index t 0 * win0_5.size 0 = 0 ∧ win0_5.index t 1 * win0_5.size 1 = 0)
    ∧ (win0_6.index t 0 * win0_6.size 0 = 0 ∧ win0_6.index t 1 * win0_6.size 1 = 0)
    ∧ (win0_7.index t 0 * win0_7.size 0 = 0 ∧ win0_7.index t 1 * win0_7.size 1 = 0)
    ∧ (win0_8.index t 0 * win0_8.size 0 = 0 ∧ win0_8.index t 1 * win0_8.size 1 = 0) := by decide +kernel

theorem t_lt (t : Fin cfg0.N) : t.val < 64 := lt_of_lt_of_eq t.isLt N_0

/-- The token that is row `r` of point `t`'s blocks. -/
def tok (t : Fin cfg0.N) (r : Fin 512) : Fin 32768 := ⟨t.val * 512 + r.val, by have := t_lt t; omega⟩

theorem blk0 (c : Dev nD) (t : Fin cfg0.N) (r : Fin 512) : rw2 (iblk m c 0 t) r = rw2 (V m c main_arg0) (tok t r) := by
  funext j
  refine congrArg (V m c main_arg0) (ix2_of _ _ _ ?_ ?_)
  · exact (Pipeline.Window.rect_emb_val win0_0 t (ix2 r j) 0).trans (congrArg (· + r.val) (off_row t).1.1)
  · exact (Pipeline.Window.rect_emb_val win0_0 t (ix2 r j) 1).trans ((congrArg (· + j.val) (off_row t).1.2).trans (Nat.zero_add _))

theorem blk1 (c : Dev nD) (t : Fin cfg0.N) (r : Fin 512) : rw2 (iblk m c 1 t) r = rw2 (V m c main_arg1) (tok t r) := by
  funext j
  refine congrArg (V m c main_arg1) (ix2_of _ _ _ ?_ ?_)
  · exact (Pipeline.Window.rect_emb_val win0_1 t (ix2 r j) 0).trans (congrArg (· + r.val) (off_row t).2.1.1)
  · exact (Pipeline.Window.rect_emb_val win0_1 t (ix2 r j) 1).trans ((congrArg (· + j.val) (off_row t).2.1.2).trans (Nat.zero_add _))

theorem blk2 (c : Dev nD) (t : Fin cfg0.N) (r : Fin 512) : rw2 (iblk m c 2 t) r = rw2 (V m c main_arg2) (tok t r) := by
  funext j
  refine congrArg (V m c main_arg2) (ix2_of _ _ _ ?_ ?_)
  · exact (Pipeline.Window.rect_emb_val win0_2 t (ix2 r j) 0).trans (congrArg (· + r.val) (off_row t).2.2.1.1)
  · exact (Pipeline.Window.rect_emb_val win0_2 t (ix2 r j) 1).trans ((congrArg (· + j.val) (off_row t).2.2.1.2).trans (Nat.zero_add _))

theorem blk3 (c : Dev nD) (t : Fin cfg0.N) (r : Fin 512) :
    rw2 (iblk m c 3 t) r = fun k => (V m c main_arg3 : S32768x2048.Idx → EReal) (ix2 (tok t r) (lo k)) := by
  funext j
  refine congrArg (V m c main_arg3) (ix2_of _ _ _ ?_ ?_)
  · exact (Pipeline.Window.rect_emb_val win0_3 t (ix2 r j) 0).trans (congrArg (· + r.val) (off_row t).2.2.2.1.1)
  · exact (Pipeline.Window.rect_emb_val win0_3 t (ix2 r j) 1).trans ((congrArg (· + j.val) (off_row t).2.2.2.1.2).trans (Nat.zero_add _))

theorem blk4 (c : Dev nD) (t : Fin cfg0.N) (r : Fin 512) :
    rw2 (iblk m c 4 t) r = fun k => (V m c main_arg3 : S32768x2048.Idx → EReal) (ix2 (tok t r) (hi k)) := by
  funext j
  refine congrArg (V m c main_arg3) (ix2_of _ _ _ ?_ ?_)
  · exact (Pipeline.Window.rect_emb_val win0_4 t (ix2 r j) 0).trans (congrArg (· + r.val) (off_row t).2.2.2.2.1.1)
  · exact (Pipeline.Window.rect_emb_val win0_4 t (ix2 r j) 1).trans (congrArg (· + j.val) (off_row t).2.2.2.2.1.2)

theorem blk5 (c : Dev nD) (t : Fin cfg0.N) : rw2 (iblk m c 5 t) = rw2 (V m c main_arg4) := by
  funext r j
  refine congrArg (V m c main_arg4) (ix2_of _ _ _ ?_ ?_)
  · exact (Pipeline.Window.rect_emb_val win0_5 t (ix2 r j) 0).trans ((congrArg (· + r.val) (off_whole t).1.1).trans (Nat.zero_add _))
  · exact (Pipeline.Window.rect_emb_val win0_5 t (ix2 r j) 1).trans ((congrArg (· + j.val) (off_whole t).1.2).trans (Nat.zero_add _))

theorem blk6 (c : Dev nD) (t : Fin cfg0.N) : rw2 (iblk m c 6 t) = rw2 (V m c main_arg8) := by
  funext r j
  refine congrArg (V m c main_arg8) (ix2_of _ _ _ ?_ ?_)
  · exact (Pipeline.Window.rect_emb_val win0_6 t (ix2 r j) 0).trans ((congrArg (· + r.val) (off_whole t).2.1.1).trans (Nat.zero_add _))
  · exact (Pipeline.Window.rect_emb_val win0_6 t (ix2 r j) 1).trans ((congrArg (· + j.val) (off_whole t).2.1.2).trans (Nat.zero_add _))

theorem blk7 (c : Dev nD) (t : Fin cfg0.N) : rw2 (iblk m c 7 t) = rw2 (V m c main_arg9) := by
  funext r j
  refine congrArg (V m c main_arg9) (ix2_of _ _ _ ?_ ?_)
  · exact (Pipeline.Window.rect_emb_val win0_7 t (ix2 r j) 0).trans ((congrArg (· + r.val) (off_whole t).2.2.1.1).trans (Nat.zero_add _))
  · exact (Pipeline.Window.rect_emb_val win0_7 t (ix2 r j) 1).trans ((congrArg (· + j.val) (off_whole t).2.2.1.2).trans (Nat.zero_add _))

theorem blk8 (c : Dev nD) (t : Fin cfg0.N) : rw2 (iblk m c 8 t) = rw2 (V m c main_arg10) := by
  funext r j
  refine congrArg (V m c main_arg10) (ix2_of _ _ _ ?_ ?_)
  · exact (Pipeline.Window.rect_emb_val win0_8 t (ix2 r j) 0).trans ((congrArg (· + r.val) (off_whole t).2.2.2.1).trans (Nat.zero_add _))
  · exact (Pipeline.Window.rect_emb_val win0_8 t (ix2 r j) 1).trans ((congrArg (· + j.val) (off_whole t).2.2.2.2).trans (Nat.zero_add _))

/-- Narrowing is the identity over the extended reals, so the staged projections are the arguments. -/
theorem staged5 (c : Dev nD) : rw2 (PA m c) = rw2 (V m c main_arg5) := rfl
theorem staged6 (c : Dev nD) : rw2 (PR m c) = rw2 (V m c main_arg6) := rfl
theorem staged7 (c : Dev nD) : rw2 (WO m c) = rw2 (V m c main_arg7) := rfl

theorem out_congr {x x' : Row.Vc 1024} {oa oa' : Row.Vc 512} {orr orr' g0 g0' g1 g1' b0 b0' b1 b1' w w' : Row.Vc 1024} {pa pa' : Row.Mx 512 1024}
    {pr pr' wo wo' : Row.Mx 1024 1024} {w1 w1' : Row.Mx 1024 4096} {w2 w2' : Row.Mx 4096 1024} (j : Fin 1024) (h0 : x = x') (h1 : oa = oa')
    (h2 : orr = orr') (h3 : g0 = g0') (h4 : g1 = g1') (h5 : b0 = b0') (h5' : b1 = b1') (h6 : w = w') (h7 : w1 = w1') (h8 : w2 = w2')
    (h9 : pa = pa') (h10 : pr = pr') (h11 : wo = wo') :
    Row.out (Row.mid x oa orr g0 g1 b0 b1 pa pr wo) w w1 w2 j = Row.out (Row.mid x' oa' orr' g0' g1' b0' b1' pa' pr' wo') w' w1' w2' j := by
  subst h0 h1 h2 h3 h4 h5 h5' h6 h7 h8 h9 h10 h11; rfl

theorem outAt_ix2 (c : Dev nD) (t : Fin cfg0.N) (r : Fin 512) (j : Fin 1024) : outAt m c t (ix2 r j) = G m c (ix2 (tok t r) j) := by
  unfold outAt
  refine (outV_apply _ _ _ _ _ _ _ _ _ _ _ _ r j).trans ?_
  exact out_congr j (blk0 m c t r) (blk1 m c t r) (blk2 m c t r) (blk3 m c t r) (blk4 m c t r) (congrFun (blk5 m c t) 0) (congrFun (blk5 m c t) 1)
    (congrFun (blk6 m c t) 0) (blk7 m c t) (blk8 m c t) (staged5 m c) (staged6 m c) (staged7 m c)

theorem outAt_apply (c : Dev nD) (t : Fin cfg0.N) (x : S512x1024.Idx) : outAt m c t x = G m c (ix2 (tok t (x 0)) (x 1)) :=
  (congrArg (outAt m c t) (ix2_of x (x 0) (x 1) rfl rfl)).trans (outAt_ix2 m c t (x 0) (x 1))

theorem emb9 (t : Fin cfg0.N) (x : S512x1024.Idx) : ((win0_9.rect t).emb x : S32768x1024.Idx) = ix2 (tok t (x 0)) (x 1) :=
  ix2_of _ _ _
    ((Pipeline.Window.rect_emb_val win0_9 t x 0).trans (congrArg (· + (x 0).val) (off_row t).2.2.2.2.2.1))
    ((Pipeline.Window.rect_emb_val win0_9 t x 1).trans ((congrArg (· + (x 1).val) (off_row t).2.2.2.2.2.2).trans (Nat.zero_add _)))

/-- Point `t` writes back its block of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after_9]
  funext x
  exact (outAt_apply m c t x).trans (congrArg (G m c) (emb9 t x)).symm

theorem mem_blk (t : Fin cfg0.N) (i : S32768x1024.Idx) (h : t.val = (i 0).val / 512) : i ∈ ((cfg0.win 9).blk t).view.set := by
  show i ∈ ((View.whole main_v0).slice (win0_9.rect t)).set
  rw [View.set_slice_whole, Pipeline.Window.mem_rect_iff win0_9 t i rfl]
  have h0 : (i 0 : Nat) < 32768 := (i 0).isLt
  have h1 : (i 1 : Nat) < 1024 := (i 1).isLt
  have o := (off_row t).2.2.2.2.2
  intro a
  match a with
  | ⟨0, _⟩ =>
    show win0_9.index t 0 * win0_9.size 0 ≤ (i 0 : Nat) ∧ (i 0 : Nat) < win0_9.index t 0 * win0_9.size 0 + 512
    rw [o.1]; omega
  | ⟨1, _⟩ =>
    show win0_9.index t 1 * win0_9.size 1 ≤ (i 1 : Nat) ∧ (i 1 : Nat) < win0_9.index t 1 * win0_9.size 1 + 1024
    rw [o.2]; omega

/-- The blocks fill the result array. -/
theorem cover (i : S32768x1024.Idx) : ∃ t : Fin cfg0.N, (cfg0.win 9).flush t = true ∧ i ∈ ((cfg0.win 9).blk t).view.set := by
  have h0 : (i 0 : Nat) < 32768 := (i 0).isLt
  have ht : (i 0 : Nat) / 512 < cfg0.N := lt_of_lt_of_eq (by omega) N_0.symm
  exact ⟨⟨(i 0 : Nat) / 512, ht⟩, flush0_9 _, mem_blk _ i rfl⟩

/-- So the result array ends at `G`, -/
theorem final9 (c : Dev nD) : (dats m 0 c).arrAt 9 cfg0.N = G m c :=
  (dats m 0 c).arrAt_eq_of_cover 9 (G m c) (fun t _ => flushed_eq m c t) cover

/-- and the run, read: the result at `G`, the arguments as they were. -/
theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1 c).1 9).trans (final9 m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 4).trans (((dats m 0 c).arrAt_in 4 rfl _).trans (A_eq m c 4)),
      ((h.1 c).1 5).trans (((dats m 0 c).arrAt_in 5 rfl _).trans (A_eq m c 5)),
      (h.1 c).2 main_arg5 (Pipeline.mem_restRefs_of main_arg5 (by decide) (by decide)),
      (h.1 c).2 main_arg6 (Pipeline.mem_restRefs_of main_arg6 (by decide) (by decide)),
      (h.1 c).2 main_arg7 (Pipeline.mem_restRefs_of main_arg7 (by decide) (by decide)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8))⟩) (run_main m ρ)

end Cert.KernelIdeal.Hand

end
-- ==== Proof.RefRow.lean ====
/- The reference read at an index, over the extended reals: one token's row. -/
module

public import proofs.«01_k».proof.Proof.Gen.ReferenceIdeal.Read
public import proofs.«01_k».proof.Proof.Row
public import Idealize.ShloMosaic.Lib.Pointwise

@[expose] public section

set_option maxRecDepth 16384

noncomputable section

namespace Cert.ReferenceIdeal.Hand

open Cert.ReferenceIdeal.Gen Cert.ReferenceIdeal.Read
open Idealize.ShloMosaic Idealize.ShloMosaic.TcCoe
open Cert.Row (rw2 ix2_of lo hi)
open scoped BigOperators

variable (x0 : FVec Ideal S32768x1024 .f32) (x1 : FVec Ideal S32768x512 .bf16) (x2 : FVec Ideal S32768x1024 .bf16)
  (x3 : FVec Ideal S32768x2048 .bf16) (x4 : FVec Ideal S2x1024 .f32) (x5 : FVec Ideal S512x1024 .f32) (x6 x7 : FVec Ideal S1024x1024 .f32)
  (x8 : FVec Ideal S1x1024 .f32) (x9 : FVec Ideal S1024x4096 .bf16) (x10 : FVec Ideal S4096x1024 .bf16)

/-- The first gate, -/
theorem gate0 (r : Fin 32768) (k : Fin 1024) : val_main_v13 (F := Ideal) x3 x4 (ix2 r k) = Ideal.logistic (x3 (ix2 r (lo k)) + x4 (ix2 0 k)) := by
  rw [val_main_v13_apply, val_main_v12_apply, val_main_v11_apply, val_main_v10_apply, val_main_v9_apply, val_main_v8_apply, val_main_v7_apply,
    val_main_v6_apply, val_main_v5_apply, val_main_v4_apply, val_main_v3_apply, val_main_v1_apply, val_main_v0_apply,
    val_main_cst_apply, val_main_cst_0_apply]
  simp only [Ideal.hostDivf_def, Ideal.addf_def, Ideal.hostUnary_exp_def, Ideal.hostNegf_def, Ideal.negf_def, Ideal.ofBits_def, Ideal.extf_def]
  rw [Ideal.ofBits_one_f32, ix2_of (idx_main_v1 (ix2 r k)) r (lo k) rfl rfl,
    ix2_of (idx_main_v3 (idx_main_v4 (idx_main_v5 (idx_main_v6 (ix2 r k))))) 0 k rfl (Nat.mod_eq_of_lt k.isLt)]
  rfl

/-- and the second. -/
theorem gate1 (r : Fin 32768) (k : Fin 1024) : val_main_v24 (F := Ideal) x3 x4 (ix2 r k) = Ideal.logistic (x3 (ix2 r (hi k)) + x4 (ix2 1 k)) := by
  rw [val_main_v24_apply, val_main_v23_apply, val_main_v22_apply, val_main_v21_apply, val_main_v20_apply, val_main_v19_apply, val_main_v18_apply,
    val_main_v17_apply, val_main_v16_apply, val_main_v15_apply, val_main_v14_apply, val_main_v2_apply, val_main_v0_apply,
    val_main_cst_1_apply, val_main_cst_2_apply]
  simp only [Ideal.hostDivf_def, Ideal.addf_def, Ideal.hostUnary_exp_def, Ideal.hostNegf_def, Ideal.negf_def, Ideal.ofBits_def, Ideal.extf_def]
  rw [Ideal.ofBits_one_f32, ix2_of (idx_main_v2 (ix2 r k)) r (hi k) rfl rfl,
    ix2_of (idx_main_v14 (idx_main_v15 (idx_main_v16 (idx_main_v17 (ix2 r k))))) 1 k rfl (Nat.mod_eq_of_lt k.isLt)]
  rfl

/-- The residual stream after the merge, -/
theorem mid_apply (r : Fin 32768) (j : Fin 1024) : val_main_v33 (F := Ideal) x0 x1 x2 x3 x4 x5 x6 x7 (ix2 r j)
    = Row.mid (rw2 x0 r) (rw2 x1 r) (rw2 x2 r) (fun k => x3 (ix2 r (lo k))) (fun k => x3 (ix2 r (hi k))) (rw2 x4 0) (rw2 x4 1)
        (rw2 x5) (rw2 x6) (rw2 x7) j := by
  rw [val_main_v33_apply, val_main_v32_apply]
  refine congrArg (x0 (ix2 r j) + ·) (Finset.sum_congr rfl fun k _ => ?_)
  rw [ix2_of (lidx_main_v32 (ix2 r j) k) r k rfl rfl, ix2_of (ridx_main_v32 (ix2 r j) k) k j rfl rfl]
  rw [val_main_v31_apply, val_main_v27_apply, val_main_v30_apply, gate0, gate1, val_main_v26_apply, val_main_v29_apply]
  refine congrArg (· * x7 (ix2 k j)) (congrArg₂ (· + ·) (congrArg (_ * ·) (Finset.sum_congr rfl fun i _ => ?_)) (congrArg (_ * ·) (Finset.sum_congr rfl fun i _ => ?_)))
  · rw [ix2_of (lidx_main_v26 (ix2 r k) i) r i rfl rfl, ix2_of (ridx_main_v26 (ix2 r k) i) i k rfl rfl]; rfl
  · rw [ix2_of (lidx_main_v29 (ix2 r k) i) r i rfl rfl, ix2_of (ridx_main_v29 (ix2 r k) i) i k rfl rfl]; rfl

/-- its norm, -/
theorem normed_apply (r : Fin 32768) (k : Fin 1024) : val_main_v45 (F := Ideal) x0 x1 x2 x3 x4 x5 x6 x7 x8 (ix2 r k)
    = Row.normed (rw2 (val_main_v33 (F := Ideal) x0 x1 x2 x3 x4 x5 x6 x7) r) (rw2 x8 0) k := by
  rw [val_main_v45_apply, val_main_v44_apply, val_main_v43_apply, val_main_v42_apply, val_main_v41_apply, val_main_v40_apply, val_main_v39_apply,
    val_main_v38_apply, val_main_v37_apply, val_main_v36_apply, val_main_v35_apply, val_main_cst_3_apply, val_main_cst_4_apply, val_main_cst_5_apply]
  simp only [val_main_v34_apply]
  generalize val_main_v33 (F := Ideal) x0 x1 x2 x3 x4 x5 x6 x7 = s
  have e : ∀ i : Fin 1024, idx_main_v35 (idx_main_v36 (idx_main_v42 (ix2 r k))) i = ix2 r i := fun i => ix2_of _ r i rfl rfl
  have e' : idx_main_v44 (ix2 r k) = ix2 0 k := ix2_of _ 0 k rfl rfl
  simp only [e, e', Ideal.hostDivf_def, Ideal.addf_def, Ideal.mulf_def, Ideal.hostUnary_rsqrt_def, Ideal.ofBits_def]
  rw [Ideal.ofBits_zero_f32, zero_add]
  rfl

/-- and the output. -/
theorem out_apply (r : Fin 32768) (j : Fin 1024) : val_main_v52 (F := Ideal) x0 x1 x2 x3 x4 x5 x6 x7 x8 x9 x10 (ix2 r j)
    = Row.out (Row.mid (rw2 x0 r) (rw2 x1 r) (rw2 x2 r) (fun k => x3 (ix2 r (lo k))) (fun k => x3 (ix2 r (hi k))) (rw2 x4 0) (rw2 x4 1)
        (rw2 x5) (rw2 x6) (rw2 x7)) (rw2 x8 0) (rw2 x9) (rw2 x10) j := by
  have hm : rw2 (val_main_v33 (F := Ideal) x0 x1 x2 x3 x4 x5 x6 x7) r
      = Row.mid (rw2 x0 r) (rw2 x1 r) (rw2 x2 r) (fun k => x3 (ix2 r (lo k))) (fun k => x3 (ix2 r (hi k))) (rw2 x4 0) (rw2 x4 1) (rw2 x5) (rw2 x6) (rw2 x7) := funext fun j => mid_apply x0 x1 x2 x3 x4 x5 x6 x7 r j
  rw [val_main_v52_apply, val_main_v51_apply, ← hm]
  refine congrArg (val_main_v33 (F := Ideal) x0 x1 x2 x3 x4 x5 x6 x7 (ix2 r j) + ·) (Finset.sum_congr rfl fun q _ => ?_)
  rw [ix2_of (lidx_main_v51 (ix2 r j) q) r q rfl rfl, ix2_of (ridx_main_v51 (ix2 r j) q) q j rfl rfl]
  rw [val_main_v49_apply, val_main_v48_apply, val_main_v47_apply, val_main_call0_v0_apply, val_main_call0_cst_apply, val_main_v50_apply]
  have e : ∀ k : Fin 1024, val_main_v45 (F := Ideal) x0 x1 x2 x3 x4 x5 x6 x7 x8 (lidx_main_v47 (ix2 r q) k) * val_main_v46 (F := Ideal) x9 (ridx_main_v47 (ix2 r q) k)
      = Row.normed (rw2 (val_main_v33 (F := Ideal) x0 x1 x2 x3 x4 x5 x6 x7) r) (rw2 x8 0) k * rw2 x9 k q := fun k => by
    rw [ix2_of (lidx_main_v47 (ix2 r q) k) r k rfl rfl, ix2_of (ridx_main_v47 (ix2 r q) k) k q rfl rfl, normed_apply]; rfl
  simp only [e, Ideal.mulf_def, Ideal.maximumf_def, Ideal.ofBits_def, Ideal.extf_def]
  rw [Ideal.ofBits_zero_f32]
  rfl

end Cert.ReferenceIdeal.Hand

end
-- ==== Proof.lean ====
/- The certificate: the five frames, and the kernel's result equal to the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Words.Frame
public import proofs.«01_k».proof.Proof.Attn.Words.Frame
public import proofs.«01_k».proof.Proof.Attn.Frame
public import proofs.«01_k».proof.Proof.Whole
public import proofs.«01_k».proof.Proof.RefRow
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- From memories that agree on the arguments, the reference's result is the kernel's array. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v52 m' c = Cert.KernelIdeal.Hand.G m c := by
  obtain ⟨e0, e1, e2, e3, e4, e5, e6, e7, e8, e9, e10⟩ := hag
  rw [Cert.ReferenceIdeal.Read.val_main_v52_eq, e0, e1, e2, e3, e4, e5, e6, e7, e8, e9, e10]
  funext i
  refine (congrArg _ (Cert.Row.ix2_of (a := 32768) (b := 1024) i (i 0) (i 1) rfl rfl)).trans ?_
  exact Cert.ReferenceIdeal.Hand.out_apply _ _ _ _ _ _ _ _ _ _ _ (i 0) (i 1)

theorem claim : Cert.Claim := ⟨Cert.Kernel.Gen.facts, Cert.KernelIdeal.Gen.facts, Cert.ReferenceIdeal.Gen.facts,
  Cert.Kernel2.Gen.facts, Cert.Kernel2Ideal.Gen.facts,
  fun m ρ _ => Cert.Kernel.Hand.frame m ρ,
  fun m ρ _ => Cert.KernelIdeal.Hand.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Cert.Kernel2.Attn.frame m ρ,
  fun m ρ _ => Cert.Kernel2Ideal.Attn.frame m ρ,
  trivial,
  fun m ρ m' ρ' _ hag => ⟨fun c => Cert.KernelIdeal.Hand.G m c, Cert.KernelIdeal.Hand.run_value m ρ,
    (θ_run Cert.ReferenceIdeal.defs _ _).mono (fun _ h c => ⟨(h c).1.trans (agree m m' c (hag c)), (h c).2⟩) (Cert.ReferenceIdeal.Value.run m' ρ')⟩,
  trivial⟩

end Cert.Proof

end
